-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_XQuant (m : (ℓ : Loc Cert.XQuant.nD Cert.XQuant.τ Cert.XQuant.sig) → Buf (Elt Bits) ℓ) : Prop :=
  True

def Pre_XQuantIdeal (m : (ℓ : Loc Cert.XQuantIdeal.nD Cert.XQuantIdeal.τ Cert.XQuantIdeal.sig) → Buf (Elt Ideal) ℓ) : Prop :=
  True

def Pre_XReferenceIdeal (m : (ℓ : Loc Cert.XReferenceIdeal.nD Cert.XReferenceIdeal.τ Cert.XReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_XQuant [hXQuant : Cert.XQuant.Facts] : Prop :=
  ∀ (m : (ℓ : Loc Cert.XQuant.nD Cert.XQuant.τ Cert.XQuant.sig) → Buf (Elt Bits) ℓ) (g : Dev Cert.XQuant.nD → PrngReg), Pre_XQuant m →
    θ_run (Cert.XQuant.defs (F := Bits)) (onTc (τ := Cert.XQuant.τ) (Cert.XQuant.main (F := Bits))) ⟨m, fun _ => 0, g⟩ (fun r => (∀ c : Dev Cert.XQuant.nD,
      r.2.mem ((c.tc : Thread Cert.XQuant.nD Cert.XQuant.τ).loc Cert.XQuant.main_arg0) = m ((c.tc : Thread Cert.XQuant.nD Cert.XQuant.τ).loc Cert.XQuant.main_arg0)
      ∧ r.2.mem ((c.tc : Thread Cert.XQuant.nD Cert.XQuant.τ).loc Cert.XQuant.main_arg1) = m ((c.tc : Thread Cert.XQuant.nD Cert.XQuant.τ).loc Cert.XQuant.main_arg1)
      ∧ r.2.mem ((c.tc : Thread Cert.XQuant.nD Cert.XQuant.τ).loc Cert.XQuant.main_arg2) = m ((c.tc : Thread Cert.XQuant.nD Cert.XQuant.τ).loc Cert.XQuant.main_arg2))
      ∧ r.2.sem = fun _ => 0)

def quiescent_XQuantIdeal [hXQuantIdeal : Cert.XQuantIdeal.Facts] : Prop :=
  ∀ (m : (ℓ : Loc Cert.XQuantIdeal.nD Cert.XQuantIdeal.τ Cert.XQuantIdeal.sig) → Buf (Elt Ideal) ℓ) (g : Dev Cert.XQuantIdeal.nD → PrngReg), Pre_XQuantIdeal m →
    θ_run (Cert.XQuantIdeal.defs (F := Ideal)) (onTc (τ := Cert.XQuantIdeal.τ) (Cert.XQuantIdeal.main (F := Ideal))) ⟨m, fun _ => 0, g⟩ (fun r => (∀ c : Dev Cert.XQuantIdeal.nD,
      r.2.mem ((c.tc : Thread Cert.XQuantIdeal.nD Cert.XQuantIdeal.τ).loc Cert.XQuantIdeal.main_arg0) = m ((c.tc : Thread Cert.XQuantIdeal.nD Cert.XQuantIdeal.τ).loc Cert.XQuantIdeal.main_arg0)
      ∧ r.2.mem ((c.tc : Thread Cert.XQuantIdeal.nD Cert.XQuantIdeal.τ).loc Cert.XQuantIdeal.main_arg1) = m ((c.tc : Thread Cert.XQuantIdeal.nD Cert.XQuantIdeal.τ).loc Cert.XQuantIdeal.main_arg1)
      ∧ r.2.mem ((c.tc : Thread Cert.XQuantIdeal.nD Cert.XQuantIdeal.τ).loc Cert.XQuantIdeal.main_arg2) = m ((c.tc : Thread Cert.XQuantIdeal.nD Cert.XQuantIdeal.τ).loc Cert.XQuantIdeal.main_arg2))
      ∧ r.2.sem = fun _ => 0)

def quiescent_XReferenceIdeal [hXReferenceIdeal : Cert.XReferenceIdeal.Facts] : Prop :=
  ∀ (m : (ℓ : Loc Cert.XReferenceIdeal.nD Cert.XReferenceIdeal.τ Cert.XReferenceIdeal.sig) → Buf (Elt Ideal) ℓ) (g : Dev Cert.XReferenceIdeal.nD → PrngReg), Pre_XReferenceIdeal m →
    θ_run (Cert.XReferenceIdeal.defs (F := Ideal)) (onTc (τ := Cert.XReferenceIdeal.τ) (Cert.XReferenceIdeal.main (F := Ideal))) ⟨m, fun _ => 0, g⟩ (fun r => (∀ c : Dev Cert.XReferenceIdeal.nD,
      r.2.mem ((c.tc : Thread Cert.XReferenceIdeal.nD Cert.XReferenceIdeal.τ).loc Cert.XReferenceIdeal.main_arg0) = m ((c.tc : Thread Cert.XReferenceIdeal.nD Cert.XReferenceIdeal.τ).loc Cert.XReferenceIdeal.main_arg0)
      ∧ r.2.mem ((c.tc : Thread Cert.XReferenceIdeal.nD Cert.XReferenceIdeal.τ).loc Cert.XReferenceIdeal.main_arg1) = m ((c.tc : Thread Cert.XReferenceIdeal.nD Cert.XReferenceIdeal.τ).loc Cert.XReferenceIdeal.main_arg1)
      ∧ r.2.mem ((c.tc : Thread Cert.XReferenceIdeal.nD Cert.XReferenceIdeal.τ).loc Cert.XReferenceIdeal.main_arg2) = m ((c.tc : Thread Cert.XReferenceIdeal.nD Cert.XReferenceIdeal.τ).loc Cert.XReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_1)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_XQuant_XQuantIdeal : Prop :=
  True

def algebraic_XQuantIdeal_XReferenceIdeal [hXQuantIdeal : Cert.XQuantIdeal.Facts] [hXReferenceIdeal : Cert.XReferenceIdeal.Facts] : Prop :=
  ∀ (m : (ℓ : Loc Cert.XQuantIdeal.nD Cert.XQuantIdeal.τ Cert.XQuantIdeal.sig) → Buf (Elt Ideal) ℓ) (g : Dev Cert.XQuantIdeal.nD → PrngReg)
    (m' : (ℓ : Loc Cert.XReferenceIdeal.nD Cert.XReferenceIdeal.τ Cert.XReferenceIdeal.sig) → Buf (Elt Ideal) ℓ) (g' : Dev Cert.XReferenceIdeal.nD → PrngReg), Pre_XQuantIdeal m →
    (∀ c : Dev Cert.XQuantIdeal.nD,
      m' ((c.tc : Thread Cert.XReferenceIdeal.nD Cert.XReferenceIdeal.τ).loc Cert.XReferenceIdeal.main_arg0) = m ((c.tc : Thread Cert.XQuantIdeal.nD Cert.XQuantIdeal.τ).loc Cert.XQuantIdeal.main_arg0)
      ∧ m' ((c.tc : Thread Cert.XReferenceIdeal.nD Cert.XReferenceIdeal.τ).loc Cert.XReferenceIdeal.main_arg1) = m ((c.tc : Thread Cert.XQuantIdeal.nD Cert.XQuantIdeal.τ).loc Cert.XQuantIdeal.main_arg1)
      ∧ m' ((c.tc : Thread Cert.XReferenceIdeal.nD Cert.XReferenceIdeal.τ).loc Cert.XReferenceIdeal.main_arg2) = m ((c.tc : Thread Cert.XQuantIdeal.nD Cert.XQuantIdeal.τ).loc Cert.XQuantIdeal.main_arg2)) →
    ∃ (v0 : (c : Dev Cert.XQuantIdeal.nD) → Buf (Elt Ideal) ((c.tc : Thread Cert.XQuantIdeal.nD Cert.XQuantIdeal.τ).loc Cert.XQuantIdeal.main_v4_2)),
      θ_run (Cert.XQuantIdeal.defs (F := Ideal)) (onTc (τ := Cert.XQuantIdeal.τ) (Cert.XQuantIdeal.main (F := Ideal))) ⟨m, fun _ => 0, g⟩ (fun r => ∀ c : Dev Cert.XQuantIdeal.nD,
          r.2.mem ((c.tc : Thread Cert.XQuantIdeal.nD Cert.XQuantIdeal.τ).loc Cert.XQuantIdeal.main_v4_2) = v0 c
          ∧ r.2.mem ((c.tc : Thread Cert.XQuantIdeal.nD Cert.XQuantIdeal.τ).loc Cert.XQuantIdeal.main_arg0) = m ((c.tc : Thread Cert.XQuantIdeal.nD Cert.XQuantIdeal.τ).loc Cert.XQuantIdeal.main_arg0)
          ∧ r.2.mem ((c.tc : Thread Cert.XQuantIdeal.nD Cert.XQuantIdeal.τ).loc Cert.XQuantIdeal.main_arg1) = m ((c.tc : Thread Cert.XQuantIdeal.nD Cert.XQuantIdeal.τ).loc Cert.XQuantIdeal.main_arg1)
          ∧ r.2.mem ((c.tc : Thread Cert.XQuantIdeal.nD Cert.XQuantIdeal.τ).loc Cert.XQuantIdeal.main_arg2) = m ((c.tc : Thread Cert.XQuantIdeal.nD Cert.XQuantIdeal.τ).loc Cert.XQuantIdeal.main_arg2))
      ∧ θ_run (Cert.XReferenceIdeal.defs (F := Ideal)) (onTc (τ := Cert.XReferenceIdeal.τ) (Cert.XReferenceIdeal.main (F := Ideal))) ⟨m', fun _ => 0, g'⟩ (fun r => ∀ c : Dev Cert.XReferenceIdeal.nD,
          r.2.mem ((c.tc : Thread Cert.XReferenceIdeal.nD Cert.XReferenceIdeal.τ).loc Cert.XReferenceIdeal.main_v38) = v0 c
          ∧ r.2.mem ((c.tc : Thread Cert.XReferenceIdeal.nD Cert.XReferenceIdeal.τ).loc Cert.XReferenceIdeal.main_arg0) = m' ((c.tc : Thread Cert.XReferenceIdeal.nD Cert.XReferenceIdeal.τ).loc Cert.XReferenceIdeal.main_arg0)
          ∧ r.2.mem ((c.tc : Thread Cert.XReferenceIdeal.nD Cert.XReferenceIdeal.τ).loc Cert.XReferenceIdeal.main_arg1) = m' ((c.tc : Thread Cert.XReferenceIdeal.nD Cert.XReferenceIdeal.τ).loc Cert.XReferenceIdeal.main_arg1)
          ∧ r.2.mem ((c.tc : Thread Cert.XReferenceIdeal.nD Cert.XReferenceIdeal.τ).loc Cert.XReferenceIdeal.main_arg2) = m' ((c.tc : Thread Cert.XReferenceIdeal.nD Cert.XReferenceIdeal.τ).loc Cert.XReferenceIdeal.main_arg2))

def Claim : Prop :=
  ∃ (hKernel : Cert.Kernel.Facts) (hKernelIdeal : Cert.KernelIdeal.Facts) (hReferenceIdeal : Cert.ReferenceIdeal.Facts) (hXQuant : Cert.XQuant.Facts) (hXQuantIdeal : Cert.XQuantIdeal.Facts) (hXReferenceIdeal : Cert.XReferenceIdeal.Facts),
    quiescent_Kernel (hKernel := hKernel)
    ∧ quiescent_KernelIdeal (hKernelIdeal := hKernelIdeal)
    ∧ quiescent_ReferenceIdeal (hReferenceIdeal := hReferenceIdeal)
    ∧ quiescent_XQuant (hXQuant := hXQuant)
    ∧ quiescent_XQuantIdeal (hXQuantIdeal := hXQuantIdeal)
    ∧ quiescent_XReferenceIdeal (hXReferenceIdeal := hXReferenceIdeal)
    ∧ preserves_Kernel_KernelIdeal
    ∧ algebraic_KernelIdeal_ReferenceIdeal (hKernelIdeal := hKernelIdeal) (hReferenceIdeal := hReferenceIdeal)
    ∧ preserves_XQuant_XQuantIdeal
    ∧ algebraic_XQuantIdeal_XReferenceIdeal (hXQuantIdeal := hXQuantIdeal) (hXReferenceIdeal := hXReferenceIdeal)
-- ==== Kernel.lean ====
abbrev S2048x3456 : Shape := ⟨2, ![2048, 3456]⟩
abbrev S2560x3456 : Shape := ⟨2, ![2560, 3456]⟩
abbrev S1024x6912 : Shape := ⟨2, ![1024, 6912]⟩
abbrev S2560x2048 : Shape := ⟨2, ![2560, 2048]⟩
abbrev S2560x6912 : Shape := ⟨2, ![2560, 6912]⟩
abbrev S2048x2560 : Shape := ⟨2, ![2048, 2560]⟩
abbrev S2048x128 : Shape := ⟨2, ![2048, 128]⟩
abbrev S2560x128 : Shape := ⟨2, ![2560, 128]⟩
abbrev S1024x256 : Shape := ⟨2, ![1024, 256]⟩
abbrev S2560x256 : Shape := ⟨2, ![2560, 256]⟩
abbrev S2048x256 : Shape := ⟨2, ![2048, 256]⟩
abbrev S2x256x2560 : Shape := ⟨3, ![2, 256, 2560]⟩
abbrev S2 : Shape := ⟨1, ![2]⟩
abbrev S256x2560 : Shape := ⟨2, ![256, 2560]⟩
abbrev S256x128 : Shape := ⟨2, ![256, 128]⟩
abbrev S320x128 : Shape := ⟨2, ![320, 128]⟩
abbrev S32x256 : Shape := ⟨2, ![32, 256]⟩
abbrev S256x256 : Shape := ⟨2, ![256, 256]⟩
abbrev S320x2048 : Shape := ⟨2, ![320, 2048]⟩
abbrev S320x256 : Shape := ⟨2, ![320, 256]⟩
abbrev S1 : Shape := ⟨1, ![1]⟩
abbrev S_ : Shape := ⟨0, ![]⟩
abbrev S1x256x2560 : Shape := ⟨3, ![1, 256, 2560]⟩

abbrev nBuf : Space → Nat
  | .hbm => 9
  | .vmem => 23
  | .smem => 0
  | _ => 0

abbrev bufTy : (tb : Table) → Fin (tcTables nBuf tb) → BufTy
  | .hbm, ⟨0, _⟩ => ⟨S2048x3456, .bf16⟩
  | .hbm, ⟨1, _⟩ => ⟨S2048x3456, .bf16⟩
  | .hbm, ⟨2, _⟩ => ⟨S2560x3456, .bf16⟩
  | .hbm, ⟨3, _⟩ => ⟨S2560x3456, .bf16⟩
  | .hbm, ⟨4, _⟩ => ⟨S1024x6912, .bf16⟩
  | .hbm, ⟨5, _⟩ => ⟨S1024x6912, .bf16⟩
  | .hbm, ⟨6, _⟩ => ⟨S2560x2048, .bf16⟩
  | .hbm, ⟨7, _⟩ => ⟨S2560x6912, .f32⟩
  | .hbm, ⟨8, _⟩ => ⟨S2048x2560, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2560x128, .bf16⟩
  | .local _ .vmem, ⟨5, _⟩ => ⟨S2560x128, .bf16⟩
  | .local _ .vmem, ⟨6, _⟩ => ⟨S2560x128, .bf16⟩
  | .local _ .vmem, ⟨7, _⟩ => ⟨S2560x128, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S2560x2048, .bf16⟩
  | .local _ .vmem, ⟨13, _⟩ => ⟨S2560x256, .f32⟩
  | .local _ .vmem, ⟨14, _⟩ => ⟨S2560x256, .f32⟩
  | .local _ .vmem, ⟨15, _⟩ => ⟨S2048x2560, .f32⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2560x256, .bf16⟩
  | .local _ .vmem, ⟨21, _⟩ => ⟨S2560x256, .bf16⟩
  | .local _ .vmem, ⟨22, _⟩ => ⟨S2x256x2560, .bf16⟩
  | _, _ => ⟨S2048x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![28], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_20 : BitVec 32 := 0#32
  let c8_i32 : BitVec 32 := 8#32
  let v40 : BitVec 32 := Scalar.addi c0_i32_20 c8_i32
  let c1_i32_21 : BitVec 32 := 1#32
  ⟨c0_i32_20, v40, c1_i32_21⟩
def k0_mult1 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c256_i32 : BitVec 32 := 256#32
  let v41 : BitVec 32 := Scalar.muli arg19 c256_i32
  v41
def k0_off1 (k0_t1 : Fin k0_t1_loop.trips) : Fin 2 → Nat :=
  let c0_i32_20 : BitVec 32 := 0#32
  let c1_i32_21 : BitVec 32 := 1#32
  let arg19 : BitVec 32 := Scf.iv c0_i32_20 c1_i32_21 k0_t1
  let c256_i32 : BitVec 32 := 256#32
  let v41 : BitVec 32 := Scalar.muli arg19 c256_i32
  let v42 : BitVec 32 := v41
  let v44 : Index := Scalar.indexCast v42
  let c0 : Index := 0#32
  ![v44.toNat, 0]
def k0_mult2 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c256_i32_23 : BitVec 32 := 256#32
  let v48 : BitVec 32 := Scalar.muli arg19 c256_i32_23
  v48
def k0_off2 (k0_t1 : Fin k0_t1_loop.trips) : Fin 2 → Nat :=
  let c0_i32_20 : BitVec 32 := 0#32
  let c1_i32_21 : BitVec 32 := 1#32
  let arg19 : BitVec 32 := Scf.iv c0_i32_20 c1_i32_21 k0_t1
  let c256_i32_23 : BitVec 32 := 256#32
  let v48 : BitVec 32 := Scalar.muli arg19 c256_i32_23
  let v49 : BitVec 32 := v48
  let v50 : Index := Scalar.indexCast v49
  let c0_24 : Index := 0#32
  ![v50.toNat, 0]
def k0_off3 (k0_t1 : Fin k0_t1_loop.trips) : Fin 2 → Nat :=
  let c0_i32_20 : BitVec 32 := 0#32
  let c1_i32_21 : BitVec 32 := 1#32
  let arg19 : BitVec 32 := Scf.iv c0_i32_20 c1_i32_21 k0_t1
  let c256_i32_23 : BitVec 32 := 256#32
  let v48 : BitVec 32 := Scalar.muli arg19 c256_i32_23
  let v49 : BitVec 32 := v48
  let v52 : Index := Scalar.indexCast v49
  let c0_25 : Index := 0#32
  ![v52.toNat, 0]
def k0_off4 (k0_t1 : Fin k0_t1_loop.trips) : Fin 2 → Nat :=
  let c0_i32_20 : BitVec 32 := 0#32
  let c1_i32_21 : BitVec 32 := 1#32
  let arg19 : BitVec 32 := Scf.iv c0_i32_20 c1_i32_21 k0_t1
  let c256_i32_23 : BitVec 32 := 256#32
  let v48 : BitVec 32 := Scalar.muli arg19 c256_i32_23
  let v49 : BitVec 32 := v48
  let v58 : Index := Scalar.indexCast v49
  let c128 : Index := 128#32
  ![v58.toNat, 128]
def k0_mult3 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c320_i32 : BitVec 32 := 320#32
  let v62 : BitVec 32 := Scalar.muli arg19 c320_i32
  v62
def k0_off5 (k0_t1 : Fin k0_t1_loop.trips) : Fin 2 → Nat :=
  let c0_i32_20 : BitVec 32 := 0#32
  let c1_i32_21 : BitVec 32 := 1#32
  let arg19 : BitVec 32 := Scf.iv c0_i32_20 c1_i32_21 k0_t1
  let c320_i32 : BitVec 32 := 320#32
  let v62 : BitVec 32 := Scalar.muli arg19 c320_i32
  let v63 : BitVec 32 := v62
  let v64 : Index := Scalar.indexCast v63
  let c0_27 : Index := 0#32
  ![v64.toNat, 0]
def k0_off6 (k0_t1 : Fin k0_t1_loop.trips) : Fin 2 → Nat :=
  let c0_i32_20 : BitVec 32 := 0#32
  let c1_i32_21 : BitVec 32 := 1#32
  let arg19 : BitVec 32 := Scf.iv c0_i32_20 c1_i32_21 k0_t1
  let c320_i32 : BitVec 32 := 320#32
  let v62 : BitVec 32 := Scalar.muli arg19 c320_i32
  let v63 : BitVec 32 := v62
  let v66 : Index := Scalar.indexCast v63
  let c0_28 : Index := 0#32
  ![v66.toNat, 0]
def k0_off7 (k0_t1 : Fin k0_t1_loop.trips) : Fin 2 → Nat :=
  let c0_i32_20 : BitVec 32 := 0#32
  let c1_i32_21 : BitVec 32 := 1#32
  let arg19 : BitVec 32 := Scf.iv c0_i32_20 c1_i32_21 k0_t1
  let c320_i32 : BitVec 32 := 320#32
  let v62 : BitVec 32 := Scalar.muli arg19 c320_i32
  let v63 : BitVec 32 := v62
  let v72 : Index := Scalar.indexCast v63
  let c128_30 : Index := 128#32
  ![v72.toNat, 128]
def k0_mult4 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c128_i32 : BitVec 32 := 128#32
  let v76 : BitVec 32 := Scalar.muli arg19 c128_i32
  let c0_i32_31 : BitVec 32 := 0#32
  let v77 : BitVec 32 := Scalar.addi v76 c0_i32_31
  v77
def k0_off8 (k0_t1 : Fin k0_t1_loop.trips) (c0_i32_31 : BitVec 32) : Fin 2 → Nat :=
  let c0_i32_20 : BitVec 32 := 0#32
  let c1_i32_21 : BitVec 32 := 1#32
  let arg19 : BitVec 32 := Scf.iv c0_i32_20 c1_i32_21 k0_t1
  let c128_i32 : BitVec 32 := 128#32
  let v76 : BitVec 32 := Scalar.muli arg19 c128_i32
  let v77 : BitVec 32 := Scalar.addi v76 c0_i32_31
  let v78 : BitVec 32 := v77
  let v79 : Index := Scalar.indexCast v78
  let c0_32 : Index := 0#32
  ![v79.toNat, 0]
def k0_mult5 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c256_i32_33 : BitVec 32 := 256#32
  let v81 : BitVec 32 := Scalar.muli arg19 c256_i32_33
  let c0_i32_34 : BitVec 32 := 0#32
  let v82 : BitVec 32 := Scalar.addi v81 c0_i32_34
  v82
def k0_off9 (k0_t1 : Fin k0_t1_loop.trips) (c0_i32_34 : BitVec 32) : Fin 2 → Nat :=
  let c0_i32_20 : BitVec 32 := 0#32
  let c1_i32_21 : BitVec 32 := 1#32
  let arg19 : BitVec 32 := Scf.iv c0_i32_20 c1_i32_21 k0_t1
  let c256_i32_33 : BitVec 32 := 256#32
  let v81 : BitVec 32 := Scalar.muli arg19 c256_i32_33
  let v82 : BitVec 32 := Scalar.addi v81 c0_i32_34
  let v83 : BitVec 32 := v82
  let v84 : Index := Scalar.indexCast v83
  let c0_35 : Index := 0#32
  ![v84.toNat, 0]
def k0_mult6 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c128_i32_36 : BitVec 32 := 128#32
  let v88 : BitVec 32 := Scalar.muli arg19 c128_i32_36
  let c0_i32_37 : BitVec 32 := 0#32
  let v89 : BitVec 32 := Scalar.addi v88 c0_i32_37
  v89
def k0_mult7 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c256_i32_39 : BitVec 32 := 256#32
  let v93 : BitVec 32 := Scalar.muli arg19 c256_i32_39
  let c32_i32 : BitVec 32 := 32#32
  let v94 : BitVec 32 := Scalar.addi v93 c32_i32
  v94
def k0_mult8 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c128_i32_41 : BitVec 32 := 128#32
  let v100 : BitVec 32 := Scalar.muli arg19 c128_i32_41
  let c32_i32_42 : BitVec 32 := 32#32
  let v101 : BitVec 32 := Scalar.addi v100 c32_i32_42
  v101
def k0_mult9 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c256_i32_44 : BitVec 32 := 256#32
  let v105 : BitVec 32 := Scalar.muli arg19 c256_i32_44
  let c64_i32 : BitVec 32 := 64#32
  let v106 : BitVec 32 := Scalar.addi v105 c64_i32
  v106
def k0_mult10 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c128_i32_46 : BitVec 32 := 128#32
  let v112 : BitVec 32 := Scalar.muli arg19 c128_i32_46
  let c32_i32_47 : BitVec 32 := 32#32
  let v113 : BitVec 32 := Scalar.addi v112 c32_i32_47
  v113
def k0_mult11 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c256_i32_49 : BitVec 32 := 256#32
  let v117 : BitVec 32 := Scalar.muli arg19 c256_i32_49
  let c96_i32 : BitVec 32 := 96#32
  let v118 : BitVec 32 := Scalar.addi v117 c96_i32
  v118
def k0_mult12 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c128_i32_51 : BitVec 32 := 128#32
  let v124 : BitVec 32 := Scalar.muli arg19 c128_i32_51
  let c64_i32_52 : BitVec 32 := 64#32
  let v125 : BitVec 32 := Scalar.addi v124 c64_i32_52
  v125
def k0_mult13 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c256_i32_54 : BitVec 32 := 256#32
  let v129 : BitVec 32 := Scalar.muli arg19 c256_i32_54
  let c128_i32_55 : BitVec 32 := 128#32
  let v130 : BitVec 32 := Scalar.addi v129 c128_i32_55
  v130
def k0_mult14 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c128_i32_57 : BitVec 32 := 128#32
  let v136 : BitVec 32 := Scalar.muli arg19 c128_i32_57
  let c64_i32_58 : BitVec 32 := 64#32
  let v137 : BitVec 32 := Scalar.addi v136 c64_i32_58
  v137
def k0_mult15 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c256_i32_60 : BitVec 32 := 256#32
  let v141 : BitVec 32 := Scalar.muli arg19 c256_i32_60
  let c160_i32 : BitVec 32 := 160#32
  let v142 : BitVec 32 := Scalar.addi v141 c160_i32
  v142
def k0_mult16 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c128_i32_62 : BitVec 32 := 128#32
  let v148 : BitVec 32 := Scalar.muli arg19 c128_i32_62
  let c96_i32_63 : BitVec 32 := 96#32
  let v149 : BitVec 32 := Scalar.addi v148 c96_i32_63
  v149
def k0_mult17 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c256_i32_65 : BitVec 32 := 256#32
  let v153 : BitVec 32 := Scalar.muli arg19 c256_i32_65
  let c192_i32 : BitVec 32 := 192#32
  let v154 : BitVec 32 := Scalar.addi v153 c192_i32
  v154
def k0_mult18 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c128_i32_67 : BitVec 32 := 128#32
  let v160 : BitVec 32 := Scalar.muli arg19 c128_i32_67
  let c96_i32_68 : BitVec 32 := 96#32
  let v161 : BitVec 32 := Scalar.addi v160 c96_i32_68
  v161
def k0_mult19 (k0_t1 : Fin k0_t1_loop.trips) : BitVec 32 :=
  let c0_i32_20 : BitVec 32 := 0#32
  let c1_i32_21 : BitVec 32 := 1#32
  let arg19 : BitVec 32 := Scf.iv c0_i32_20 c1_i32_21 k0_t1
  let c256_i32_70 : BitVec 32 := 256#32
  let v165 : BitVec 32 := Scalar.muli arg19 c256_i32_70
  let c224_i32 : BitVec 32 := 224#32
  let v166 : BitVec 32 := Scalar.addi v165 c224_i32
  v166
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c27_i32 : BitVec 32 := 27#32
  let v4 : BitVec 1 := Scalar.cmpi .slt arg0 c27_i32
  let v5 : BitVec 1 := Scalar.andi v3 v4
  let c2_i32 : BitVec 32 := 2#32
  let c0_i32_2 : BitVec 32 := 0#32
  let v6 : BitVec 1 := Scalar.cmpi .eq c2_i32 c0_i32_2
  let c1_i32 : BitVec 32 := 1#32
  let v7 : BitVec 32 := Scalar.select v6 c1_i32 c2_i32
  let v8 : BitVec 32 := Scalar.remsi arg0 v7
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let c0_i32_3 : BitVec 32 := 0#32
  let v9 : BitVec 1 := Scalar.cmpi .ne v8 c0_i32_3
  let v13 : BitVec 1 := Scalar.andi v12 v9
  let v14 : BitVec 32 := Scalar.addi v8 v7
  let v15 : BitVec 32 := Scalar.select v13 v14 v8
  let c1_i32_6 : BitVec 32 := 1#32
  let v16 : BitVec 1 := Scalar.cmpi .eq v15 c1_i32_6
  let v17 : BitVec 1 := Scalar.andi v5 v16
  let v18 : BitVec 32 := Scalar.extui v17
  let c0_i32_7 : BitVec 32 := 0#32
  let v19 : BitVec 1 := Scalar.cmpi .ne v18 c0_i32_7
  v19

@[reducible] def k0_t2_loop : Scf.Loop 32 :=
  let c0_i32_20 : BitVec 32 := 0#32
  let c8_i32 : BitVec 32 := 8#32
  let v40 : BitVec 32 := Scalar.addi c0_i32_20 c8_i32
  let c1_i32_21 : BitVec 32 := 1#32
  ⟨c0_i32_20, v40, c1_i32_21⟩
def k0_mult20 (k0_t2 : Fin k0_t2_loop.trips) : BitVec 32 :=
  let c0_i32_20 : BitVec 32 := 0#32
  let c1_i32_21 : BitVec 32 := 1#32
  let arg19 : BitVec 32 := Scf.iv c0_i32_20 c1_i32_21 k0_t2
  let c256_i32 : BitVec 32 := 256#32
  let v41 : BitVec 32 := Scalar.muli arg19 c256_i32
  v41
def k0_off10 (k0_t2 : Fin k0_t2_loop.trips) : Fin 2 → Nat :=
  let c0_i32_20 : BitVec 32 := 0#32
  let c1_i32_21 : BitVec 32 := 1#32
  let arg19 : BitVec 32 := Scf.iv c0_i32_20 c1_i32_21 k0_t2
  let c256_i32 : BitVec 32 := 256#32
  let v41 : BitVec 32 := Scalar.muli arg19 c256_i32
  let v42 : BitVec 32 := v41
  let v43 : Index := Scalar.indexCast v42
  let c0 : Index := 0#32
  ![v43.toNat, 0]
def k0_off11 (k0_t2 : Fin k0_t2_loop.trips) : Fin 2 → Nat :=
  let c0_i32_20 : BitVec 32 := 0#32
  let c1_i32_21 : BitVec 32 := 1#32
  let arg19 : BitVec 32 := Scf.iv c0_i32_20 c1_i32_21 k0_t2
  let c256_i32 : BitVec 32 := 256#32
  let v41 : BitVec 32 := Scalar.muli arg19 c256_i32
  let v42 : BitVec 32 := v41
  let v47 : Index := Scalar.indexCast v42
  let c0_25 : Index := 0#32
  ![v47.toNat, 0]
def k0_mult21 (k0_t2 : Fin k0_t2_loop.trips) : BitVec 32 :=
  let c0_i32_20 : BitVec 32 := 0#32
  let c1_i32_21 : BitVec 32 := 1#32
  let arg19 : BitVec 32 := Scf.iv c0_i32_20 c1_i32_21 k0_t2
  let c320_i32 : BitVec 32 := 320#32
  let v54 : BitVec 32 := Scalar.muli arg19 c320_i32
  v54
def k0_off12 (k0_t2 : Fin k0_t2_loop.trips) : Fin 2 → Nat :=
  let c0_i32_20 : BitVec 32 := 0#32
  let c1_i32_21 : BitVec 32 := 1#32
  let arg19 : BitVec 32 := Scf.iv c0_i32_20 c1_i32_21 k0_t2
  let c320_i32 : BitVec 32 := 320#32
  let v54 : BitVec 32 := Scalar.muli arg19 c320_i32
  let v55 : BitVec 32 := v54
  let v56 : Index := Scalar.indexCast v55
  let c0_27 : Index := 0#32
  ![v56.toNat, 0]
def k0_off13 (k0_t2 : Fin k0_t2_loop.trips) : Fin 2 → Nat :=
  let c0_i32_20 : BitVec 32 := 0#32
  let c1_i32_21 : BitVec 32 := 1#32
  let arg19 : BitVec 32 := Scf.iv c0_i32_20 c1_i32_21 k0_t2
  let c320_i32 : BitVec 32 := 320#32
  let v54 : BitVec 32 := Scalar.muli arg19 c320_i32
  let v55 : BitVec 32 := v54
  let v62 : Index := Scalar.indexCast v55
  let c0_32 : Index := 0#32
  ![v62.toNat, 0]
def k0_mult22 (k0_t2 : Fin k0_t2_loop.trips) : BitVec 32 :=
  let c0_i32_20 : BitVec 32 := 0#32
  let c1_i32_21 : BitVec 32 := 1#32
  let arg19 : BitVec 32 := Scf.iv c0_i32_20 c1_i32_21 k0_t2
  let c256_i32_33 : BitVec 32 := 256#32
  let v64 : BitVec 32 := Scalar.muli arg19 c256_i32_33
  v64
def k0_off14 (k0_t2 : Fin k0_t2_loop.trips) : Fin 2 → Nat :=
  let c0_i32_20 : BitVec 32 := 0#32
  let c1_i32_21 : BitVec 32 := 1#32
  let arg19 : BitVec 32 := Scf.iv c0_i32_20 c1_i32_21 k0_t2
  let c256_i32_33 : BitVec 32 := 256#32
  let v64 : BitVec 32 := Scalar.muli arg19 c256_i32_33
  let v65 : BitVec 32 := v64
  let v66 : Index := Scalar.indexCast v65
  let c0_34 : Index := 0#32
  ![v66.toNat, 0]
def k0_off15 (k0_t2 : Fin k0_t2_loop.trips) : Fin 2 → Nat :=
  let c0_i32_20 : BitVec 32 := 0#32
  let c1_i32_21 : BitVec 32 := 1#32
  let arg19 : BitVec 32 := Scf.iv c0_i32_20 c1_i32_21 k0_t2
  let c256_i32_33 : BitVec 32 := 256#32
  let v64 : BitVec 32 := Scalar.muli arg19 c256_i32_33
  let v65 : BitVec 32 := v64
  let v68 : Index := Scalar.indexCast v65
  let c0_35 : Index := 0#32
  ![v68.toNat, 0]
def k0_off16 (k0_t2 : Fin k0_t2_loop.trips) : Fin 2 → Nat :=
  let c0_i32_20 : BitVec 32 := 0#32
  let c1_i32_21 : BitVec 32 := 1#32
  let arg19 : BitVec 32 := Scf.iv c0_i32_20 c1_i32_21 k0_t2
  let c256_i32_33 : BitVec 32 := 256#32
  let v64 : BitVec 32 := Scalar.muli arg19 c256_i32_33
  let v65 : BitVec 32 := v64
  let v74 : Index := Scalar.indexCast v65
  let c128 : Index := 128#32
  ![v74.toNat, 128]
def k0_mult23 (k0_t2 : Fin k0_t2_loop.trips) : BitVec 32 :=
  let c0_i32_20 : BitVec 32 := 0#32
  let c1_i32_21 : BitVec 32 := 1#32
  let arg19 : BitVec 32 := Scf.iv c0_i32_20 c1_i32_21 k0_t2
  let c320_i32_37 : BitVec 32 := 320#32
  let v78 : BitVec 32 := Scalar.muli arg19 c320_i32_37
  v78
def k0_off17 (k0_t2 : Fin k0_t2_loop.trips) : Fin 2 → Nat :=
  let c0_i32_20 : BitVec 32 := 0#32
  let c1_i32_21 : BitVec 32 := 1#32
  let arg19 : BitVec 32 := Scf.iv c0_i32_20 c1_i32_21 k0_t2
  let c320_i32_37 : BitVec 32 := 320#32
  let v78 : BitVec 32 := Scalar.muli arg19 c320_i32_37
  let v79 : BitVec 32 := v78
  let v80 : Index := Scalar.indexCast v79
  let c0_38 : Index := 0#32
  ![v80.toNat, 0]
def k0_off18 (k0_t2 : Fin k0_t2_loop.trips) : Fin 2 → Nat :=
  let c0_i32_20 : BitVec 32 := 0#32
  let c1_i32_21 : BitVec 32 := 1#32
  let arg19 : BitVec 32 := Scf.iv c0_i32_20 c1_i32_21 k0_t2
  let c320_i32_37 : BitVec 32 := 320#32
  let v78 : BitVec 32 := Scalar.muli arg19 c320_i32_37
  let v79 : BitVec 32 := v78
  let v82 : Index := Scalar.indexCast v79
  let c0_39 : Index := 0#32
  ![v82.toNat, 0]
def k0_off19 (k0_t2 : Fin k0_t2_loop.trips) : Fin 2 → Nat :=
  let c0_i32_20 : BitVec 32 := 0#32
  let c1_i32_21 : BitVec 32 := 1#32
  let arg19 : BitVec 32 := Scf.iv c0_i32_20 c1_i32_21 k0_t2
  let c320_i32_37 : BitVec 32 := 320#32
  let v78 : BitVec 32 := Scalar.muli arg19 c320_i32_37
  let v79 : BitVec 32 := v78
  let v88 : Index := Scalar.indexCast v79
  let c128_41 : Index := 128#32
  ![v88.toNat, 128]
def k0_mult24 (k0_t2 : Fin k0_t2_loop.trips) : BitVec 32 :=
  let c0_i32_20 : BitVec 32 := 0#32
  let c1_i32_21 : BitVec 32 := 1#32
  let arg19 : BitVec 32 := Scf.iv c0_i32_20 c1_i32_21 k0_t2
  let c128_i32 : BitVec 32 := 128#32
  let v92 : BitVec 32 := Scalar.muli arg19 c128_i32
  let c0_i32_42 : BitVec 32 := 0#32
  let v93 : BitVec 32 := Scalar.addi v92 c0_i32_42
  v93
def k0_off20 (k0_t2 : Fin k0_t2_loop.trips) (c0_i32_42 : BitVec 32) : Fin 2 → Nat :=
  let c0_i32_20 : BitVec 32 := 0#32
  let c1_i32_21 : BitVec 32 := 1#32
  let arg19 : BitVec 32 := Scf.iv c0_i32_20 c1_i32_21 k0_t2
  let c128_i32 : BitVec 32 := 128#32
  let v92 : BitVec 32 := Scalar.muli arg19 c128_i32
  let v93 : BitVec 32 := Scalar.addi v92 c0_i32_42
  let v94 : BitVec 32 := v93
  let v95 : Index := Scalar.indexCast v94
  let c0_43 : Index := 0#32
  ![v95.toNat, 0]
def k0_mult25 (k0_t2 : Fin k0_t2_loop.trips) : BitVec 32 :=
  let c0_i32_20 : BitVec 32 := 0#32
  let c1_i32_21 : BitVec 32 := 1#32
  let arg19 : BitVec 32 := Scf.iv c0_i32_20 c1_i32_21 k0_t2
  let c256_i32_44 : BitVec 32 := 256#32
  let v97 : BitVec 32 := Scalar.muli arg19 c256_i32_44
  let c0_i32_45 : BitVec 32 := 0#32
  let v98 : BitVec 32 := Scalar.addi v97 c0_i32_45
  v98
def k0_off21 (k0_t2 : Fin k0_t2_loop.trips) (c0_i32_45 : BitVec 32) : Fin 2 → Nat :=
  let c0_i32_20 : BitVec 32 := 0#32
  let c1_i32_21 : BitVec 32 := 1#32
  let arg19 : BitVec 32 := Scf.iv c0_i32_20 c1_i32_21 k0_t2
  let c256_i32_44 : BitVec 32 := 256#32
  let v97 : BitVec 32 := Scalar.muli arg19 c256_i32_44
  let v98 : BitVec 32 := Scalar.addi v97 c0_i32_45
  let v99 : BitVec 32 := v98
  let v100 : Index := Scalar.indexCast v99
  let c0_46 : Index := 0#32
  ![v100.toNat, 0]
def k0_mult26 (k0_t2 : Fin k0_t2_loop.trips) : BitVec 32 :=
  let c0_i32_20 : BitVec 32 := 0#32
  let c1_i32_21 : BitVec 32 := 1#32
  let arg19 : BitVec 32 := Scf.iv c0_i32_20 c1_i32_21 k0_t2
  let c128_i32_47 : BitVec 32 := 128#32
  let v104 : BitVec 32 := Scalar.muli arg19 c128_i32_47
  let c0_i32_48 : BitVec 32 := 0#32
  let v105 : BitVec 32 := Scalar.addi v104 c0_i32_48
  v105
def k0_mult27 (k0_t2 : Fin k0_t2_loop.trips) : BitVec 32 :=
  let c0_i32_20 : BitVec 32 := 0#32
  let c1_i32_21 : BitVec 32 := 1#32
  let arg19 : BitVec 32 := Scf.iv c0_i32_20 c1_i32_21 k0_t2
  let c256_i32_50 : BitVec 32 := 256#32
  let v109 : BitVec 32 := Scalar.muli arg19 c256_i32_50
  let c32_i32 : BitVec 32 := 32#32
  let v110 : BitVec 32 := Scalar.addi v109 c32_i32
  v110
def k0_mult28 (k0_t2 : Fin k0_t2_loop.trips) : BitVec 32 :=
  let c0_i32_20 : BitVec 32 := 0#32
  let c1_i32_21 : BitVec 32 := 1#32
  let arg19 : BitVec 32 := Scf.iv c0_i32_20 c1_i32_21 k0_t2
  let c128_i32_52 : BitVec 32 := 128#32
  let v116 : BitVec 32 := Scalar.muli arg19 c128_i32_52
  let c32_i32_53 : BitVec 32 := 32#32
  let v117 : BitVec 32 := Scalar.addi v116 c32_i32_53
  v117
def k0_mult29 (k0_t2 : Fin k0_t2_loop.trips) : BitVec 32 :=
  let c0_i32_20 : BitVec 32 := 0#32
  let c1_i32_21 : BitVec 32 := 1#32
  let arg19 : BitVec 32 := Scf.iv c0_i32_20 c1_i32_21 k0_t2
  let c256_i32_55 : BitVec 32 := 256#32
  let v121 : BitVec 32 := Scalar.muli arg19 c256_i32_55
  let c64_i32 : BitVec 32 := 64#32
  let v122 : BitVec 32 := Scalar.addi v121 c64_i32
  v122
def k0_mult30 (k0_t2 : Fin k0_t2_loop.trips) : BitVec 32 :=
  let c0_i32_20 : BitVec 32 := 0#32
  let c1_i32_21 : BitVec 32 := 1#32
  let arg19 : BitVec 32 := Scf.iv c0_i32_20 c1_i32_21 k0_t2
  let c128_i32_57 : BitVec 32 := 128#32
  let v128 : BitVec 32 := Scalar.muli arg19 c128_i32_57
  let c32_i32_58 : BitVec 32 := 32#32
  let v129 : BitVec 32 := Scalar.addi v128 c32_i32_58
  v129
def k0_mult31 (k0_t2 : Fin k0_t2_loop.trips) : BitVec 32 :=
  let c0_i32_20 : BitVec 32 := 0#32
  let c1_i32_21 : BitVec 32 := 1#32
  let arg19 : BitVec 32 := Scf.iv c0_i32_20 c1_i32_21 k0_t2
  let c256_i32_60 : BitVec 32 := 256#32
  let v133 : BitVec 32 := Scalar.muli arg19 c256_i32_60
  let c96_i32 : BitVec 32 := 96#32
  let v134 : BitVec 32 := Scalar.addi v133 c96_i32
  v134
def k0_mult32 (k0_t2 : Fin k0_t2_loop.trips) : BitVec 32 :=
  let c0_i32_20 : BitVec 32 := 0#32
  let c1_i32_21 : BitVec 32 := 1#32
  let arg19 : BitVec 32 := Scf.iv c0_i32_20 c1_i32_21 k0_t2
  let c128_i32_62 : BitVec 32 := 128#32
  let v140 : BitVec 32 := Scalar.muli arg19 c128_i32_62
  let c64_i32_63 : BitVec 32 := 64#32
  let v141 : BitVec 32 := Scalar.addi v140 c64_i32_63
  v141
def k0_mult33 (k0_t2 : Fin k0_t2_loop.trips) : BitVec 32 :=
  let c0_i32_20 : BitVec 32 := 0#32
  let c1_i32_21 : BitVec 32 := 1#32
  let arg19 : BitVec 32 := Scf.iv c0_i32_20 c1_i32_21 k0_t2
  let c256_i32_65 : BitVec 32 := 256#32
  let v145 : BitVec 32 := Scalar.muli arg19 c256_i32_65
  let c128_i32_66 : BitVec 32 := 128#32
  let v146 : BitVec 32 := Scalar.addi v145 c128_i32_66
  v146
def k0_mult34 (k0_t2 : Fin k0_t2_loop.trips) : BitVec 32 :=
  let c0_i32_20 : BitVec 32 := 0#32
  let c1_i32_21 : BitVec 32 := 1#32
  let arg19 : BitVec 32 := Scf.iv c0_i32_20 c1_i32_21 k0_t2
  let c128_i32_68 : BitVec 32 := 128#32
  let v152 : BitVec 32 := Scalar.muli arg19 c128_i32_68
  let c64_i32_69 : BitVec 32 := 64#32
  let v153 : BitVec 32 := Scalar.addi v152 c64_i32_69
  v153
def k0_mult35 (k0_t2 : Fin k0_t2_loop.trips) : BitVec 32 :=
  let c0_i32_20 : BitVec 32 := 0#32
  let c1_i32_21 : BitVec 32 := 1#32
  let arg19 : BitVec 32 := Scf.iv c0_i32_20 c1_i32_21 k0_t2
  let c256_i32_71 : BitVec 32 := 256#32
  let v157 : BitVec 32 := Scalar.muli arg19 c256_i32_71
  let c160_i32 : BitVec 32 := 160#32
  let v158 : BitVec 32 := Scalar.addi v157 c160_i32
  v158
def k0_mult36 (k0_t2 : Fin k0_t2_loop.trips) : BitVec 32 :=
  let c0_i32_20 : BitVec 32 := 0#32
  let c1_i32_21 : BitVec 32 := 1#32
  let arg19 : BitVec 32 := Scf.iv c0_i32_20 c1_i32_21 k0_t2
  let c128_i32_73 : BitVec 32 := 128#32
  let v164 : BitVec 32 := Scalar.muli arg19 c128_i32_73
  let c96_i32_74 : BitVec 32 := 96#32
  let v165 : BitVec 32 := Scalar.addi v164 c96_i32_74
  v165
def k0_mult37 (k0_t2 : Fin k0_t2_loop.trips) : BitVec 32 :=
  let c0_i32_20 : BitVec 32 := 0#32
  let c1_i32_21 : BitVec 32 := 1#32
  let arg19 : BitVec 32 := Scf.iv c0_i32_20 c1_i32_21 k0_t2
  let c256_i32_76 : BitVec 32 := 256#32
  let v169 : BitVec 32 := Scalar.muli arg19 c256_i32_76
  let c192_i32 : BitVec 32 := 192#32
  let v170 : BitVec 32 := Scalar.addi v169 c192_i32
  v170
def k0_mult38 (k0_t2 : Fin k0_t2_loop.trips) : BitVec 32 :=
  let c0_i32_20 : BitVec 32 := 0#32
  let c1_i32_21 : BitVec 32 := 1#32
  let arg19 : BitVec 32 := Scf.iv c0_i32_20 c1_i32_21 k0_t2
  let c128_i32_78 : BitVec 32 := 128#32
  let v176 : BitVec 32 := Scalar.muli arg19 c128_i32_78
  let c96_i32_79 : BitVec 32 := 96#32
  let v177 : BitVec 32 := Scalar.addi v176 c96_i32_79
  v177
def k0_mult39 (k0_t2 : Fin k0_t2_loop.trips) : BitVec 32 :=
  let c0_i32_20 : BitVec 32 := 0#32
  let c1_i32_21 : BitVec 32 := 1#32
  let arg19 : BitVec 32 := Scf.iv c0_i32_20 c1_i32_21 k0_t2
  let c256_i32_81 : BitVec 32 := 256#32
  let v181 : BitVec 32 := Scalar.muli arg19 c256_i32_81
  let c224_i32 : BitVec 32 := 224#32
  let v182 : BitVec 32 := Scalar.addi v181 c224_i32
  v182
def k0_cond3 (i : grid0.Coords) : BitVec 1 :=
  let arg0 : BitVec 32 := BitVec.ofNat 32 (i 0).val
  let c0_i32_8 : BitVec 32 := 0#32
  let v20 : BitVec 1 := Scalar.cmpi .sgt arg0 c0_i32_8
  let c27_i32_9 : BitVec 32 := 27#32
  let v21 : BitVec 1 := Scalar.cmpi .slt arg0 c27_i32_9
  let v22 : BitVec 1 := Scalar.andi v20 v21
  let c2_i32_10 : BitVec 32 := 2#32
  let c0_i32_11 : BitVec 32 := 0#32
  let v23 : BitVec 1 := Scalar.cmpi .eq c2_i32_10 c0_i32_11
  let c1_i32_12 : BitVec 32 := 1#32
  let v24 : BitVec 32 := Scalar.select v23 c1_i32_12 c2_i32_10
  let v25 : BitVec 32 := Scalar.remsi arg0 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c0_i32_16 : BitVec 32 := 0#32
  let v33 : BitVec 1 := Scalar.cmpi .eq v32 c0_i32_16
  let v34 : BitVec 1 := Scalar.andi v22 v33
  let v35 : BitVec 32 := Scalar.extui v34
  let c0_i32_17 : BitVec 32 := 0#32
  let v36 : BitVec 1 := Scalar.cmpi .ne v35 c0_i32_17
  v36

@[reducible] def k0_t3_loop : Scf.Loop 32 :=
  let c0_i32_20 : BitVec 32 := 0#32
  let c8_i32 : BitVec 32 := 8#32
  let v40 : BitVec 32 := Scalar.addi c0_i32_20 c8_i32
  let c1_i32_21 : BitVec 32 := 1#32
  ⟨c0_i32_20, v40, c1_i32_21⟩
def k0_mult40 (k0_t3 : Fin k0_t3_loop.trips) : BitVec 32 :=
  let c0_i32_20 : BitVec 32 := 0#32
  let c1_i32_21 : BitVec 32 := 1#32
  let arg19 : BitVec 32 := Scf.iv c0_i32_20 c1_i32_21 k0_t3
  let c256_i32 : BitVec 32 := 256#32
  let v41 : BitVec 32 := Scalar.muli arg19 c256_i32
  v41
def k0_off22 (k0_t3 : Fin k0_t3_loop.trips) : Fin 2 → Nat :=
  let c0_i32_20 : BitVec 32 := 0#32
  let c1_i32_21 : BitVec 32 := 1#32
  let arg19 : BitVec 32 := Scf.iv c0_i32_20 c1_i32_21 k0_t3
  let c256_i32 : BitVec 32 := 256#32
  let v41 : BitVec 32 := Scalar.muli arg19 c256_i32
  let v42 : BitVec 32 := v41
  let v43 : Index := Scalar.indexCast v42
  let c0 : Index := 0#32
  ![v43.toNat, 0]
def k0_off23 (k0_t3 : Fin k0_t3_loop.trips) : Fin 2 → Nat :=
  let c0_i32_20 : BitVec 32 := 0#32
  let c1_i32_21 : BitVec 32 := 1#32
  let arg19 : BitVec 32 := Scf.iv c0_i32_20 c1_i32_21 k0_t3
  let c256_i32 : BitVec 32 := 256#32
  let v41 : BitVec 32 := Scalar.muli arg19 c256_i32
  let v42 : BitVec 32 := v41
  let v47 : Index := Scalar.indexCast v42
  let c0_25 : Index := 0#32
  ![v47.toNat, 0]
def k0_mult41 (k0_t3 : Fin k0_t3_loop.trips) : BitVec 32 :=
  let c0_i32_20 : BitVec 32 := 0#32
  let c1_i32_21 : BitVec 32 := 1#32
  let arg19 : BitVec 32 := Scf.iv c0_i32_20 c1_i32_21 k0_t3
  let c320_i32 : BitVec 32 := 320#32
  let v54 : BitVec 32 := Scalar.muli arg19 c320_i32
  v54
def k0_off24 (k0_t3 : Fin k0_t3_loop.trips) : Fin 2 → Nat :=
  let c0_i32_20 : BitVec 32 := 0#32
  let c1_i32_21 : BitVec 32 := 1#32
  let arg19 : BitVec 32 := Scf.iv c0_i32_20 c1_i32_21 k0_t3
  let c320_i32 : BitVec 32 := 320#32
  let v54 : BitVec 32 := Scalar.muli arg19 c320_i32
  let v55 : BitVec 32 := v54
  let v56 : Index := Scalar.indexCast v55
  let c0_27 : Index := 0#32
  ![v56.toNat, 0]
def k0_off25 (k0_t3 : Fin k0_t3_loop.trips) : Fin 2 → Nat :=
  let c0_i32_20 : BitVec 32 := 0#32
  let c1_i32_21 : BitVec 32 := 1#32
  let arg19 : BitVec 32 := Scf.iv c0_i32_20 c1_i32_21 k0_t3
  let c320_i32 : BitVec 32 := 320#32
  let v54 : BitVec 32 := Scalar.muli arg19 c320_i32
  let v55 : BitVec 32 := v54
  let v62 : Index := Scalar.indexCast v55
  let c0_32 : Index := 0#32
  ![v62.toNat, 0]
def k0_mult42 (k0_t3 : Fin k0_t3_loop.trips) : BitVec 32 :=
  let c0_i32_20 : BitVec 32 := 0#32
  let c1_i32_21 : BitVec 32 := 1#32
  let arg19 : BitVec 32 := Scf.iv c0_i32_20 c1_i32_21 k0_t3
  let c256_i32_33 : BitVec 32 := 256#32
  let v64 : BitVec 32 := Scalar.muli arg19 c256_i32_33
  v64
def k0_off26 (k0_t3 : Fin k0_t3_loop.trips) : Fin 2 → Nat :=
  let c0_i32_20 : BitVec 32 := 0#32
  let c1_i32_21 : BitVec 32 := 1#32
  let arg19 : BitVec 32 := Scf.iv c0_i32_20 c1_i32_21 k0_t3
  let c256_i32_33 : BitVec 32 := 256#32
  let v64 : BitVec 32 := Scalar.muli arg19 c256_i32_33
  let v65 : BitVec 32 := v64
  let v66 : Index := Scalar.indexCast v65
  let c0_34 : Index := 0#32
  ![v66.toNat, 0]
def k0_off27 (k0_t3 : Fin k0_t3_loop.trips) : Fin 2 → Nat :=
  let c0_i32_20 : BitVec 32 := 0#32
  let c1_i32_21 : BitVec 32 := 1#32
  let arg19 : BitVec 32 := Scf.iv c0_i32_20 c1_i32_21 k0_t3
  let c256_i32_33 : BitVec 32 := 256#32
  let v64 : BitVec 32 := Scalar.muli arg19 c256_i32_33
  let v65 : BitVec 32 := v64
  let v68 : Index := Scalar.indexCast v65
  let c0_35 : Index := 0#32
  ![v68.toNat, 0]
def k0_off28 (k0_t3 : Fin k0_t3_loop.trips) : Fin 2 → Nat :=
  let c0_i32_20 : BitVec 32 := 0#32
  let c1_i32_21 : BitVec 32 := 1#32
  let arg19 : BitVec 32 := Scf.iv c0_i32_20 c1_i32_21 k0_t3
  let c256_i32_33 : BitVec 32 := 256#32
  let v64 : BitVec 32 := Scalar.muli arg19 c256_i32_33
  let v65 : BitVec 32 := v64
  let v74 : Index := Scalar.indexCast v65
  let c128 : Index := 128#32
  ![v74.toNat, 128]
def k0_mult43 (k0_t3 : Fin k0_t3_loop.trips) : BitVec 32 :=
  let c0_i32_20 : BitVec 32 := 0#32
  let c1_i32_21 : BitVec 32 := 1#32
  let arg19 : BitVec 32 := Scf.iv c0_i32_20 c1_i32_21 k0_t3
  let c320_i32_37 : BitVec 32 := 320#32
  let v78 : BitVec 32 := Scalar.muli arg19 c320_i32_37
  v78
def k0_off29 (k0_t3 : Fin k0_t3_loop.trips) : Fin 2 → Nat :=
  let c0_i32_20 : BitVec 32 := 0#32
  let c1_i32_21 : BitVec 32 := 1#32
  let arg19 : BitVec 32 := Scf.iv c0_i32_20 c1_i32_21 k0_t3
  let c320_i32_37 : BitVec 32 := 320#32
  let v78 : BitVec 32 := Scalar.muli arg19 c320_i32_37
  let v79 : BitVec 32 := v78
  let v80 : Index := Scalar.indexCast v79
  let c0_38 : Index := 0#32
  ![v80.toNat, 0]
def k0_off30 (k0_t3 : Fin k0_t3_loop.trips) : Fin 2 → Nat :=
  let c0_i32_20 : BitVec 32 := 0#32
  let c1_i32_21 : BitVec 32 := 1#32
  let arg19 : BitVec 32 := Scf.iv c0_i32_20 c1_i32_21 k0_t3
  let c320_i32_37 : BitVec 32 := 320#32
  let v78 : BitVec 32 := Scalar.muli arg19 c320_i32_37
  let v79 : BitVec 32 := v78
  let v82 : Index := Scalar.indexCast v79
  let c0_39 : Index := 0#32
  ![v82.toNat, 0]
def k0_off31 (k0_t3 : Fin k0_t3_loop.trips) : Fin 2 → Nat :=
  let c0_i32_20 : BitVec 32 := 0#32
  let c1_i32_21 : BitVec 32 := 1#32
  let arg19 : BitVec 32 := Scf.iv c0_i32_20 c1_i32_21 k0_t3
  let c320_i32_37 : BitVec 32 := 320#32
  let v78 : BitVec 32 := Scalar.muli arg19 c320_i32_37
  let v79 : BitVec 32 := v78
  let v88 : Index := Scalar.indexCast v79
  let c128_41 : Index := 128#32
  ![v88.toNat, 128]
def k0_mult44 (k0_t3 : Fin k0_t3_loop.trips) : BitVec 32 :=
  let c0_i32_20 : BitVec 32 := 0#32
  let c1_i32_21 : BitVec 32 := 1#32
  let arg19 : BitVec 32 := Scf.iv c0_i32_20 c1_i32_21 k0_t3
  let c128_i32 : BitVec 32 := 128#32
  let v92 : BitVec 32 := Scalar.muli arg19 c128_i32
  let c0_i32_42 : BitVec 32 := 0#32
  let v93 : BitVec 32 := Scalar.addi v92 c0_i32_42
  v93
def k0_off32 (k0_t3 : Fin k0_t3_loop.trips) (c0_i32_42 : BitVec 32) : Fin 2 → Nat :=
  let c0_i32_20 : BitVec 32 := 0#32
  let c1_i32_21 : BitVec 32 := 1#32
  let arg19 : BitVec 32 := Scf.iv c0_i32_20 c1_i32_21 k0_t3
  let c128_i32 : BitVec 32 := 128#32
  let v92 : BitVec 32 := Scalar.muli arg19 c128_i32
  let v93 : BitVec 32 := Scalar.addi v92 c0_i32_42
  let v94 : BitVec 32 := v93
  let v95 : Index := Scalar.indexCast v94
  let c0_43 : Index := 0#32
  ![v95.toNat, 0]
def k0_mult45 (k0_t3 : Fin k0_t3_loop.trips) : BitVec 32 :=
  let c0_i32_20 : BitVec 32 := 0#32
  let c1_i32_21 : BitVec 32 := 1#32
  let arg19 : BitVec 32 := Scf.iv c0_i32_20 c1_i32_21 k0_t3
  let c256_i32_44 : BitVec 32 := 256#32
  let v97 : BitVec 32 := Scalar.muli arg19 c256_i32_44
  let c0_i32_45 : BitVec 32 := 0#32
  let v98 : BitVec 32 := Scalar.addi v97 c0_i32_45
  v98
def k0_off33 (k0_t3 : Fin k0_t3_loop.trips) (c0_i32_45 : BitVec 32) : Fin 2 → Nat :=
  let c0_i32_20 : BitVec 32 := 0#32
  let c1_i32_21 : BitVec 32 := 1#32
  let arg19 : BitVec 32 := Scf.iv c0_i32_20 c1_i32_21 k0_t3
  let c256_i32_44 : BitVec 32 := 256#32
  let v97 : BitVec 32 := Scalar.muli arg19 c256_i32_44
  let v98 : BitVec 32 := Scalar.addi v97 c0_i32_45
  let v99 : BitVec 32 := v98
  let v100 : Index := Scalar.indexCast v99
  let c0_46 : Index := 0#32
  ![v100.toNat, 0]
def k0_mult46 (k0_t3 : Fin k0_t3_loop.trips) : BitVec 32 :=
  let c0_i32_20 : BitVec 32 := 0#32
  let c1_i32_21 : BitVec 32 := 1#32
  let arg19 : BitVec 32 := Scf.iv c0_i32_20 c1_i32_21 k0_t3
  let c128_i32_47 : BitVec 32 := 128#32
  let v104 : BitVec 32 := Scalar.muli arg19 c128_i32_47
  let c0_i32_48 : BitVec 32 := 0#32
  let v105 : BitVec 32 := Scalar.addi v104 c0_i32_48
  v105
def k0_mult47 (k0_t3 : Fin k0_t3_loop.trips) : BitVec 32 :=
  let c0_i32_20 : BitVec 32 := 0#32
  let c1_i32_21 : BitVec 32 := 1#32
  let arg19 : BitVec 32 := Scf.iv c0_i32_20 c1_i32_21 k0_t3
  let c256_i32_50 : BitVec 32 := 256#32
  let v109 : BitVec 32 := Scalar.muli arg19 c256_i32_50
  let c32_i32 : BitVec 32 := 32#32
  let v110 : BitVec 32 := Scalar.addi v109 c32_i32
  v110
def k0_mult48 (k0_t3 : Fin k0_t3_loop.trips) : BitVec 32 :=
  let c0_i32_20 : BitVec 32 := 0#32
  let c1_i32_21 : BitVec 32 := 1#32
  let arg19 : BitVec 32 := Scf.iv c0_i32_20 c1_i32_21 k0_t3
  let c128_i32_52 : BitVec 32 := 128#32
  let v116 : BitVec 32 := Scalar.muli arg19 c128_i32_52
  let c32_i32_53 : BitVec 32 := 32#32
  let v117 : BitVec 32 := Scalar.addi v116 c32_i32_53
  v117
def k0_mult49 (k0_t3 : Fin k0_t3_loop.trips) : BitVec 32 :=
  let c0_i32_20 : BitVec 32 := 0#32
  let c1_i32_21 : BitVec 32 := 1#32
  let arg19 : BitVec 32 := Scf.iv c0_i32_20 c1_i32_21 k0_t3
  let c256_i32_55 : BitVec 32 := 256#32
  let v121 : BitVec 32 := Scalar.muli arg19 c256_i32_55
  let c64_i32 : BitVec 32 := 64#32
  let v122 : BitVec 32 := Scalar.addi v121 c64_i32
  v122
def k0_mult50 (k0_t3 : Fin k0_t3_loop.trips) : BitVec 32 :=
  let c0_i32_20 : BitVec 32 := 0#32
  let c1_i32_21 : BitVec 32 := 1#32
  let arg19 : BitVec 32 := Scf.iv c0_i32_20 c1_i32_21 k0_t3
  let c128_i32_57 : BitVec 32 := 128#32
  let v128 : BitVec 32 := Scalar.muli arg19 c128_i32_57
  let c32_i32_58 : BitVec 32 := 32#32
  let v129 : BitVec 32 := Scalar.addi v128 c32_i32_58
  v129
def k0_mult51 (k0_t3 : Fin k0_t3_loop.trips) : BitVec 32 :=
  let c0_i32_20 : BitVec 32 := 0#32
  let c1_i32_21 : BitVec 32 := 1#32
  let arg19 : BitVec 32 := Scf.iv c0_i32_20 c1_i32_21 k0_t3
  let c256_i32_60 : BitVec 32 := 256#32
  let v133 : BitVec 32 := Scalar.muli arg19 c256_i32_60
  let c96_i32 : BitVec 32 := 96#32
  let v134 : BitVec 32 := Scalar.addi v133 c96_i32
  v134
def k0_mult52 (k0_t3 : Fin k0_t3_loop.trips) : BitVec 32 :=
  let c0_i32_20 : BitVec 32 := 0#32
  let c1_i32_21 : BitVec 32 := 1#32
  let arg19 : BitVec 32 := Scf.iv c0_i32_20 c1_i32_21 k0_t3
  let c128_i32_62 : BitVec 32 := 128#32
  let v140 : BitVec 32 := Scalar.muli arg19 c128_i32_62
  let c64_i32_63 : BitVec 32 := 64#32
  let v141 : BitVec 32 := Scalar.addi v140 c64_i32_63
  v141
def k0_mult53 (k0_t3 : Fin k0_t3_loop.trips) : BitVec 32 :=
  let c0_i32_20 : BitVec 32 := 0#32
  let c1_i32_21 : BitVec 32 := 1#32
  let arg19 : BitVec 32 := Scf.iv c0_i32_20 c1_i32_21 k0_t3
  let c256_i32_65 : BitVec 32 := 256#32
  let v145 : BitVec 32 := Scalar.muli arg19 c256_i32_65
  let c128_i32_66 : BitVec 32 := 128#32
  let v146 : BitVec 32 := Scalar.addi v145 c128_i32_66
  v146
def k0_mult54 (k0_t3 : Fin k0_t3_loop.trips) : BitVec 32 :=
  let c0_i32_20 : BitVec 32 := 0#32
  let c1_i32_21 : BitVec 32 := 1#32
  let arg19 : BitVec 32 := Scf.iv c0_i32_20 c1_i32_21 k0_t3
  let c128_i32_68 : BitVec 32 := 128#32
  let v152 : BitVec 32 := Scalar.muli arg19 c128_i32_68
  let c64_i32_69 : BitVec 32 := 64#32
  let v153 : BitVec 32 := Scalar.addi v152 c64_i32_69
  v153
def k0_mult55 (k0_t3 : Fin k0_t3_loop.trips) : BitVec 32 :=
  let c0_i32_20 : BitVec 32 := 0#32
  let c1_i32_21 : BitVec 32 := 1#32
  let arg19 : BitVec 32 := Scf.iv c0_i32_20 c1_i32_21 k0_t3
  let c256_i32_71 : BitVec 32 := 256#32
  let v157 : BitVec 32 := Scalar.muli arg19 c256_i32_71
  let c160_i32 : BitVec 32 := 160#32
  let v158 : BitVec 32 := Scalar.addi v157 c160_i32
  v158
def k0_mult56 (k0_t3 : Fin k0_t3_loop.trips) : BitVec 32 :=
  let c0_i32_20 : BitVec 32 := 0#32
  let c1_i32_21 : BitVec 32 := 1#32
  let arg19 : BitVec 32 := Scf.iv c0_i32_20 c1_i32_21 k0_t3
  let c128_i32_73 : BitVec 32 := 128#32
  let v164 : BitVec 32 := Scalar.muli arg19 c128_i32_73
  let c96_i32_74 : BitVec 32 := 96#32
  let v165 : BitVec 32 := Scalar.addi v164 c96_i32_74
  v165
def k0_mult57 (k0_t3 : Fin k0_t3_loop.trips) : BitVec 32 :=
  let c0_i32_20 : BitVec 32 := 0#32
  let c1_i32_21 : BitVec 32 := 1#32
  let arg19 : BitVec 32 := Scf.iv c0_i32_20 c1_i32_21 k0_t3
  let c256_i32_76 : BitVec 32 := 256#32
  let v169 : BitVec 32 := Scalar.muli arg19 c256_i32_76
  let c192_i32 : BitVec 32 := 192#32
  let v170 : BitVec 32 := Scalar.addi v169 c192_i32
  v170
def k0_mult58 (k0_t3 : Fin k0_t3_loop.trips) : BitVec 32 :=
  let c0_i32_20 : BitVec 32 := 0#32
  let c1_i32_21 : BitVec 32 := 1#32
  let arg19 : BitVec 32 := Scf.iv c0_i32_20 c1_i32_21 k0_t3
  let c128_i32_78 : BitVec 32 := 128#32
  let v176 : BitVec 32 := Scalar.muli arg19 c128_i32_78
  let c96_i32_79 : BitVec 32 := 96#32
  let v177 : BitVec 32 := Scalar.addi v176 c96_i32_79
  v177
def k0_mult59 (k0_t3 : Fin k0_t3_loop.trips) : BitVec 32 :=
  let c0_i32_20 : BitVec 32 := 0#32
  let c1_i32_21 : BitVec 32 := 1#32
  let arg19 : BitVec 32 := Scf.iv c0_i32_20 c1_i32_21 k0_t3
  let c256_i32_81 : BitVec 32 := 256#32
  let v181 : BitVec 32 := Scalar.muli arg19 c256_i32_81
  let c224_i32 : BitVec 32 := 224#32
  let v182 : BitVec 32 := Scalar.addi v181 c224_i32
  v182
def k0_cond4 (i : grid0.Coords) : BitVec 1 :=
  let arg0 : BitVec 32 := BitVec.ofNat 32 (i 0).val
  let c27_i32_18 : BitVec 32 := 27#32
  let v37 : BitVec 1 := Scalar.cmpi .eq arg0 c27_i32_18
  let v38 : BitVec 32 := Scalar.extui v37
  let c0_i32_19 : BitVec 32 := 0#32
  let v39 : BitVec 1 := Scalar.cmpi .ne v38 c0_i32_19
  v39

@[reducible] def k0_t4_loop : Scf.Loop 32 :=
  let c0_i32_20 : BitVec 32 := 0#32
  let c8_i32 : BitVec 32 := 8#32
  let v40 : BitVec 32 := Scalar.addi c0_i32_20 c8_i32
  let c1_i32_21 : BitVec 32 := 1#32
  ⟨c0_i32_20, v40, c1_i32_21⟩
def k0_mult60 (k0_t4 : Fin k0_t4_loop.trips) : BitVec 32 :=
  let c0_i32_20 : BitVec 32 := 0#32
  let c1_i32_21 : BitVec 32 := 1#32
  let arg19 : BitVec 32 := Scf.iv c0_i32_20 c1_i32_21 k0_t4
  let c256_i32 : BitVec 32 := 256#32
  let v55 : BitVec 32 := Scalar.muli arg19 c256_i32
  v55
def k0_off34 (k0_t4 : Fin k0_t4_loop.trips) : Fin 2 → Nat :=
  let c0_i32_20 : BitVec 32 := 0#32
  let c1_i32_21 : BitVec 32 := 1#32
  let arg19 : BitVec 32 := Scf.iv c0_i32_20 c1_i32_21 k0_t4
  let c256_i32 : BitVec 32 := 256#32
  let v55 : BitVec 32 := Scalar.muli arg19 c256_i32
  let v56 : BitVec 32 := v55
  let v57 : Index := Scalar.indexCast v56
  let c0 : Index := 0#32
  ![v57.toNat, 0]
def k0_off35 (k0_t4 : Fin k0_t4_loop.trips) : Fin 2 → Nat :=
  let c0_i32_20 : BitVec 32 := 0#32
  let c1_i32_21 : BitVec 32 := 1#32
  let arg19 : BitVec 32 := Scf.iv c0_i32_20 c1_i32_21 k0_t4
  let c256_i32 : BitVec 32 := 256#32
  let v55 : BitVec 32 := Scalar.muli arg19 c256_i32
  let v56 : BitVec 32 := v55
  let v61 : Index := Scalar.indexCast v56
  let c0_33 : Index := 0#32
  ![v61.toNat, 0]
def k0_cond5 (k0_t4 : Fin k0_t4_loop.trips) : BitVec 1 :=
  let c0_i32_20 : BitVec 32 := 0#32
  let c1_i32_21 : BitVec 32 := 1#32
  let arg19 : BitVec 32 := Scf.iv c0_i32_20 c1_i32_21 k0_t4
  let c2_i32_35 : BitVec 32 := 2#32
  let v67 : BitVec 1 := Scalar.cmpi .sge arg19 c2_i32_35
  let v68 : BitVec 32 := Scalar.extui v67
  let c0_i32_36 : BitVec 32 := 0#32
  let v69 : BitVec 1 := Scalar.cmpi .ne v68 c0_i32_36
  v69

def k0_mult61 (k0_t4 : Fin k0_t4_loop.trips) : BitVec 32 :=
  let c0_i32_20 : BitVec 32 := 0#32
  let c1_i32_21 : BitVec 32 := 1#32
  let arg19 : BitVec 32 := Scf.iv c0_i32_20 c1_i32_21 k0_t4
  let c2_i32_51 : BitVec 32 := 2#32
  let v93 : BitVec 32 := Scalar.subi arg19 c2_i32_51
  let c256_i32_52 : BitVec 32 := 256#32
  let v94 : BitVec 32 := Scalar.muli v93 c256_i32_52
  v94
def k0_off36 (k0_t4 : Fin k0_t4_loop.trips) : Fin 1 → Nat :=
  let c0_i32_20 : BitVec 32 := 0#32
  let c1_i32_21 : BitVec 32 := 1#32
  let arg19 : BitVec 32 := Scf.iv c0_i32_20 c1_i32_21 k0_t4
  let c2_i32_51 : BitVec 32 := 2#32
  let v93 : BitVec 32 := Scalar.subi arg19 c2_i32_51
  let c2_i32_53 : BitVec 32 := 2#32
  let v96 : BitVec 32 := Scalar.remsi v93 c2_i32_53
  ![v96.toNat]
def k0_off37 (k0_t4 : Fin k0_t4_loop.trips) : Fin 2 → Nat :=
  let c0_i32_20 : BitVec 32 := 0#32
  let c1_i32_21 : BitVec 32 := 1#32
  let arg19 : BitVec 32 := Scf.iv c0_i32_20 c1_i32_21 k0_t4
  let c2_i32_51 : BitVec 32 := 2#32
  let v93 : BitVec 32 := Scalar.subi arg19 c2_i32_51
  let c256_i32_52 : BitVec 32 := 256#32
  let v94 : BitVec 32 := Scalar.muli v93 c256_i32_52
  let v95 : BitVec 32 := v94
  let c0_i32_54 : BitVec 32 := 0#32
  ![v95.toNat, 0]
def k0_off38 (k0_t4 : Fin k0_t4_loop.trips) : Fin 3 → Nat :=
  let c0_i32_20 : BitVec 32 := 0#32
  let c1_i32_21 : BitVec 32 := 1#32
  let arg19 : BitVec 32 := Scf.iv c0_i32_20 c1_i32_21 k0_t4
  let c2_i32_51 : BitVec 32 := 2#32
  let v93 : BitVec 32 := Scalar.subi arg19 c2_i32_51
  let c2_i32_53 : BitVec 32 := 2#32
  let v96 : BitVec 32 := Scalar.remsi v93 c2_i32_53
  let c0_i32_55 : BitVec 32 := 0#32
  let c0_i32_56 : BitVec 32 := 0#32
  ![v96.toNat, 0, 0]
def k0_off39 (k0_t4 : Fin k0_t4_loop.trips) : Fin 3 → Nat :=
  let c0_i32_20 : BitVec 32 := 0#32
  let c1_i32_21 : BitVec 32 := 1#32
  let arg19 : BitVec 32 := Scf.iv c0_i32_20 c1_i32_21 k0_t4
  let c2_i32_37 : BitVec 32 := 2#32
  let v70 : BitVec 32 := Scalar.remsi arg19 c2_i32_37
  let v71 : Index := Scalar.indexCast v70
  let c0_38 : Index := 0#32
  let c0_39 : Index := 0#32
  ![v71.toNat, 0, 0]
def k0_mult62 (k0_t4 : Fin k0_t4_loop.trips) : BitVec 32 :=
  let c0_i32_20 : BitVec 32 := 0#32
  let c1_i32_21 : BitVec 32 := 1#32
  let arg19 : BitVec 32 := Scf.iv c0_i32_20 c1_i32_21 k0_t4
  let c256_i32_40 : BitVec 32 := 256#32
  let v75 : BitVec 32 := Scalar.muli arg19 c256_i32_40
  v75
def k0_off40 (k0_t4 : Fin k0_t4_loop.trips) : Fin 1 → Nat :=
  let c0_i32_20 : BitVec 32 := 0#32
  let c1_i32_21 : BitVec 32 := 1#32
  let arg19 : BitVec 32 := Scf.iv c0_i32_20 c1_i32_21 k0_t4
  let c2_i32_41 : BitVec 32 := 2#32
  let v77 : BitVec 32 := Scalar.remsi arg19 c2_i32_41
  ![v77.toNat]
def k0_off41 (k0_t4 : Fin k0_t4_loop.trips) : Fin 2 → Nat :=
  let c0_i32_20 : BitVec 32 := 0#32
  let c1_i32_21 : BitVec 32 := 1#32
  let arg19 : BitVec 32 := Scf.iv c0_i32_20 c1_i32_21 k0_t4
  let c256_i32_40 : BitVec 32 := 256#32
  let v75 : BitVec 32 := Scalar.muli arg19 c256_i32_40
  let v76 : BitVec 32 := v75
  let c0_i32_42 : BitVec 32 := 0#32
  ![v76.toNat, 0]
def k0_off42 (k0_t4 : Fin k0_t4_loop.trips) : Fin 3 → Nat :=
  let c0_i32_20 : BitVec 32 := 0#32
  let c1_i32_21 : BitVec 32 := 1#32
  let arg19 : BitVec 32 := Scf.iv c0_i32_20 c1_i32_21 k0_t4
  let c2_i32_41 : BitVec 32 := 2#32
  let v77 : BitVec 32 := Scalar.remsi arg19 c2_i32_41
  let c0_i32_43 : BitVec 32 := 0#32
  let c0_i32_44 : BitVec 32 := 0#32
  ![v77.toNat, 0, 0]
def k0_mult63 (k0_t4 : Fin k0_t4_loop.trips) : BitVec 32 :=
  let c0_i32_20 : BitVec 32 := 0#32
  let c1_i32_21 : BitVec 32 := 1#32
  let arg19 : BitVec 32 := Scf.iv c0_i32_20 c1_i32_21 k0_t4
  let c320_i32 : BitVec 32 := 320#32
  let v83 : BitVec 32 := Scalar.muli arg19 c320_i32
  v83
def k0_off43 (k0_t4 : Fin k0_t4_loop.trips) : Fin 2 → Nat :=
  let c0_i32_20 : BitVec 32 := 0#32
  let c1_i32_21 : BitVec 32 := 1#32
  let arg19 : BitVec 32 := Scf.iv c0_i32_20 c1_i32_21 k0_t4
  let c320_i32 : BitVec 32 := 320#32
  let v83 : BitVec 32 := Scalar.muli arg19 c320_i32
  let v84 : BitVec 32 := v83
  let v85 : Index := Scalar.indexCast v84
  let c0_45 : Index := 0#32
  ![v85.toNat, 0]
def k0_off44 (k0_t4 : Fin k0_t4_loop.trips) : Fin 2 → Nat :=
  let c0_i32_20 : BitVec 32 := 0#32
  let c1_i32_21 : BitVec 32 := 1#32
  let arg19 : BitVec 32 := Scf.iv c0_i32_20 c1_i32_21 k0_t4
  let c320_i32 : BitVec 32 := 320#32
  let v83 : BitVec 32 := Scalar.muli arg19 c320_i32
  let v84 : BitVec 32 := v83
  let v91 : Index := Scalar.indexCast v84
  let c0_50 : Index := 0#32
  ![v91.toNat, 0]
def k0_mult64 : BitVec 32 :=
  let c1536_i32 : BitVec 32 := 1536#32
  c1536_i32
def k0_off45 (c6_i32 : BitVec 32) : Fin 1 → Nat :=
  let c2_i32_23 : BitVec 32 := 2#32
  let v42 : BitVec 32 := Scalar.remsi c6_i32 c2_i32_23
  ![v42.toNat]
def k0_off46 (c6_i32 : BitVec 32) : Fin 3 → Nat :=
  let c2_i32_23 : BitVec 32 := 2#32
  let v42 : BitVec 32 := Scalar.remsi c6_i32 c2_i32_23
  let c0_i32_25 : BitVec 32 := 0#32
  let c0_i32_26 : BitVec 32 := 0#32
  ![v42.toNat, 0, 0]
def k0_mult65 : BitVec 32 :=
  let c1792_i32 : BitVec 32 := 1792#32
  c1792_i32
def cc0_transform_0 (i : grid0.Coords) : Fin 2 → Nat :=
  let arg0 : BitVec 32 := BitVec.ofNat 32 (i 0).val
  let c26_i32 : BitVec 32 := 26#32
  let v0 : BitVec 32 := Scalar.minsi arg0 c26_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c26_i32 : BitVec 32 := 26#32
  let v0 : BitVec 32 := Scalar.minsi arg0 c26_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c26_i32 : BitVec 32 := 26#32
  let v0 : BitVec 32 := Scalar.minsi arg0 c26_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c26_i32 : BitVec 32 := 26#32
  let v0 : BitVec 32 := Scalar.minsi arg0 c26_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c26_i32 : BitVec 32 := 26#32
  let v0 : BitVec 32 := Scalar.minsi arg0 c26_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c26_i32 : BitVec 32 := 26#32
  let v0 : BitVec 32 := Scalar.minsi arg0 c26_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2560x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2560x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2560x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2560x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2048x3456 : Shape := ⟨2, ![2048, 3456]⟩
abbrev S2560x3456 : Shape := ⟨2, ![2560, 3456]⟩
abbrev S1024x6912 : Shape := ⟨2, ![1024, 6912]⟩
abbrev S2560x2048 : Shape := ⟨2, ![2560, 2048]⟩
abbrev S2048x2560 : Shape := ⟨2, ![2048, 2560]⟩
abbrev S32x2x32x2560 : Shape := ⟨4, ![32, 2, 32, 2560]⟩
abbrev S32x1x32x2560 : Shape := ⟨4, ![32, 1, 32, 2560]⟩
abbrev S32x32x2560 : Shape := ⟨3, ![32, 32, 2560]⟩
abbrev S1024x2560 : Shape := ⟨2, ![1024, 2560]⟩
abbrev S_ : Shape := ⟨0, ![]⟩
abbrev S2560x6912 : Shape := ⟨2, ![2560, 6912]⟩

abbrev nBuf : Space → Nat
  | .hbm => 28
  | .vmem => 0
  | .smem => 0
  | _ => 0

abbrev bufTy : (tb : Table) → Fin (tcTables nBuf tb) → BufTy
  | .hbm, ⟨0, _⟩ => ⟨S2048x3456, .bf16⟩
  | .hbm, ⟨1, _⟩ => ⟨S2048x3456, .bf16⟩
  | .hbm, ⟨2, _⟩ => ⟨S2560x3456, .bf16⟩
  | .hbm, ⟨3, _⟩ => ⟨S2560x3456, .bf16⟩
  | .hbm, ⟨4, _⟩ => ⟨S1024x6912, .bf16⟩
  | .hbm, ⟨5, _⟩ => ⟨S1024x6912, .bf16⟩
  | .hbm, ⟨6, _⟩ => ⟨S2560x2048, .bf16⟩
  | .hbm, ⟨7, _⟩ => ⟨S2048x2560, .bf16⟩
  | .hbm, ⟨8, _⟩ => ⟨S32x2x32x2560, .bf16⟩
  | .hbm, ⟨9, _⟩ => ⟨S32x1x32x2560, .bf16⟩
  | .hbm, ⟨10, _⟩ => ⟨S32x32x2560, .bf16⟩
  | .hbm, ⟨11, _⟩ => ⟨S1024x2560, .bf16⟩
  | .hbm, ⟨12, _⟩ => ⟨S32x1x32x2560, .bf16⟩
  | .hbm, ⟨13, _⟩ => ⟨S32x32x2560, .bf16⟩
  | .hbm, ⟨14, _⟩ => ⟨S1024x2560, .bf16⟩
  | .hbm, ⟨15, _⟩ => ⟨S2048x2560, .f32⟩
  | .hbm, ⟨16, _⟩ => ⟨S2048x2560, .f32⟩
  | .hbm, ⟨17, _⟩ => ⟨S2048x2560, .f32⟩
  | .hbm, ⟨18, _⟩ => ⟨S_, .f32⟩
  | .hbm, ⟨19, _⟩ => ⟨S2048x2560, .f32⟩
  | .hbm, ⟨20, _⟩ => ⟨S2048x2560, .f32⟩
  | .hbm, ⟨21, _⟩ => ⟨S2048x2560, .bf16⟩
  | .hbm, ⟨22, _⟩ => ⟨S2560x6912, .f32⟩
  | .hbm, ⟨23, _⟩ => ⟨S2560x6912, .f32⟩
  | .hbm, ⟨24, _⟩ => ⟨S2560x6912, .f32⟩
  | .hbm, ⟨25, _⟩ => ⟨S_, .f32⟩
  | .hbm, ⟨26, _⟩ => ⟨S2560x6912, .f32⟩
  | .hbm, ⟨27, _⟩ => ⟨S2560x6912, .f32⟩
  | _, _ => ⟨S2048x3456, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== XQuant.lean ====
abbrev S1x2048x2560 : Shape := ⟨3, ![1, 2048, 2560]⟩
abbrev S1x2048 : Shape := ⟨2, ![1, 2048]⟩
abbrev S256x256 : Shape := ⟨2, ![256, 256]⟩
abbrev S2x8x128 : Shape := ⟨3, ![2, 8, 128]⟩
abbrev S2048x2560 : Shape := ⟨2, ![2048, 2560]⟩
abbrev S8x1x256 : Shape := ⟨3, ![8, 1, 256]⟩
abbrev S2560x2048 : Shape := ⟨2, ![2560, 2048]⟩
abbrev S1024x2560 : Shape := ⟨2, ![1024, 2560]⟩
abbrev S64x2560 : Shape := ⟨2, ![64, 2560]⟩
abbrev S2048x256 : Shape := ⟨2, ![2048, 256]⟩
abbrev S2048x128 : Shape := ⟨2, ![2048, 128]⟩
abbrev S256x2048 : Shape := ⟨2, ![256, 2048]⟩
abbrev S1024x256 : Shape := ⟨2, ![1024, 256]⟩
abbrev S64x256 : Shape := ⟨2, ![64, 256]⟩
abbrev S2x32x128 : Shape := ⟨3, ![2, 32, 128]⟩
abbrev S1x8x128 : Shape := ⟨3, ![1, 8, 128]⟩
abbrev S8x128 : Shape := ⟨2, ![8, 128]⟩
abbrev S1x1x256 : Shape := ⟨3, ![1, 1, 256]⟩
abbrev S1x256 : Shape := ⟨2, ![1, 256]⟩
abbrev S256x128 : Shape := ⟨2, ![256, 128]⟩
abbrev S64x128 : Shape := ⟨2, ![64, 128]⟩
abbrev S8x8x128 : Shape := ⟨3, ![8, 8, 128]⟩
abbrev S8x128x1 : Shape := ⟨3, ![8, 128, 1]⟩
abbrev S16x128 : Shape := ⟨2, ![16, 128]⟩
abbrev S8x1x128 : Shape := ⟨3, ![8, 1, 128]⟩
abbrev S32x128 : Shape := ⟨2, ![32, 128]⟩
abbrev S1x32x128 : Shape := ⟨3, ![1, 32, 128]⟩
abbrev S128x128 : Shape := ⟨2, ![128, 128]⟩
abbrev S128x256 : Shape := ⟨2, ![128, 256]⟩

abbrev nBuf : Space → Nat
  | .hbm => 12
  | .vmem => 17
  | .smem => 0
  | _ => 0

abbrev bufTy : (tb : Table) → Fin (tcTables nBuf tb) → BufTy
  | .hbm, ⟨0, _⟩ => ⟨S1x2048x2560, .bf16⟩
  | .hbm, ⟨1, _⟩ => ⟨S1x2048, .f32⟩
  | .hbm, ⟨2, _⟩ => ⟨S1x2048x2560, .i8⟩
  | .hbm, ⟨3, _⟩ => ⟨S256x256, .bf16⟩
  | .hbm, ⟨4, _⟩ => ⟨S2x8x128, .i32⟩
  | .hbm, ⟨5, _⟩ => ⟨S2048x2560, .bf16⟩
  | .hbm, ⟨6, _⟩ => ⟨S2048x2560, .i8⟩
  | .hbm, ⟨7, _⟩ => ⟨S1x2048, .bf16⟩
  | .hbm, ⟨8, _⟩ => ⟨S8x1x256, .bf16⟩
  | .hbm, ⟨9, _⟩ => ⟨S2560x2048, .bf16⟩
  | .hbm, ⟨10, _⟩ => ⟨S1024x2560, .i8⟩
  | .hbm, ⟨11, _⟩ => ⟨S64x2560, .i8⟩
  | .local _ .vmem, ⟨0, _⟩ => ⟨S2048x256, .bf16⟩
  | .local _ .vmem, ⟨1, _⟩ => ⟨S2048x256, .bf16⟩
  | .local _ .vmem, ⟨2, _⟩ => ⟨S8x1x256, .bf16⟩
  | .local _ .vmem, ⟨3, _⟩ => ⟨S2048x128, .i8⟩
  | .local _ .vmem, ⟨4, _⟩ => ⟨S2048x128, .i8⟩
  | .local _ .vmem, ⟨5, _⟩ => ⟨S2048x128, .i8⟩
  | .local _ .vmem, ⟨6, _⟩ => ⟨S2048x128, .i8⟩
  | .local _ .vmem, ⟨7, _⟩ => ⟨S256x256, .bf16⟩
  | .local _ .vmem, ⟨8, _⟩ => ⟨S2x8x128, .i32⟩
  | .local _ .vmem, ⟨9, _⟩ => ⟨S256x2048, .bf16⟩
  | .local _ .vmem, ⟨10, _⟩ => ⟨S256x2048, .bf16⟩
  | .local _ .vmem, ⟨11, _⟩ => ⟨S1024x256, .i8⟩
  | .local _ .vmem, ⟨12, _⟩ => ⟨S1024x256, .i8⟩
  | .local _ .vmem, ⟨13, _⟩ => ⟨S64x256, .i8⟩
  | .local _ .vmem, ⟨14, _⟩ => ⟨S64x256, .i8⟩
  | .local _ .vmem, ⟨15, _⟩ => ⟨S2x32x128, .i32⟩
  | .local _ .vmem, ⟨16, _⟩ => ⟨S64x256, .i32⟩
  | _, _ => ⟨S1x2048x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![10], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v8 : BitVec 32 := Scalar.muli arg12 c256_i32
  v8
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32 : BitVec 32 := 256#32
  let v8 : BitVec 32 := Scalar.muli arg12 c256_i32
  let v9 : BitVec 32 := v8
  let v10 : Index := Scalar.indexCast v9
  let c0_9 : Index := 0#32
  ![v10.toNat, 0]
def k0_off2 (k0_t1 : Fin k0_t1_loop.trips) : Fin 3 → Nat :=
  let c0_i32 : BitVec 32 := 0#32
  let c1_i32 : BitVec 32 := 1#32
  let arg12 : BitVec 32 := Scf.iv c0_i32 c1_i32 k0_t1
  let v13 : Index := Scalar.indexCast arg12
  let c0_10 : Index := 0#32
  let c0_11 : Index := 0#32
  ![v13.toNat, 0, 0]
def k0_mult2 (k0_t1 : Fin k0_t1_loop.trips) : BitVec 32 :=
  let c4_i32 : BitVec 32 := 4#32
  let c0_i32 : BitVec 32 := 0#32
  let c1_i32 : BitVec 32 := 1#32
  let arg12 : BitVec 32 := Scf.iv c0_i32 c1_i32 k0_t1
  let c64_i32 : BitVec 32 := 64#32
  let v17 : BitVec 32 := Scalar.muli arg12 c64_i32
  let v21 : BitVec 32 := Scalar.muli c4_i32 v17
  v21
def k0_off3 (k0_t1 : Fin k0_t1_loop.trips) : Fin 2 → Nat :=
  let c4_i32 : BitVec 32 := 4#32
  let c0_i32 : BitVec 32 := 0#32
  let c1_i32 : BitVec 32 := 1#32
  let arg12 : BitVec 32 := Scf.iv c0_i32 c1_i32 k0_t1
  let c64_i32 : BitVec 32 := 64#32
  let v17 : BitVec 32 := Scalar.muli arg12 c64_i32
  let v21 : BitVec 32 := Scalar.muli c4_i32 v17
  let v22 : BitVec 32 := v21
  let v23 : Index := Scalar.indexCast v22
  let c0_14 : Index := 0#32
  ![v23.toNat, 0]
def k0_mult3 (k0_t1 : Fin k0_t1_loop.trips) : BitVec 32 :=
  let c4_i32_15 : BitVec 32 := 4#32
  let c0_i32 : BitVec 32 := 0#32
  let c1_i32 : BitVec 32 := 1#32
  let arg12 : BitVec 32 := Scf.iv c0_i32 c1_i32 k0_t1
  let c64_i32 : BitVec 32 := 64#32
  let v17 : BitVec 32 := Scalar.muli arg12 c64_i32
  let v28 : BitVec 32 := Scalar.muli c4_i32_15 v17
  v28
def k0_mult4 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_555 : BitVec 32 := 8#32
  let v1694 : BitVec 32 := Scalar.muli arg12 c8_i32_555
  v1694
def k0_off4 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32_555 : BitVec 32 := 8#32
  let v1694 : BitVec 32 := Scalar.muli arg12 c8_i32_555
  let v1695 : BitVec 32 := v1694
  let v1696 : Index := Scalar.indexCast v1695
  let c0_556 : Index := 0#32
  ![v1696.toNat, 0]
def k0_mult5 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_570 : BitVec 32 := 128#32
  let v1715 : BitVec 32 := Scalar.muli arg12 c128_i32_570
  v1715
def k0_off5 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_570 : BitVec 32 := 128#32
  let v1715 : BitVec 32 := Scalar.muli arg12 c128_i32_570
  let v1716 : BitVec 32 := v1715
  let v1717 : Index := Scalar.indexCast v1716
  let c0_571 : Index := 0#32
  ![v1717.toNat, 0]
def k0_mult6 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32_1138 : BitVec 32 := 8#32
  let v3378 : BitVec 32 := Scalar.muli arg12 c8_i32_1138
  v3378
def k0_off6 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32_1138 : BitVec 32 := 8#32
  let v3378 : BitVec 32 := Scalar.muli arg12 c8_i32_1138
  let v3379 : BitVec 32 := v3378
  let v3380 : Index := Scalar.indexCast v3379
  let c128 : Index := 128#32
  ![v3380.toNat, 128]
def k0_mult7 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32_1154 : BitVec 32 := 128#32
  let v3399 : BitVec 32 := Scalar.muli arg12 c128_i32_1154
  v3399
def k0_off7 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32_1154 : BitVec 32 := 128#32
  let v3399 : BitVec 32 := Scalar.muli arg12 c128_i32_1154
  let v3400 : BitVec 32 := v3399
  let v3401 : Index := Scalar.indexCast v3400
  let c128_1155 : Index := 128#32
  ![v3401.toNat, 128]
def k0_mult8 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1156 : BitVec 32 := 256#32
  let v3405 : BitVec 32 := Scalar.muli arg12 c256_i32_1156
  v3405
def k0_off8 (k0_t1 : Fin k0_t1_loop.trips) : Fin 2 → Nat :=
  let c0_1157 : Index := 0#32
  let c0_i32 : BitVec 32 := 0#32
  let c1_i32 : BitVec 32 := 1#32
  let arg12 : BitVec 32 := Scf.iv c0_i32 c1_i32 k0_t1
  let c256_i32_1156 : BitVec 32 := 256#32
  let v3405 : BitVec 32 := Scalar.muli arg12 c256_i32_1156
  let v3406 : BitVec 32 := v3405
  let v3407 : Index := Scalar.indexCast v3406
  ![0, v3407.toNat]
def k0_mult9 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32_1158 : BitVec 32 := 256#32
  let v3411 : BitVec 32 := Scalar.muli arg12 c256_i32_1158
  v3411
def k0_off9 (k0_t1 : Fin k0_t1_loop.trips) : Fin 2 → Nat :=
  let c128_1159 : Index := 128#32
  let c0_i32 : BitVec 32 := 0#32
  let c1_i32 : BitVec 32 := 1#32
  let arg12 : BitVec 32 := Scf.iv c0_i32 c1_i32 k0_t1
  let c256_i32_1158 : BitVec 32 := 256#32
  let v3411 : BitVec 32 := Scalar.muli arg12 c256_i32_1158
  let v3412 : BitVec 32 := v3411
  let v3413 : Index := Scalar.indexCast v3412
  ![128, v3413.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x8x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x256 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== XReferenceIdeal.lean ====
abbrev S1x2048x2560 : Shape := ⟨3, ![1, 2048, 2560]⟩
abbrev S1x2048 : Shape := ⟨2, ![1, 2048]⟩
abbrev S255 : Shape := ⟨1, ![255]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S1x2048x1 : Shape := ⟨3, ![1, 2048, 1]⟩
abbrev S64x32x2560 : Shape := ⟨3, ![64, 32, 2560]⟩
abbrev S32x64x2560 : Shape := ⟨3, ![32, 64, 2560]⟩
abbrev S64x2560 : Shape := ⟨2, ![64, 2560]⟩
abbrev S1x1x255 : Shape := ⟨3, ![1, 1, 255]⟩
abbrev S64x2560x1 : Shape := ⟨3, ![64, 2560, 1]⟩
abbrev S64x2560x255 : Shape := ⟨3, ![64, 2560, 255]⟩

abbrev nBuf : Space → Nat
  | .hbm => 58
  | .vmem => 0
  | .smem => 0
  | _ => 0

abbrev bufTy : (tb : Table) → Fin (tcTables nBuf tb) → BufTy
  | .hbm, ⟨0, _⟩ => ⟨S1x2048x2560, .bf16⟩
  | .hbm, ⟨1, _⟩ => ⟨S1x2048, .f32⟩
  | .hbm, ⟨2, _⟩ => ⟨S1x2048x2560, .i8⟩
  | .hbm, ⟨3, _⟩ => ⟨S255, .f32⟩
  | .hbm, ⟨4, _⟩ => ⟨S32, .i32⟩
  | .hbm, ⟨5, _⟩ => ⟨S32x1, .i32⟩
  | .hbm, ⟨6, _⟩ => ⟨S1x32, .i32⟩
  | .hbm, ⟨7, _⟩ => ⟨S32x32, .i32⟩
  | .hbm, ⟨8, _⟩ => ⟨S32x32, .i32⟩
  | .hbm, ⟨9, _⟩ => ⟨S32x32, .i32⟩
  | .hbm, ⟨10, _⟩ => ⟨S32x32, .i32⟩
  | .hbm, ⟨11, _⟩ => ⟨S_, .i32⟩
  | .hbm, ⟨12, _⟩ => ⟨S32x32, .i32⟩
  | .hbm, ⟨13, _⟩ => ⟨S32x32, .i32⟩
  | .hbm, ⟨14, _⟩ => ⟨S_, .i32⟩
  | .hbm, ⟨15, _⟩ => ⟨S32x32, .i32⟩
  | .hbm, ⟨16, _⟩ => ⟨S32x32, .i1⟩
  | .hbm, ⟨17, _⟩ => ⟨S_, .f32⟩
  | .hbm, ⟨18, _⟩ => ⟨S_, .f32⟩
  | .hbm, ⟨19, _⟩ => ⟨S32x32, .f32⟩
  | .hbm, ⟨20, _⟩ => ⟨S32x32, .f32⟩
  | .hbm, ⟨21, _⟩ => ⟨S32x32, .f32⟩
  | .hbm, ⟨22, _⟩ => ⟨S32x32, .f32⟩
  | .hbm, ⟨23, _⟩ => ⟨S1x2048x2560, .f32⟩
  | .hbm, ⟨24, _⟩ => ⟨S1x2048x1, .f32⟩
  | .hbm, ⟨25, _⟩ => ⟨S1x2048x2560, .f32⟩
  | .hbm, ⟨26, _⟩ => ⟨S1x2048x2560, .f32⟩
  | .hbm, ⟨27, _⟩ => ⟨S64x32x2560, .f32⟩
  | .hbm, ⟨28, _⟩ => ⟨S32x64x2560, .f32⟩
  | .hbm, ⟨29, _⟩ => ⟨S64x32x2560, .f32⟩
  | .hbm, ⟨30, _⟩ => ⟨S64x32x2560, .f32⟩
  | .hbm, ⟨31, _⟩ => ⟨S_, .f32⟩
  | .hbm, ⟨32, _⟩ => ⟨S64x2560, .f32⟩
  | .hbm, ⟨33, _⟩ => ⟨S_, .f32⟩
  | .hbm, ⟨34, _⟩ => ⟨S64x2560, .f32⟩
  | .hbm, ⟨35, _⟩ => ⟨S64x2560, .f32⟩
  | .hbm, ⟨36, _⟩ => ⟨S1x1x255, .f32⟩
  | .hbm, ⟨37, _⟩ => ⟨S64x2560x1, .f32⟩
  | .hbm, ⟨38, _⟩ => ⟨S64x2560x255, .f32⟩
  | .hbm, ⟨39, _⟩ => ⟨S64x2560x255, .f32⟩
  | .hbm, ⟨40, _⟩ => ⟨S64x2560x255, .i1⟩
  | .hbm, ⟨41, _⟩ => ⟨S64x2560x255, .i32⟩
  | .hbm, ⟨42, _⟩ => ⟨S_, .i32⟩
  | .hbm, ⟨43, _⟩ => ⟨S64x2560, .i32⟩
  | .hbm, ⟨44, _⟩ => ⟨S_, .i32⟩
  | .hbm, ⟨45, _⟩ => ⟨S64x2560, .i32⟩
  | .hbm, ⟨46, _⟩ => ⟨S64x2560, .i32⟩
  | .hbm, ⟨47, _⟩ => ⟨S_, .f32⟩
  | .hbm, ⟨48, _⟩ => ⟨S64x2560, .f32⟩
  | .hbm, ⟨49, _⟩ => ⟨S64x2560, .i1⟩
  | .hbm, ⟨50, _⟩ => ⟨S_, .i32⟩
  | .hbm, ⟨51, _⟩ => ⟨S_, .i32⟩
  | .hbm, ⟨52, _⟩ => ⟨S64x2560, .i32⟩
  | .hbm, ⟨53, _⟩ => ⟨S64x2560, .i32⟩
  | .hbm, ⟨54, _⟩ => ⟨S_, .i32⟩
  | .hbm, ⟨55, _⟩ => ⟨S64x2560, .i32⟩
  | .hbm, ⟨56, _⟩ => ⟨S64x2560, .i32⟩
  | .hbm, ⟨57, _⟩ => ⟨S64x2560, .i8⟩
  | _, _ => ⟨S1x2048x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_c_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_c_8 : Ref sig .tc := ⟨.hbm, 50, rfl⟩
abbrev main_call1_v0 : Ref sig .tc := ⟨.hbm, 51, rfl⟩
abbrev main_call1_v1 : Ref sig .tc := ⟨.hbm, 52, rfl⟩
abbrev main_v35 : Ref sig .tc := ⟨.hbm, 53, rfl⟩
abbrev main_c_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== Proof.Rows.lean ====
/- Buffers filled a few rows at a time: what one more store does to "the rows so far hold X". No kernel here. -/
module

public import Idealize.ShloMosaic.Lib.Writes
public import Idealize.ShloMosaic.Lib.WritesUnit
public import Idealize.ShloMosaic.Lib.VecWindow

@[expose] public section

namespace Cert.Rows
open Idealize.ShloMosaic

variable {d : Fin 2 → ℕ} {α : Type}

/-- The index (a, b) of a rank-two shape. -/
def ix (a b : ℕ) (ha : a < d 0) (hb : b < d 1) : (⟨2, d⟩ : Shape).Idx := fun i => match i with
  | 0 => ⟨a, ha⟩
  | 1 => ⟨b, hb⟩

theorem ix_ext (x y : (⟨2, d⟩ : Shape).Idx) (h0 : (x 0).val = (y 0).val) (h1 : (x 1).val = (y 1).val) : x = y :=
  funext fun i => match i with
  | 0 => Fin.ext h0
  | 1 => Fin.ext h1

theorem ix_self (x : (⟨2, d⟩ : Shape).Idx) (h0 : (x 0).val < d 0) (h1 : (x 1).val < d 1) : ix (x 0).val (x 1).val h0 h1 = x :=
  ix_ext _ _ rfl rfl

/-- Two arrays of 128 columns side by side. -/
def cat {R : ℕ} (A B : (⟨2, ![R, 128]⟩ : Shape).Idx → α) (y : (⟨2, ![R, 256]⟩ : Shape).Idx) : α :=
  if h : (y 1).val < 128 then A (ix (y 0).val (y 1).val (y 0).isLt h)
  else B (ix (y 0).val ((y 1).val - 128) (y 0).isLt (by have : (y 1).val < 256 := (y 1).isLt; show _ < 128; omega))

/-- Two arrays of 1024 rows interleaved in slabs of 32 rows. -/
def lace (A B : (⟨2, ![1024, 256]⟩ : Shape).Idx → α) (y : (⟨2, ![2048, 256]⟩ : Shape).Idx) : α :=
  have h : 32 * ((y 0).val / 64) + (y 0).val % 32 < 1024 := by have : (y 0).val < 2048 := (y 0).isLt; omega
  if (y 0).val / 32 % 2 = 0 then A (ix _ (y 1).val h (y 1).isLt) else B (ix _ (y 1).val h (y 1).isLt)

/-- Rows `H·j … H·j + H` of an array. -/
def rowsOf {R C : ℕ} (H : ℕ) (X : (⟨2, ![R, C]⟩ : Shape).Idx → α) (j : ℕ) (hj : H * j + H ≤ R) (x : (⟨2, ![H, C]⟩ : Shape).Idx) : α :=
  X (ix (H * j + (x 0).val) (x 1).val (by have : (x 0).val < H := (x 0).isLt; show _ < R; omega) (x 1).isLt)

/-- The rows below `o` of `Y` are those of `X`. -/
def Upto (o : ℕ) (X Y : (⟨2, d⟩ : Shape).Idx → α) : Prop := ∀ y, (y 0).val < o → Y y = X y

/-- The rows below `o` of `Y` are those of `N`, the others those of `O`. -/
def Mid (o : ℕ) (N O Y : (⟨2, d⟩ : Shape).Idx → α) : Prop := ∀ y, Y y = if (y 0).val < o then N y else O y

theorem Upto.zero (X Y : (⟨2, d⟩ : Shape).Idx → α) : Upto 0 X Y := fun _ h => absurd h (Nat.not_lt_zero _)

theorem Upto.all {o : ℕ} {X Y : (⟨2, d⟩ : Shape).Idx → α} (h : Upto o X Y) (ho : d 0 ≤ o) : Y = X :=
  funext fun y => h y (Nat.lt_of_lt_of_le (y 0).isLt ho)

theorem Mid.zero (N O : (⟨2, d⟩ : Shape).Idx → α) : Mid 0 N O O := fun _ => (if_neg (Nat.not_lt_zero _)).symm

theorem Mid.all {o : ℕ} {N O Y : (⟨2, d⟩ : Shape).Idx → α} (h : Mid o N O Y) (ho : d 0 ≤ o) : Y = N :=
  funext fun y => (h y).trans (if_pos (Nat.lt_of_lt_of_le (y 0).isLt ho))

/-- The block of rows at `j` is still the old one. -/
theorem Mid.rows {R C H j : ℕ} {N O Y : (⟨2, ![R, C]⟩ : Shape).Idx → α} (h : Mid (H * j) N O Y) (hj : H * j + H ≤ R) :
    rowsOf H Y j hj = rowsOf H O j hj :=
  funext fun x => (h _).trans (if_neg (by show ¬ (H * j + (x 0).val < H * j); omega))

section
variable {sig : RefSig} {κ : Kind} {sp : Space} {e : EltTy} {Val : EltTy → Type}

/-- A load of the rows of block `j`. -/
theorem readAt_rows {R C H j : ℕ} (v : View sig κ sp ⟨2, ![R, C]⟩ e) (f : v.ty.Contents Val) (off : Fin 2 → ℕ)
    (inb : ∀ a, off a + (⟨2, ![H, C]⟩ : Shape).size a ≤ (⟨2, ![R, C]⟩ : Shape).size a)
    (hoff : off = ![H * j, 0]) (hj : H * j + H ≤ R) :
    v.readAt Val (Rect.unit (s := ⟨2, ![R, C]⟩) off (⟨2, ![H, C]⟩ : Shape).size inb).toLoadRect f = rowsOf H (v.read Val f) j hj := by
  subst hoff
  funext x
  refine congrArg (v.read Val f) (ix_ext _ _ ?_ ?_)
  · show H * j + 1 * (x 0).val = H * j + (x 0).val; omega
  · show 0 + 1 * (x 1).val = (x 1).val; omega

variable {R C : ℕ} (v : View sig κ sp ⟨2, ![R, C]⟩ e) (f : v.ty.Contents Val)

/-- A store whose payload agrees with `X`, read at any place: `X` there if the rectangle holds the place, else what the
    earlier stores left. -/
theorem agree_cons {W D : ℕ} (o c : ℕ) (off : Fin 2 → ℕ) (inb : ∀ a, off a + (⟨2, ![W, D]⟩ : Shape).size a ≤ (⟨2, ![R, C]⟩ : Shape).size a)
    (w : (Rect.unit (s := ⟨2, ![R, C]⟩) off (⟨2, ![W, D]⟩ : Shape).size inb).shape.Idx → Val e) (L : List (View.Piece Val ⟨2, ![R, C]⟩ e))
    (X : (⟨2, ![R, C]⟩ : Shape).Idx → Val e) (y : (⟨2, ![R, C]⟩ : Shape).Idx) (hoff : off = ![o, c])
    (hw : ∀ x : (⟨2, ![W, D]⟩ : Shape).Idx, ∀ z : (⟨2, ![R, C]⟩ : Shape).Idx, (z 0).val = o + (x 0).val → (z 1).val = c + (x 1).val → w x = X z)
    (hr : ¬ (o ≤ (y 0).val ∧ (y 0).val < o + W ∧ c ≤ (y 1).val ∧ (y 1).val < c + D) → v.read Val (v.writes Val f L) y = X y) :
    v.read Val (v.writes Val f (⟨Rect.unit (s := ⟨2, ![R, C]⟩) off (⟨2, ![W, D]⟩ : Shape).size inb, w⟩ :: L)) y = X y := by
  subst hoff
  by_cases hy : y ∈ (Rect.unit (s := ⟨2, ![R, C]⟩) ![o, c] (⟨2, ![W, D]⟩ : Shape).size inb).set
  · obtain ⟨x, rfl⟩ := LoadRect.exists_idx_of_mem _ hy
    refine (View.read_writes_cons_emb v f _ w L x).trans (hw x _ ?_ ?_)
    · show o + 1 * (x 0).val = _; omega
    · show c + 1 * (x 1).val = _; omega
  · refine (View.read_writes_cons_miss v f (⟨Rect.unit (s := ⟨2, ![R, C]⟩) ![o, c] (⟨2, ![W, D]⟩ : Shape).size inb, w⟩ : View.Piece Val ⟨2, ![R, C]⟩ e) L y hy).trans ?_
    refine hr fun h => hy ?_
    rw [Rect.mem_set_unit]
    intro a
    match a with
    | 0 => exact ⟨h.1, h.2.1⟩
    | 1 => exact ⟨h.2.2.1, h.2.2.2⟩

/-- One more block of full rows. -/
theorem Upto.step {o H : ℕ} {off : Fin 2 → ℕ} {inb : ∀ a, off a + (⟨2, ![H, C]⟩ : Shape).size a ≤ (⟨2, ![R, C]⟩ : Shape).size a}
    {w : (Rect.unit (s := ⟨2, ![R, C]⟩) off (⟨2, ![H, C]⟩ : Shape).size inb).shape.Idx → Val e} {X : (⟨2, ![R, C]⟩ : Shape).Idx → Val e}
    (h : Upto o X (v.read Val f)) (hoff : off = ![o, 0])
    (hw : ∀ x : (⟨2, ![H, C]⟩ : Shape).Idx, ∀ z : (⟨2, ![R, C]⟩ : Shape).Idx, (z 0).val = o + (x 0).val → (z 1).val = 0 + (x 1).val → w x = X z) :
    Upto (o + H) X (v.read Val (v.writes Val f [⟨Rect.unit (s := ⟨2, ![R, C]⟩) off (⟨2, ![H, C]⟩ : Shape).size inb, w⟩])) := fun y hy => by
  refine agree_cons v f o 0 off inb w [] X y hoff hw fun hn => h y ?_
  have : (y 1).val < C := (y 1).isLt
  omega

/-- One more block of full rows, the rows after it still the old ones. -/
theorem Mid.step {o H : ℕ} {off : Fin 2 → ℕ} {inb : ∀ a, off a + (⟨2, ![H, C]⟩ : Shape).size a ≤ (⟨2, ![R, C]⟩ : Shape).size a}
    {w : (Rect.unit (s := ⟨2, ![R, C]⟩) off (⟨2, ![H, C]⟩ : Shape).size inb).shape.Idx → Val e} {N O : (⟨2, ![R, C]⟩ : Shape).Idx → Val e}
    (h : Mid o N O (v.read Val f)) (hoff : off = ![o, 0])
    (hw : ∀ x : (⟨2, ![H, C]⟩ : Shape).Idx, ∀ z : (⟨2, ![R, C]⟩ : Shape).Idx, (z 0).val = o + (x 0).val → (z 1).val = 0 + (x 1).val → w x = N z) :
    Mid (o + H) N O (v.read Val (v.writes Val f [⟨Rect.unit (s := ⟨2, ![R, C]⟩) off (⟨2, ![H, C]⟩ : Shape).size inb, w⟩])) := fun y => by
  refine agree_cons v f o 0 off inb w [] (fun y => if (y 0).val < o + H then N y else O y) y hoff ?_ fun hn => ?_
  · intro x z h0 h1
    have hx : (x 0).val < H := (x 0).isLt
    have hc : (z 0).val < o + H := by omega
    simp only [hc, if_true]
    exact hw x z h0 h1
  · have hy : (y 1).val < C := (y 1).isLt
    show v.read Val f y = _
    rw [h y]
    by_cases h1 : (y 0).val < o
    · rw [if_pos h1, if_pos (by omega)]
    · rw [if_neg h1, if_neg (by omega)]

end
/-- Two stores of the two halves of `H` rows. -/
theorem Upto.cat {R H : ℕ} {sig : RefSig} {κ : Kind} {sp : Space} {e : EltTy} {Val : EltTy → Type} (v : View sig κ sp ⟨2, ![R, 256]⟩ e)
    (f : v.ty.Contents Val) (vA vB : View sig κ sp ⟨2, ![R, 128]⟩ e) (XA : vA.ty.Contents Val) (XB : vB.ty.Contents Val) {o : ℕ}
    {off1 off2 : Fin 2 → ℕ} {offS : Fin 2 → ℕ}
    {inb1 : ∀ a, off1 a + (⟨2, ![H, 128]⟩ : Shape).size a ≤ (⟨2, ![R, 256]⟩ : Shape).size a}
    {inb2 : ∀ a, off2 a + (⟨2, ![H, 128]⟩ : Shape).size a ≤ (⟨2, ![R, 256]⟩ : Shape).size a}
    (inbA inbB : ∀ a, offS a + (⟨2, ![H, 128]⟩ : Shape).size a ≤ (⟨2, ![R, 128]⟩ : Shape).size a)
    {w1 w2 : (⟨2, ![H, 128]⟩ : Shape).Idx → Val e}
    (h : Upto o (Rows.cat (vA.read Val XA) (vB.read Val XB)) (v.read Val f))
    (h1 : off1 = ![o, 0]) (h2 : off2 = ![o, 128]) (hS : offS = ![o, 0])
    (e1 : w1 = vA.readAt Val (Rect.unit (s := ⟨2, ![R, 128]⟩) offS (⟨2, ![H, 128]⟩ : Shape).size inbA).toLoadRect XA)
    (e2 : w2 = vB.readAt Val (Rect.unit (s := ⟨2, ![R, 128]⟩) offS (⟨2, ![H, 128]⟩ : Shape).size inbB).toLoadRect XB) :
    Upto (o + H) (Rows.cat (vA.read Val XA) (vB.read Val XB)) (v.read Val (v.writes Val f
      [⟨Rect.unit (s := ⟨2, ![R, 256]⟩) off2 (⟨2, ![H, 128]⟩ : Shape).size inb2, w2⟩,
       ⟨Rect.unit (s := ⟨2, ![R, 256]⟩) off1 (⟨2, ![H, 128]⟩ : Shape).size inb1, w1⟩])) := fun y hy => by
  subst hS e1 e2
  refine agree_cons v f o 128 off2 inb2 _ _ _ y h2 ?_ fun n2 => agree_cons v f o 0 off1 inb1 _ _ _ y h1 ?_ fun n1 => h y ?_
  · intro x z z0 z1
    have hx : (x 1).val < 128 := (x 1).isLt
    refine Eq.trans ?_ (dif_neg (by omega)).symm
    refine congrArg (vB.read Val XB) (ix_ext _ _ ?_ ?_)
    · show o + 1 * (x 0).val = (z 0).val; omega
    · show 0 + 1 * (x 1).val = (z 1).val - 128; omega
  · intro x z z0 z1
    have hx : (x 1).val < 128 := (x 1).isLt
    refine Eq.trans ?_ (dif_pos (by omega)).symm
    refine congrArg (vA.read Val XA) (ix_ext _ _ ?_ ?_)
    · show o + 1 * (x 0).val = (z 0).val; omega
    · show 0 + 1 * (x 1).val = (z 1).val; omega
  · have : (y 1).val < 256 := (y 1).isLt
    omega

/-- One slab of 32 rows of an interleaved buffer: slab `r` of the eight of trip `k`, from the first source (`r` even) or the
    second (`r` odd). -/
theorem slab_cons {sig : RefSig} {κ : Kind} {sp : Space} {e : EltTy} {Val : EltTy → Type} (v : View sig κ sp ⟨2, ![2048, 256]⟩ e)
    (f : v.ty.Contents Val) (vA vB : View sig κ sp ⟨2, ![1024, 256]⟩ e) (XA : vA.ty.Contents Val) (XB : vB.ty.Contents Val) (k r : ℕ)
    (hr : r < 8)
    {off offS : Fin 2 → ℕ} {inb : ∀ a, off a + (⟨2, ![32, 256]⟩ : Shape).size a ≤ (⟨2, ![2048, 256]⟩ : Shape).size a}
    (inbS : ∀ a, offS a + (⟨2, ![32, 256]⟩ : Shape).size a ≤ (⟨2, ![1024, 256]⟩ : Shape).size a)
    {w : (⟨2, ![32, 256]⟩ : Shape).Idx → Val e} {L : List (View.Piece Val ⟨2, ![2048, 256]⟩ e)} {y : (⟨2, ![2048, 256]⟩ : Shape).Idx}
    (h : off = ![256 * k + 32 * r, 0]) (hS : offS = ![128 * k + 32 * (r / 2), 0])
    (e : w = if r % 2 = 0 then vA.readAt Val (Rect.unit (s := ⟨2, ![1024, 256]⟩) offS (⟨2, ![32, 256]⟩ : Shape).size inbS).toLoadRect XA
      else vB.readAt Val (Rect.unit (s := ⟨2, ![1024, 256]⟩) offS (⟨2, ![32, 256]⟩ : Shape).size inbS).toLoadRect XB)
    (hn : ¬ (256 * k + 32 * r ≤ (y 0).val ∧ (y 0).val < 256 * k + 32 * r + 32) →
      v.read Val (v.writes Val f L) y = lace (vA.read Val XA) (vB.read Val XB) y) :
    v.read Val (v.writes Val f (⟨Rect.unit (s := ⟨2, ![2048, 256]⟩) off (⟨2, ![32, 256]⟩ : Shape).size inb, w⟩ :: L)) y
      = lace (vA.read Val XA) (vB.read Val XB) y := by
  subst hS e
  refine agree_cons v f (256 * k + 32 * r) 0 off inb _ L _ y h ?_ fun n => hn fun hh => n ?_
  · intro x z z0 z1
    have hx : (x 0).val < 32 := (x 0).isLt
    by_cases hp : r % 2 = 0
    · rw [if_pos hp]
      refine Eq.trans ?_ (if_pos (by omega)).symm
      refine congrArg (vA.read Val XA) (ix_ext _ _ ?_ ?_)
      · show 128 * k + 32 * (r / 2) + 1 * (x 0).val = 32 * ((z 0).val / 64) + (z 0).val % 32; omega
      · show 0 + 1 * (x 1).val = (z 1).val; omega
    · rw [if_neg hp]
      refine Eq.trans ?_ (if_neg (by omega)).symm
      refine congrArg (vB.read Val XB) (ix_ext _ _ ?_ ?_)
      · show 128 * k + 32 * (r / 2) + 1 * (x 0).val = 32 * ((z 0).val / 64) + (z 0).val % 32; omega
      · show 0 + 1 * (x 1).val = (z 1).val; omega
  · have : (y 1).val < 256 := (y 1).isLt
    omega

end Cert.Rows
-- ==== Proof.Kernel.Loops.lean ====
/- The counted loops of the body by what they mean: a trip of a copying loop fills the next rows of the operand buffers, a
   trip of a computing loop adds the next rows of a product. -/
module

public import proofs.«01_k».proof.Proof.Rows
public import proofs.«01_k».proof.Proof.Gen.Kernel.Loops
public import proofs.«01_k».proof.Proof.Gen.Kernel.Frame
public import Idealize.ShloMosaic.Lib.Pipeline.FrameValue
public import Idealize.ShloMosaic.Lib.Pipeline.Value
public import Idealize.ShloMosaic.Lib.Tactic

@[expose] public section

set_option warn.classDefReducibility false
set_option maxRecDepth 8192
set_option maxHeartbeats 4000000

noncomputable section

namespace Cert.Proof.Kernel

open Cert.Kernel Cert.Kernel.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := Pipeline.UD sig nD τ
abbrev 𝒱₀ : Variants := Variants.none

/-- The accumulator after a chunk: rows `256·j … 256·j + 256` are the old ones and those of one product. -/
def accN (D : S2048x256.Idx → Elt F .bf16) (W : S2560x256.Idx → Elt F .bf16) (O : S2048x2560.Idx → Elt F .f32) (y : S2048x2560.Idx) : Elt F .f32 :=
  have h0 : (y 0).val < 2048 := (y 0).isLt
  k0_pay16 (F := F) (rowsOf 256 D ((y 0).val / 256) (by omega)) W (rowsOf 256 O ((y 0).val / 256) (by omega))
    (ix ((y 0).val % 256) (y 1).val (Nat.mod_lt _ (by decide)) (y 1).isLt)

/-- The block of dw of a chunk: rows `320·j … 320·j + 320` are those of one product. -/
def dwN (X : S2560x2048.Idx → Elt F .bf16) (T : S2048x256.Idx → Elt F .bf16) (y : S2560x256.Idx) : Elt F .f32 :=
  have h0 : (y 0).val < 2560 := (y 0).isLt
  k0_pay17 (F := F) (rowsOf 320 X ((y 0).val / 320) (by omega)) T
    (ix ((y 0).val % 320) (y 1).val (Nat.mod_lt _ (by decide)) (y 1).isLt)

theorem accN_at (D : S2048x256.Idx → Elt F .bf16) (W : S2560x256.Idx → Elt F .bf16) (O : S2048x2560.Idx → Elt F .f32) (k : ℕ) (hk : k < 8)
    (x : S256x2560.Idx) (z : S2048x2560.Idx) (h0 : (z 0).val = 256 * k + (x 0).val) (h1 : (z 1).val = 0 + (x 1).val) :
    k0_pay16 (F := F) (rowsOf 256 D k (by omega)) W (rowsOf 256 O k (by omega)) x = accN D W O z := by
  have hx : (x 0).val < 256 := (x 0).isLt
  have e : (z 0).val / 256 = k := by omega
  subst e
  exact congrArg _ (ix_ext _ _ (by show _ = (z 0).val % 256; omega) (by show _ = (z 1).val; omega))

theorem dwN_at (X : S2560x2048.Idx → Elt F .bf16) (T : S2048x256.Idx → Elt F .bf16) (k : ℕ) (hk : k < 8)
    (x : S320x256.Idx) (z : S2560x256.Idx) (h0 : (z 0).val = 320 * k + (x 0).val) (h1 : (z 1).val = 0 + (x 1).val) :
    k0_pay17 (F := F) (rowsOf 320 X k (by omega)) T x = dwN X T z := by
  have hx : (x 0).val < 320 := (x 0).isLt
  have e : (z 0).val / 320 = k := by omega
  subst e
  exact congrArg _ (ix_ext _ _ (by show _ = (z 0).val % 320; omega) (by show _ = (z 1).val; omega))

@[sl_loop] def loopInv1 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2560x128 .bf16) (harg3 : arg3.IsWhole) (arg4 : Memref sig .tc .vmem S2560x128 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S2560x2048 .bf16) (harg7 : arg7.IsWhole) (arg8 : Memref sig .tc .vmem S2560x256 .f32) (harg8 : arg8.IsWhole) (arg9 : Memref sig .tc .hbm S2048x2560 .bf16) (harg9 : arg9.IsWhole) (arg10 : Memref sig .tc .vmem S2048x2560 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2560x256 .bf16) (harg15 : arg15.IsWhole) (arg16 : Memref sig .tc .vmem S2560x256 .bf16) (harg16 : arg16.IsWhole) (arg17 : Memref sig .tc .vmem S2x256x2560 .bf16) (harg17 : arg17.IsWhole) (arg18 : DmaSems sig S2) (hc : k0_cond1 i = 1#1)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) :
    LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 hc where
  inv := fun k _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg10.view.loc (c : Thread nD τ) ↦[arg10.view.set]{fullShare} f) ∗ ⌜Upto (256 * k) (fun _ => Scalar.ofBits (F := F) .f32 0x00000000#32) (arg10.view.read (Elt F) f)⌝) ∗ (∃ f, (arg11.view.loc (c : Thread nD τ) ↦[arg11.view.set]{fullShare} f) ∗ ⌜Upto (256 * k) (cat (arg1.view.read (Elt F) X1) (arg2.view.read (Elt F) X2)) (arg11.view.read (Elt F) f)⌝) ∗ (∃ f, (arg13.view.loc (c : Thread nD τ) ↦[arg13.view.set]{fullShare} f) ∗ ⌜Upto (256 * k) (lace (arg5.view.read (Elt F) X5) (arg6.view.read (Elt F) X6)) (arg13.view.read (Elt F) f)⌝) ∗ (∃ f, (arg15.view.loc (c : Thread nD τ) ↦[arg15.view.set]{fullShare} f) ∗ ⌜Upto (320 * k) (cat (arg3.view.read (Elt F) X3) (arg4.view.read (Elt F) X4)) (arg15.view.read (Elt F) f)⌝))
  step := fun k acc => by
    have hk : k.val < 8 := Nat.lt_of_lt_of_le k.isLt k0_t1_abs.2.1
    unfold k0_t1_body
    iintro ⟨HR1, HR2, HR3, HR4, HR5, HR6, ⟨%f10, HW10, %h10⟩, ⟨%f11, HW11, %h11⟩, ⟨%f13, HW13, %h13⟩, ⟨%f15, HW15, %h15⟩⟩
    sl_exec
    sl_step
    isplitl [HR1]; · iexact HR1
    isplitl [HR2]; · iexact HR2
    isplitl [HR3]; · iexact HR3
    isplitl [HR4]; · iexact HR4
    isplitl [HR5]; · iexact HR5
    isplitl [HR6]; · iexact HR6
    isplitl [HW10]
    · iexists _; isplitl [HW10]; · iexact HW10
      ipureintro
      exact Upto.step arg10.view f10 h10 (k0_off1_eq k) fun x z _ _ => rfl
    isplitl [HW11]
    · iexists _; isplitl [HW11]; · iexact HW11
      ipureintro
      exact Upto.cat arg11.view f11 arg1.view arg2.view X1 X2 (k0_off2_inb i k hc) (k0_off2_inb i k hc) h11 (k0_off3_eq k) (k0_off4_eq k) (k0_off2_eq k)
        (shapeCast_self _ _) (by sl_unfold_run_names; exact shapeCast_self _ _)
    isplitl [HW13]
    · iexists _; isplitl [HW13]; · iexact HW13
      ipureintro
      intro y hy
      refine slab_cons arg13.view f13 arg5.view arg6.view X5 X6 k 7 (by decide) (k0_off8_inb i k hc ⟨3, by decide⟩) (k0_off9_eq k ⟨7, by decide⟩) (k0_off8_eq k ⟨3, by decide⟩) (shapeCast_self _ _) fun n7 => ?_
      refine slab_cons arg13.view f13 arg5.view arg6.view X5 X6 k 6 (by decide) (k0_off8_inb i k hc ⟨3, by decide⟩) (k0_off9_eq k ⟨6, by decide⟩) (k0_off8_eq k ⟨3, by decide⟩) (shapeCast_self _ _) fun n6 => ?_
      refine slab_cons arg13.view f13 arg5.view arg6.view X5 X6 k 5 (by decide) (k0_off8_inb i k hc ⟨2, by decide⟩) (k0_off9_eq k ⟨5, by decide⟩) (k0_off8_eq k ⟨2, by decide⟩) (shapeCast_self _ _) fun n5 => ?_
      refine slab_cons arg13.view f13 arg5.view arg6.view X5 X6 k 4 (by decide) (k0_off8_inb i k hc ⟨2, by decide⟩) (k0_off9_eq k ⟨4, by decide⟩) (k0_off8_eq k ⟨2, by decide⟩) (shapeCast_self _ _) fun n4 => ?_
      refine slab_cons arg13.view f13 arg5.view arg6.view X5 X6 k 3 (by decide) (k0_off8_inb i k hc ⟨1, by decide⟩) (k0_off9_eq k ⟨3, by decide⟩) (k0_off8_eq k ⟨1, by decide⟩) (shapeCast_self _ _) fun n3 => ?_
      refine slab_cons arg13.view f13 arg5.view arg6.view X5 X6 k 2 (by decide) (k0_off8_inb i k hc ⟨1, by decide⟩) (k0_off9_eq k ⟨2, by decide⟩) (k0_off8_eq k ⟨1, by decide⟩) (shapeCast_self _ _) fun n2 => ?_
      refine slab_cons arg13.view f13 arg5.view arg6.view X5 X6 k 1 (by decide) (k0_off8_inb i k hc ⟨0, by decide⟩) (k0_off9_eq k ⟨1, by decide⟩) (k0_off8_eq k ⟨0, by decide⟩) (shapeCast_self _ _) fun n1 => ?_
      refine slab_cons arg13.view f13 arg5.view arg6.view X5 X6 k 0 (by decide) (k0_off8_inb i k hc ⟨0, by decide⟩) (k0_off9_eq k ⟨0, by decide⟩) (k0_off8_eq k ⟨0, by decide⟩) (shapeCast_self _ _) fun n0 => ?_
      exact h13 y (by omega)
    iexists _; isplitl [HW15]; · iexact HW15
    ipureintro
    exact Upto.cat arg15.view f15 arg3.view arg4.view X3 X4 (k0_off5_inb i k hc) (k0_off5_inb i k hc) h15 (k0_off6_eq k) (k0_off7_eq k) (k0_off5_eq k)
        (shapeCast_self _ _) (by sl_unfold_run_names; exact shapeCast_self _ _)

@[sl_loop] def loopInv2 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2560x128 .bf16) (harg3 : arg3.IsWhole) (arg4 : Memref sig .tc .vmem S2560x128 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S2560x2048 .bf16) (harg7 : arg7.IsWhole) (arg8 : Memref sig .tc .vmem S2560x256 .f32) (harg8 : arg8.IsWhole) (arg9 : Memref sig .tc .hbm S2048x2560 .bf16) (harg9 : arg9.IsWhole) (arg10 : Memref sig .tc .vmem S2048x2560 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2560x256 .bf16) (harg15 : arg15.IsWhole) (arg16 : Memref sig .tc .vmem S2560x256 .bf16) (harg16 : arg16.IsWhole) (arg17 : Memref sig .tc .vmem S2x256x2560 .bf16) (harg17 : arg17.IsWhole) (arg18 : DmaSems sig S2) (hc : k0_cond2 i = 1#1)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X15 : BufTy.Contents (Elt F) arg15.view.ty) (O : S2048x2560.Idx → Elt F .f32) :
    LoopInvTy_k0_t2 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 hc where
  inv := fun k _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (arg13.view.loc (c : Thread nD τ) ↦[arg13.view.set]{fullShare} X13) ∗ (arg15.view.loc (c : Thread nD τ) ↦[arg15.view.set]{fullShare} X15) ∗ (∃ f, (arg8.view.loc (c : Thread nD τ) ↦[arg8.view.set]{fullShare} f) ∗ ⌜Upto (320 * k) (dwN (arg7.view.read (Elt F) X7) (arg13.view.read (Elt F) X13)) (arg8.view.read (Elt F) f)⌝) ∗ (∃ f, (arg10.view.loc (c : Thread nD τ) ↦[arg10.view.set]{fullShare} f) ∗ ⌜Mid (256 * k) (accN (arg11.view.read (Elt F) X11) (arg15.view.read (Elt F) X15) O) O (arg10.view.read (Elt F) f)⌝) ∗ (∃ f, (arg12.view.loc (c : Thread nD τ) ↦[arg12.view.set]{fullShare} f) ∗ ⌜Upto (256 * k) (cat (arg1.view.read (Elt F) X1) (arg2.view.read (Elt F) X2)) (arg12.view.read (Elt F) f)⌝) ∗ (∃ f, (arg14.view.loc (c : Thread nD τ) ↦[arg14.view.set]{fullShare} f) ∗ ⌜Upto (256 * k) (lace (arg5.view.read (Elt F) X5) (arg6.view.read (Elt F) X6)) (arg14.view.read (Elt F) f)⌝) ∗ (∃ f, (arg16.view.loc (c : Thread nD τ) ↦[arg16.view.set]{fullShare} f) ∗ ⌜Upto (320 * k) (cat (arg3.view.read (Elt F) X3) (arg4.view.read (Elt F) X4)) (arg16.view.read (Elt F) f)⌝))
  step := fun k acc => by
    have hk : k.val < 8 := Nat.lt_of_lt_of_le k.isLt k0_t2_abs.2.1
    unfold k0_t2_body
    iintro ⟨HR1, HR2, HR3, HR4, HR5, HR6, HR7, HR11, HR13, HR15, ⟨%f8, HW8, %h8⟩, ⟨%f10, HW10, %h10⟩, ⟨%f12, HW12, %h12⟩, ⟨%f14, HW14, %h14⟩, ⟨%f16, HW16, %h16⟩⟩
    sl_exec
    sl_step
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR11]; · iexact HR11
    isplitl [HR13]; · iexact HR13
    isplitl [HR15]; · iexact HR15
    isplitl [HW8]
    · iexists _; isplitl [HW8]; · iexact HW8
      ipureintro
      refine Upto.step arg8.view f8 h8 (k0_off13_eq k) fun x z z0 z1 => ?_
      rw [← dwN_at _ _ k.val hk x z z0 z1, ← readAt_rows arg7.view X7 _ (k0_off12_inb i k hc) (k0_off12_eq k), ← View.readAt_full arg13.view X13 inb_S2048x256_S2048x256_0_0]
      all_goals rfl
    isplitl [HW10]
    · iexists _; isplitl [HW10]; · iexact HW10
      ipureintro
      refine Mid.step arg10.view f10 h10 (k0_off11_eq k) fun x z z0 z1 => ?_
      rw [← accN_at _ _ _ k.val hk x z z0 z1, ← Mid.rows h10 (by omega), ← readAt_rows arg11.view X11 _ (k0_off10_inb i k hc) (k0_off10_eq k), ← readAt_rows arg10.view f10 _ (k0_off11_inb i k hc) (k0_off11_eq k), ← View.readAt_full arg15.view X15 inb_S2560x256_S2560x256_0_0]
      all_goals rfl
    isplitl [HW12]
    · iexists _; isplitl [HW12]; · iexact HW12
      ipureintro
      exact Upto.cat arg12.view f12 arg1.view arg2.view X1 X2 (k0_off14_inb i k hc) (k0_off14_inb i k hc) h12 (k0_off15_eq k) (k0_off16_eq k) (k0_off14_eq k)
        (shapeCast_self _ _) (by sl_unfold_run_names; exact shapeCast_self _ _)
    isplitl [HW14]
    · iexists _; isplitl [HW14]; · iexact HW14
      ipureintro
      intro y hy
      refine slab_cons arg14.view f14 arg5.view arg6.view X5 X6 k 7 (by decide) (k0_off20_inb i k hc ⟨3, by decide⟩) (k0_off21_eq k ⟨7, by decide⟩) (k0_off20_eq k ⟨3, by decide⟩) (shapeCast_self _ _) fun n7 => ?_
      refine slab_cons arg14.view f14 arg5.view arg6.view X5 X6 k 6 (by decide) (k0_off20_inb i k hc ⟨3, by decide⟩) (k0_off21_eq k ⟨6, by decide⟩) (k0_off20_eq k ⟨3, by decide⟩) (shapeCast_self _ _) fun n6 => ?_
      refine slab_cons arg14.view f14 arg5.view arg6.view X5 X6 k 5 (by decide) (k0_off20_inb i k hc ⟨2, by decide⟩) (k0_off21_eq k ⟨5, by decide⟩) (k0_off20_eq k ⟨2, by decide⟩) (shapeCast_self _ _) fun n5 => ?_
      refine slab_cons arg14.view f14 arg5.view arg6.view X5 X6 k 4 (by decide) (k0_off20_inb i k hc ⟨2, by decide⟩) (k0_off21_eq k ⟨4, by decide⟩) (k0_off20_eq k ⟨2, by decide⟩) (shapeCast_self _ _) fun n4 => ?_
      refine slab_cons arg14.view f14 arg5.view arg6.view X5 X6 k 3 (by decide) (k0_off20_inb i k hc ⟨1, by decide⟩) (k0_off21_eq k ⟨3, by decide⟩) (k0_off20_eq k ⟨1, by decide⟩) (shapeCast_self _ _) fun n3 => ?_
      refine slab_cons arg14.view f14 arg5.view arg6.view X5 X6 k 2 (by decide) (k0_off20_inb i k hc ⟨1, by decide⟩) (k0_off21_eq k ⟨2, by decide⟩) (k0_off20_eq k ⟨1, by decide⟩) (shapeCast_self _ _) fun n2 => ?_
      refine slab_cons arg14.view f14 arg5.view arg6.view X5 X6 k 1 (by decide) (k0_off20_inb i k hc ⟨0, by decide⟩) (k0_off21_eq k ⟨1, by decide⟩) (k0_off20_eq k ⟨0, by decide⟩) (shapeCast_self _ _) fun n1 => ?_
      refine slab_cons arg14.view f14 arg5.view arg6.view X5 X6 k 0 (by decide) (k0_off20_inb i k hc ⟨0, by decide⟩) (k0_off21_eq k ⟨0, by decide⟩) (k0_off20_eq k ⟨0, by decide⟩) (shapeCast_self _ _) fun n0 => ?_
      exact h14 y (by omega)
    iexists _; isplitl [HW16]; · iexact HW16
    ipureintro
    exact Upto.cat arg16.view f16 arg3.view arg4.view X3 X4 (k0_off17_inb i k hc) (k0_off17_inb i k hc) h16 (k0_off18_eq k) (k0_off19_eq k) (k0_off17_eq k)
        (shapeCast_self _ _) (by sl_unfold_run_names; exact shapeCast_self _ _)

@[sl_loop] def loopInv3 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2560x128 .bf16) (harg3 : arg3.IsWhole) (arg4 : Memref sig .tc .vmem S2560x128 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S2560x2048 .bf16) (harg7 : arg7.IsWhole) (arg8 : Memref sig .tc .vmem S2560x256 .f32) (harg8 : arg8.IsWhole) (arg9 : Memref sig .tc .hbm S2048x2560 .bf16) (harg9 : arg9.IsWhole) (arg10 : Memref sig .tc .vmem S2048x2560 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2560x256 .bf16) (harg15 : arg15.IsWhole) (arg16 : Memref sig .tc .vmem S2560x256 .bf16) (harg16 : arg16.IsWhole) (arg17 : Memref sig .tc .vmem S2x256x2560 .bf16) (harg17 : arg17.IsWhole) (arg18 : DmaSems sig S2) (hc : k0_cond3 i = 1#1)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X12 : BufTy.Contents (Elt F) arg12.view.ty) (X14 : BufTy.Contents (Elt F) arg14.view.ty) (X16 : BufTy.Contents (Elt F) arg16.view.ty) (O : S2048x2560.Idx → Elt F .f32) :
    LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 hc where
  inv := fun k _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ (arg14.view.loc (c : Thread nD τ) ↦[arg14.view.set]{fullShare} X14) ∗ (arg16.view.loc (c : Thread nD τ) ↦[arg16.view.set]{fullShare} X16) ∗ (∃ f, (arg8.view.loc (c : Thread nD τ) ↦[arg8.view.set]{fullShare} f) ∗ ⌜Upto (320 * k) (dwN (arg7.view.read (Elt F) X7) (arg14.view.read (Elt F) X14)) (arg8.view.read (Elt F) f)⌝) ∗ (∃ f, (arg10.view.loc (c : Thread nD τ) ↦[arg10.view.set]{fullShare} f) ∗ ⌜Mid (256 * k) (accN (arg12.view.read (Elt F) X12) (arg16.view.read (Elt F) X16) O) O (arg10.view.read (Elt F) f)⌝) ∗ (∃ f, (arg11.view.loc (c : Thread nD τ) ↦[arg11.view.set]{fullShare} f) ∗ ⌜Upto (256 * k) (cat (arg1.view.read (Elt F) X1) (arg2.view.read (Elt F) X2)) (arg11.view.read (Elt F) f)⌝) ∗ (∃ f, (arg13.view.loc (c : Thread nD τ) ↦[arg13.view.set]{fullShare} f) ∗ ⌜Upto (256 * k) (lace (arg5.view.read (Elt F) X5) (arg6.view.read (Elt F) X6)) (arg13.view.read (Elt F) f)⌝) ∗ (∃ f, (arg15.view.loc (c : Thread nD τ) ↦[arg15.view.set]{fullShare} f) ∗ ⌜Upto (320 * k) (cat (arg3.view.read (Elt F) X3) (arg4.view.read (Elt F) X4)) (arg15.view.read (Elt F) f)⌝))
  step := fun k acc => by
    have hk : k.val < 8 := Nat.lt_of_lt_of_le k.isLt k0_t3_abs.2.1
    unfold k0_t3_body
    iintro ⟨HR1, HR2, HR3, HR4, HR5, HR6, HR7, HR12, HR14, HR16, ⟨%f8, HW8, %h8⟩, ⟨%f10, HW10, %h10⟩, ⟨%f11, HW11, %h11⟩, ⟨%f13, HW13, %h13⟩, ⟨%f15, HW15, %h15⟩⟩
    sl_exec
    sl_step
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR12]; · iexact HR12
    isplitl [HR14]; · iexact HR14
    isplitl [HR16]; · iexact HR16
    isplitl [HW8]
    · iexists _; isplitl [HW8]; · iexact HW8
      ipureintro
      refine Upto.step arg8.view f8 h8 (k0_off25_eq k) fun x z z0 z1 => ?_
      rw [← dwN_at _ _ k.val hk x z z0 z1, ← readAt_rows arg7.view X7 _ (k0_off24_inb i k hc) (k0_off24_eq k), ← View.readAt_full arg14.view X14 inb_S2048x256_S2048x256_0_0]
      all_goals rfl
    isplitl [HW10]
    · iexists _; isplitl [HW10]; · iexact HW10
      ipureintro
      refine Mid.step arg10.view f10 h10 (k0_off23_eq k) fun x z z0 z1 => ?_
      rw [← accN_at _ _ _ k.val hk x z z0 z1, ← Mid.rows h10 (by omega), ← readAt_rows arg12.view X12 _ (k0_off22_inb i k hc) (k0_off22_eq k), ← readAt_rows arg10.view f10 _ (k0_off23_inb i k hc) (k0_off23_eq k), ← View.readAt_full arg16.view X16 inb_S2560x256_S2560x256_0_0]
      all_goals rfl
    isplitl [HW11]
    · iexists _; isplitl [HW11]; · iexact HW11
      ipureintro
      exact Upto.cat arg11.view f11 arg1.view arg2.view X1 X2 (k0_off26_inb i k hc) (k0_off26_inb i k hc) h11 (k0_off27_eq k) (k0_off28_eq k) (k0_off26_eq k)
        (shapeCast_self _ _) (by sl_unfold_run_names; exact shapeCast_self _ _)
    isplitl [HW13]
    · iexists _; isplitl [HW13]; · iexact HW13
      ipureintro
      intro y hy
      refine slab_cons arg13.view f13 arg5.view arg6.view X5 X6 k 7 (by decide) (k0_off32_inb i k hc ⟨3, by decide⟩) (k0_off33_eq k ⟨7, by decide⟩) (k0_off32_eq k ⟨3, by decide⟩) (shapeCast_self _ _) fun n7 => ?_
      refine slab_cons arg13.view f13 arg5.view arg6.view X5 X6 k 6 (by decide) (k0_off32_inb i k hc ⟨3, by decide⟩) (k0_off33_eq k ⟨6, by decide⟩) (k0_off32_eq k ⟨3, by decide⟩) (shapeCast_self _ _) fun n6 => ?_
      refine slab_cons arg13.view f13 arg5.view arg6.view X5 X6 k 5 (by decide) (k0_off32_inb i k hc ⟨2, by decide⟩) (k0_off33_eq k ⟨5, by decide⟩) (k0_off32_eq k ⟨2, by decide⟩) (shapeCast_self _ _) fun n5 => ?_
      refine slab_cons arg13.view f13 arg5.view arg6.view X5 X6 k 4 (by decide) (k0_off32_inb i k hc ⟨2, by decide⟩) (k0_off33_eq k ⟨4, by decide⟩) (k0_off32_eq k ⟨2, by decide⟩) (shapeCast_self _ _) fun n4 => ?_
      refine slab_cons arg13.view f13 arg5.view arg6.view X5 X6 k 3 (by decide) (k0_off32_inb i k hc ⟨1, by decide⟩) (k0_off33_eq k ⟨3, by decide⟩) (k0_off32_eq k ⟨1, by decide⟩) (shapeCast_self _ _) fun n3 => ?_
      refine slab_cons arg13.view f13 arg5.view arg6.view X5 X6 k 2 (by decide) (k0_off32_inb i k hc ⟨1, by decide⟩) (k0_off33_eq k ⟨2, by decide⟩) (k0_off32_eq k ⟨1, by decide⟩) (shapeCast_self _ _) fun n2 => ?_
      refine slab_cons arg13.view f13 arg5.view arg6.view X5 X6 k 1 (by decide) (k0_off32_inb i k hc ⟨0, by decide⟩) (k0_off33_eq k ⟨1, by decide⟩) (k0_off32_eq k ⟨0, by decide⟩) (shapeCast_self _ _) fun n1 => ?_
      refine slab_cons arg13.view f13 arg5.view arg6.view X5 X6 k 0 (by decide) (k0_off32_inb i k hc ⟨0, by decide⟩) (k0_off33_eq k ⟨0, by decide⟩) (k0_off32_eq k ⟨0, by decide⟩) (shapeCast_self _ _) fun n0 => ?_
      exact h13 y (by omega)
    iexists _; isplitl [HW15]; · iexact HW15
    ipureintro
    exact Upto.cat arg15.view f15 arg3.view arg4.view X3 X4 (k0_off29_inb i k hc) (k0_off29_inb i k hc) h15 (k0_off30_eq k) (k0_off31_eq k) (k0_off29_eq k)
        (shapeCast_self _ _) (by sl_unfold_run_names; exact shapeCast_self _ _)

end Cert.Proof.Kernel
-- ==== Proof.Kernel.Body.lean ====
/- The body at the points before the last: at the first it fills the operand buffers and clears the accumulator, at a later
   one it adds the products of the operands at hand and fills the other buffers. -/
module

public import proofs.«01_k».proof.Proof.Kernel.Loops

@[expose] public section

set_option maxRecDepth 8192
set_option maxHeartbeats 4000000

noncomputable section

namespace Cert.Proof.Kernel

open Cert.Kernel Cert.Kernel.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-- The first point. -/
theorem run1 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2560x128 .bf16) (harg3 : arg3.IsWhole) (arg4 : Memref sig .tc .vmem S2560x128 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S2560x2048 .bf16) (harg7 : arg7.IsWhole) (arg8 : Memref sig .tc .vmem S2560x256 .f32) (harg8 : arg8.IsWhole) (arg9 : Memref sig .tc .hbm S2048x2560 .bf16) (harg9 : arg9.IsWhole) (arg10 : Memref sig .tc .vmem S2048x2560 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2560x256 .bf16) (harg15 : arg15.IsWhole) (arg16 : Memref sig .tc .vmem S2560x256 .bf16) (harg16 : arg16.IsWhole) (arg17 : Memref sig .tc .vmem S2x256x2560 .bf16) (harg17 : arg17.IsWhole) (arg18 : DmaSems sig S2) (h1 : k0_cond1 i = 1#1) (h2 : ¬ k0_cond2 i = 1#1) (h3 : ¬ k0_cond3 i = 1#1) (h4 : ¬ k0_cond4 i = 1#1)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (K : PUnit → sProp 𝕄) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg10.view.loc (c : Thread nD τ) ↦[arg10.view.set]{fullShare} f)) ∗ (∃ f, (arg11.view.loc (c : Thread nD τ) ↦[arg11.view.set]{fullShare} f)) ∗ (∃ f, (arg13.view.loc (c : Thread nD τ) ↦[arg13.view.set]{fullShare} f)) ∗ (∃ f, (arg15.view.loc (c : Thread nD τ) ↦[arg15.view.set]{fullShare} f)) ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg10.view.loc (c : Thread nD τ) ↦[arg10.view.set]{fullShare} f) ∗ ⌜arg10.view.read (Elt F) f = fun _ => Scalar.ofBits (F := F) .f32 0x00000000#32⌝) ∗ (∃ f, (arg11.view.loc (c : Thread nD τ) ↦[arg11.view.set]{fullShare} f) ∗ ⌜arg11.view.read (Elt F) f = cat (arg1.view.read (Elt F) X1) (arg2.view.read (Elt F) X2)⌝) ∗ (∃ f, (arg13.view.loc (c : Thread nD τ) ↦[arg13.view.set]{fullShare} f) ∗ ⌜arg13.view.read (Elt F) f = lace (arg5.view.read (Elt F) X5) (arg6.view.read (Elt F) X6)⌝) ∗ (∃ f, (arg15.view.loc (c : Thread nD τ) ↦[arg15.view.set]{fullShare} f) ∗ ⌜arg15.view.read (Elt F) f = cat (arg3.view.read (Elt F) X3) (arg4.view.read (Elt F) X4)⌝)) -∗ K ⟨⟩))
      ⊢ wp frame (wpE (defs₀ (F := F)) 𝒱₀ (c : Thread nD τ) none) Set.univ (cc0_dx_dw i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18) K := by
  simp only [cc0_dx_dw_eq_skeleton]; unfold cc0_dx_dw_skel
  iintro ⟨HR1, HR2, HR3, HR4, HR5, HR6, ⟨%f10, HW10⟩, ⟨%f11, HW11⟩, ⟨%f13, HW13⟩, ⟨%f15, HW15⟩, Hk⟩
  have z10 : Upto (256 * 0) (fun _ => Scalar.ofBits (F := F) .f32 0x00000000#32) (arg10.view.read (Elt F) f10) := Upto.zero _ _
  have z11 : Upto (256 * 0) (cat (arg1.view.read (Elt F) X1) (arg2.view.read (Elt F) X2)) (arg11.view.read (Elt F) f11) := Upto.zero _ _
  have z13 : Upto (256 * 0) (lace (arg5.view.read (Elt F) X5) (arg6.view.read (Elt F) X6)) (arg13.view.read (Elt F) f13) := Upto.zero _ _
  have z15 : Upto (320 * 0) (cat (arg3.view.read (Elt F) X3) (arg4.view.read (Elt F) X4)) (arg15.view.read (Elt F) f15) := Upto.zero _ _
  sl_exec
  sl_step
  iapply Hk
  isplitl [HR1]; · iexact HR1
  isplitl [HR2]; · iexact HR2
  isplitl [HR3]; · iexact HR3
  isplitl [HR4]; · iexact HR4
  isplitl [HR5]; · iexact HR5
  isplitl [HR6]; · iexact HR6
  isplitl [HW10]
  · iexists _; isplitl [HW10]; · iexact HW10
    ipureintro; exact Upto.all (by assumption) (by decide)
  isplitl [HW11]
  · iexists _; isplitl [HW11]; · iexact HW11
    ipureintro; exact Upto.all (by assumption) (by decide)
  isplitl [HW13]
  · iexists _; isplitl [HW13]; · iexact HW13
    ipureintro; exact Upto.all (by assumption) (by decide)
  iexists _; isplitl [HW15]; · iexact HW15
  ipureintro; exact Upto.all (by assumption) (by decide)

/-- A point between, odd. -/
theorem run2 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2560x128 .bf16) (harg3 : arg3.IsWhole) (arg4 : Memref sig .tc .vmem S2560x128 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S2560x2048 .bf16) (harg7 : arg7.IsWhole) (arg8 : Memref sig .tc .vmem S2560x256 .f32) (harg8 : arg8.IsWhole) (arg9 : Memref sig .tc .hbm S2048x2560 .bf16) (harg9 : arg9.IsWhole) (arg10 : Memref sig .tc .vmem S2048x2560 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2560x256 .bf16) (harg15 : arg15.IsWhole) (arg16 : Memref sig .tc .vmem S2560x256 .bf16) (harg16 : arg16.IsWhole) (arg17 : Memref sig .tc .vmem S2x256x2560 .bf16) (harg17 : arg17.IsWhole) (arg18 : DmaSems sig S2) (h1 : ¬ k0_cond1 i = 1#1) (h2 : k0_cond2 i = 1#1) (h3 : ¬ k0_cond3 i = 1#1) (h4 : ¬ k0_cond4 i = 1#1)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X15 : BufTy.Contents (Elt F) arg15.view.ty) (X10 : BufTy.Contents (Elt F) arg10.view.ty) (K : PUnit → sProp 𝕄) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (arg13.view.loc (c : Thread nD τ) ↦[arg13.view.set]{fullShare} X13) ∗ (arg15.view.loc (c : Thread nD τ) ↦[arg15.view.set]{fullShare} X15) ∗ (∃ f, (arg8.view.loc (c : Thread nD τ) ↦[arg8.view.set]{fullShare} f)) ∗ (arg10.view.loc (c : Thread nD τ) ↦[arg10.view.set]{fullShare} X10) ∗ (∃ f, (arg12.view.loc (c : Thread nD τ) ↦[arg12.view.set]{fullShare} f)) ∗ (∃ f, (arg14.view.loc (c : Thread nD τ) ↦[arg14.view.set]{fullShare} f)) ∗ (∃ f, (arg16.view.loc (c : Thread nD τ) ↦[arg16.view.set]{fullShare} f)) ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (arg13.view.loc (c : Thread nD τ) ↦[arg13.view.set]{fullShare} X13) ∗ (arg15.view.loc (c : Thread nD τ) ↦[arg15.view.set]{fullShare} X15) ∗ (∃ f, (arg8.view.loc (c : Thread nD τ) ↦[arg8.view.set]{fullShare} f) ∗ ⌜arg8.view.read (Elt F) f = dwN (arg7.view.read (Elt F) X7) (arg13.view.read (Elt F) X13)⌝) ∗ (∃ f, (arg10.view.loc (c : Thread nD τ) ↦[arg10.view.set]{fullShare} f) ∗ ⌜arg10.view.read (Elt F) f = accN (arg11.view.read (Elt F) X11) (arg15.view.read (Elt F) X15) (arg10.view.read (Elt F) X10)⌝) ∗ (∃ f, (arg12.view.loc (c : Thread nD τ) ↦[arg12.view.set]{fullShare} f) ∗ ⌜arg12.view.read (Elt F) f = cat (arg1.view.read (Elt F) X1) (arg2.view.read (Elt F) X2)⌝) ∗ (∃ f, (arg14.view.loc (c : Thread nD τ) ↦[arg14.view.set]{fullShare} f) ∗ ⌜arg14.view.read (Elt F) f = lace (arg5.view.read (Elt F) X5) (arg6.view.read (Elt F) X6)⌝) ∗ (∃ f, (arg16.view.loc (c : Thread nD τ) ↦[arg16.view.set]{fullShare} f) ∗ ⌜arg16.view.read (Elt F) f = cat (arg3.view.read (Elt F) X3) (arg4.view.read (Elt F) X4)⌝)) -∗ K ⟨⟩))
      ⊢ wp frame (wpE (defs₀ (F := F)) 𝒱₀ (c : Thread nD τ) none) Set.univ (cc0_dx_dw i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18) K := by
  simp only [cc0_dx_dw_eq_skeleton]; unfold cc0_dx_dw_skel
  iintro ⟨HR1, HR2, HR3, HR4, HR5, HR6, HR7, HR11, HR13, HR15, ⟨%f8, HW8⟩, HW10, ⟨%f12, HW12⟩, ⟨%f14, HW14⟩, ⟨%f16, HW16⟩, Hk⟩
  have z8 : Upto (320 * 0) (dwN (arg7.view.read (Elt F) X7) (arg13.view.read (Elt F) X13)) (arg8.view.read (Elt F) f8) := Upto.zero _ _
  have z10 : Mid (256 * 0) (accN (arg11.view.read (Elt F) X11) (arg15.view.read (Elt F) X15) (arg10.view.read (Elt F) X10)) (arg10.view.read (Elt F) X10) (arg10.view.read (Elt F) X10) := Mid.zero _ _
  have z12 : Upto (256 * 0) (cat (arg1.view.read (Elt F) X1) (arg2.view.read (Elt F) X2)) (arg12.view.read (Elt F) f12) := Upto.zero _ _
  have z14 : Upto (256 * 0) (lace (arg5.view.read (Elt F) X5) (arg6.view.read (Elt F) X6)) (arg14.view.read (Elt F) f14) := Upto.zero _ _
  have z16 : Upto (320 * 0) (cat (arg3.view.read (Elt F) X3) (arg4.view.read (Elt F) X4)) (arg16.view.read (Elt F) f16) := Upto.zero _ _
  letI L := loopInv2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h2 X1 X2 X3 X4 X5 X6 X7 X11 X13 X15 (arg10.view.read (Elt F) X10)
  sl_exec
  sl_step
  iapply Hk
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR11]; · iexact HR11
  isplitl [HR13]; · iexact HR13
  isplitl [HR15]; · iexact HR15
  isplitl [HW8]
  · iexists _; isplitl [HW8]; · iexact HW8
    ipureintro; exact Upto.all (by assumption) (by decide)
  isplitl [HW10]
  · iexists _; isplitl [HW10]; · iexact HW10
    ipureintro; exact Mid.all (by assumption) (by decide)
  isplitl [HW12]
  · iexists _; isplitl [HW12]; · iexact HW12
    ipureintro; exact Upto.all (by assumption) (by decide)
  isplitl [HW14]
  · iexists _; isplitl [HW14]; · iexact HW14
    ipureintro; exact Upto.all (by assumption) (by decide)
  iexists _; isplitl [HW16]; · iexact HW16
  ipureintro; exact Upto.all (by assumption) (by decide)

/-- A point between, even. -/
theorem run3 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2560x128 .bf16) (harg3 : arg3.IsWhole) (arg4 : Memref sig .tc .vmem S2560x128 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S2560x2048 .bf16) (harg7 : arg7.IsWhole) (arg8 : Memref sig .tc .vmem S2560x256 .f32) (harg8 : arg8.IsWhole) (arg9 : Memref sig .tc .hbm S2048x2560 .bf16) (harg9 : arg9.IsWhole) (arg10 : Memref sig .tc .vmem S2048x2560 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2560x256 .bf16) (harg15 : arg15.IsWhole) (arg16 : Memref sig .tc .vmem S2560x256 .bf16) (harg16 : arg16.IsWhole) (arg17 : Memref sig .tc .vmem S2x256x2560 .bf16) (harg17 : arg17.IsWhole) (arg18 : DmaSems sig S2) (h1 : ¬ k0_cond1 i = 1#1) (h2 : ¬ k0_cond2 i = 1#1) (h3 : k0_cond3 i = 1#1) (h4 : ¬ k0_cond4 i = 1#1)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X12 : BufTy.Contents (Elt F) arg12.view.ty) (X14 : BufTy.Contents (Elt F) arg14.view.ty) (X16 : BufTy.Contents (Elt F) arg16.view.ty) (X10 : BufTy.Contents (Elt F) arg10.view.ty) (K : PUnit → sProp 𝕄) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ (arg14.view.loc (c : Thread nD τ) ↦[arg14.view.set]{fullShare} X14) ∗ (arg16.view.loc (c : Thread nD τ) ↦[arg16.view.set]{fullShare} X16) ∗ (∃ f, (arg8.view.loc (c : Thread nD τ) ↦[arg8.view.set]{fullShare} f)) ∗ (arg10.view.loc (c : Thread nD τ) ↦[arg10.view.set]{fullShare} X10) ∗ (∃ f, (arg11.view.loc (c : Thread nD τ) ↦[arg11.view.set]{fullShare} f)) ∗ (∃ f, (arg13.view.loc (c : Thread nD τ) ↦[arg13.view.set]{fullShare} f)) ∗ (∃ f, (arg15.view.loc (c : Thread nD τ) ↦[arg15.view.set]{fullShare} f)) ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ (arg14.view.loc (c : Thread nD τ) ↦[arg14.view.set]{fullShare} X14) ∗ (arg16.view.loc (c : Thread nD τ) ↦[arg16.view.set]{fullShare} X16) ∗ (∃ f, (arg8.view.loc (c : Thread nD τ) ↦[arg8.view.set]{fullShare} f) ∗ ⌜arg8.view.read (Elt F) f = dwN (arg7.view.read (Elt F) X7) (arg14.view.read (Elt F) X14)⌝) ∗ (∃ f, (arg10.view.loc (c : Thread nD τ) ↦[arg10.view.set]{fullShare} f) ∗ ⌜arg10.view.read (Elt F) f = accN (arg12.view.read (Elt F) X12) (arg16.view.read (Elt F) X16) (arg10.view.read (Elt F) X10)⌝) ∗ (∃ f, (arg11.view.loc (c : Thread nD τ) ↦[arg11.view.set]{fullShare} f) ∗ ⌜arg11.view.read (Elt F) f = cat (arg1.view.read (Elt F) X1) (arg2.view.read (Elt F) X2)⌝) ∗ (∃ f, (arg13.view.loc (c : Thread nD τ) ↦[arg13.view.set]{fullShare} f) ∗ ⌜arg13.view.read (Elt F) f = lace (arg5.view.read (Elt F) X5) (arg6.view.read (Elt F) X6)⌝) ∗ (∃ f, (arg15.view.loc (c : Thread nD τ) ↦[arg15.view.set]{fullShare} f) ∗ ⌜arg15.view.read (Elt F) f = cat (arg3.view.read (Elt F) X3) (arg4.view.read (Elt F) X4)⌝)) -∗ K ⟨⟩))
      ⊢ wp frame (wpE (defs₀ (F := F)) 𝒱₀ (c : Thread nD τ) none) Set.univ (cc0_dx_dw i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18) K := by
  simp only [cc0_dx_dw_eq_skeleton]; unfold cc0_dx_dw_skel
  iintro ⟨HR1, HR2, HR3, HR4, HR5, HR6, HR7, HR12, HR14, HR16, ⟨%f8, HW8⟩, HW10, ⟨%f11, HW11⟩, ⟨%f13, HW13⟩, ⟨%f15, HW15⟩, Hk⟩
  have z8 : Upto (320 * 0) (dwN (arg7.view.read (Elt F) X7) (arg14.view.read (Elt F) X14)) (arg8.view.read (Elt F) f8) := Upto.zero _ _
  have z10 : Mid (256 * 0) (accN (arg12.view.read (Elt F) X12) (arg16.view.read (Elt F) X16) (arg10.view.read (Elt F) X10)) (arg10.view.read (Elt F) X10) (arg10.view.read (Elt F) X10) := Mid.zero _ _
  have z11 : Upto (256 * 0) (cat (arg1.view.read (Elt F) X1) (arg2.view.read (Elt F) X2)) (arg11.view.read (Elt F) f11) := Upto.zero _ _
  have z13 : Upto (256 * 0) (lace (arg5.view.read (Elt F) X5) (arg6.view.read (Elt F) X6)) (arg13.view.read (Elt F) f13) := Upto.zero _ _
  have z15 : Upto (320 * 0) (cat (arg3.view.read (Elt F) X3) (arg4.view.read (Elt F) X4)) (arg15.view.read (Elt F) f15) := Upto.zero _ _
  letI L := loopInv3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h3 X1 X2 X3 X4 X5 X6 X7 X12 X14 X16 (arg10.view.read (Elt F) X10)
  sl_exec
  sl_step
  iapply Hk
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR12]; · iexact HR12
  isplitl [HR14]; · iexact HR14
  isplitl [HR16]; · iexact HR16
  isplitl [HW8]
  · iexists _; isplitl [HW8]; · iexact HW8
    ipureintro; exact Upto.all (by assumption) (by decide)
  isplitl [HW10]
  · iexists _; isplitl [HW10]; · iexact HW10
    ipureintro; exact Mid.all (by assumption) (by decide)
  isplitl [HW11]
  · iexists _; isplitl [HW11]; · iexact HW11
    ipureintro; exact Upto.all (by assumption) (by decide)
  isplitl [HW13]
  · iexists _; isplitl [HW13]; · iexact HW13
    ipureintro; exact Upto.all (by assumption) (by decide)
  iexists _; isplitl [HW15]; · iexact HW15
  ipureintro; exact Upto.all (by assumption) (by decide)

end Cert.Proof.Kernel
-- ==== Proof.Kernel.Last.lean ====
/- The last loop: eight row blocks of dx leave through a staging buffer of two slots, each slot's copy waited two trips
   later. -/
module

public import proofs.«01_k».proof.Proof.Kernel.Loops
public import Idealize.ShloMosaic.Lib.Ring

@[expose] public section

set_option warn.classDefReducibility false
set_option maxRecDepth 8192
set_option maxHeartbeats 4000000

noncomputable section

namespace Cert.Proof.Kernel

open Cert.Kernel Cert.Kernel.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## Names: row block `b` of dx, slot `s` of the staging buffer, slot `s`'s semaphore -/

abbrev dxM : Memref sig .tc .hbm S2048x2560 .bf16 := Memref.whole main_v0_1
abbrev bufM : Memref sig .tc .vmem S2x256x2560 .bf16 := Memref.whole cc0_scratch7

abbrev grpOff (b : Fin 8) : Fin 2 → Nat := ![256 * b.val, 0]
theorem grpOff_inb (b : Fin 8) : ∀ a, grpOff b a + S256x2560.size a ≤ S2048x2560.size a := by
  have := b.isLt; intro a; fin_cases a
  · show 256 * b.val + 256 ≤ 2048; omega
  · show 0 + 2560 ≤ 2560; omega
abbrev slotOff (s : Fin 2) : Fin 3 → Nat := ![s.val, 0, 0]
theorem slotOff_inb (s : Fin 2) : ∀ a, slotOff s a + S1x256x2560.size a ≤ S2x256x2560.size a := by
  have := s.isLt; intro a; fin_cases a
  · show s.val + 1 ≤ 2; omega
  · show 0 + 256 ≤ 256; omega
  · show 0 + 2560 ≤ 2560; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

def grp (b : Fin 8) : Memref sig .tc .hbm S256x2560 .bf16 :=
  dxM.slice (Rect.unit (s := S2048x2560) (grpOff b) S256x2560.size (grpOff_inb b)) (fun _ => rfl)
def rslot (s : Fin 2) : Memref sig .tc .vmem S256x2560 .bf16 :=
  (bufM.slice (Rect.unit (s := S2x256x2560) (slotOff s) S1x256x2560.size (slotOff_inb s)) (fun _ => rfl)).squeeze S256x2560 squeezes_S1x256x2560_S256x2560
def csm (s : Fin 2) : DmaSems sig S_ := (cc0_scratch8.slice (Rect.unit (s := S2) (semOff s) S1.size (semOff_inb s))).squeeze S_ squeezes_S1_S_

instance (s : Fin 2) : ClosedOff (slotOff s) := ⟨slotOff s, rfl⟩
instance (b : Fin 8) : ClosedOff (grpOff b) := ⟨grpOff b, rfl⟩

theorem cond5_iff : ∀ k : Fin k0_t4_loop.trips, k0_cond5 k = 1#1 ↔ 2 ≤ k.val := by decide +kernel
theorem trips4 : k0_t4_loop.trips = 8 := by decide +kernel

theorem off36_eq : ∀ k : Fin k0_t4_loop.trips, 2 ≤ k.val → k0_off36 k = semOff (Ring.sl 2 k.val) := by decide +kernel
theorem off37_eq : ∀ k : Fin k0_t4_loop.trips, 2 ≤ k.val → k0_off37 k = grpOff (Ring.bk 8 (k.val - 2)) := by decide +kernel
theorem off38_eq : ∀ k : Fin k0_t4_loop.trips, 2 ≤ k.val → k0_off38 k = slotOff (Ring.sl 2 k.val) := by decide +kernel
theorem off39_eq : ∀ k : Fin k0_t4_loop.trips, k0_off39 k = slotOff (Ring.sl 2 k.val) := by decide +kernel
theorem off40_eq : ∀ k : Fin k0_t4_loop.trips, k0_off40 k = semOff (Ring.sl 2 k.val) := by decide +kernel
theorem off41_eq : ∀ k : Fin k0_t4_loop.trips, k0_off41 k = grpOff (Ring.bk 8 k.val) := by decide +kernel
theorem off42_eq : ∀ k : Fin k0_t4_loop.trips, k0_off42 k = slotOff (Ring.sl 2 k.val) := by decide +kernel

private theorem csm_congr {off : Fin 1 → Nat} {s : Fin 2} (e : off = semOff s) (hh) :
    (cc0_scratch8.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 2} (e : off = slotOff s) (hh hs) :
    (bufM.slice (Rect.unit (s := S2x256x2560) off S1x256x2560.size hh) hs).squeeze S256x2560 squeezes_S1x256x2560_S256x2560 = rslot s :=
  congrArg (fun M : Memref sig .tc .vmem S1x256x2560 .bf16 => M.squeeze S256x2560 squeezes_S1x256x2560_S256x2560) (Memref.slice_unit_congr _ e _ _ _ _)
private theorem grp_congr {off : Fin 2 → Nat} {b : Fin 8} (e : off = grpOff b) (hh hs) :
    dxM.slice (Rect.unit (s := S2048x2560) off S256x2560.size hh) hs = grp b := Memref.slice_unit_congr _ e _ _ _ (fun _ => rfl)

@[sl_canon] theorem semW (k : Fin k0_t4_loop.trips) (h2 : 2 ≤ k.val) (hh) :
    (cc0_scratch8.slice (Rect.unit (s := S2) (k0_off36 k) S1.size hh)).squeeze S_ squeezes_S1_S_ = csm (Ring.sl 2 k.val) := csm_congr (off36_eq k h2) _
@[sl_canon] theorem grpW (k : Fin k0_t4_loop.trips) (h2 : 2 ≤ k.val) (hh hs) :
    dxM.slice (Rect.unit (s := S2048x2560) (k0_off37 k) S256x2560.size hh) hs = grp (Ring.bk 8 (k.val - 2)) := grp_congr (off37_eq k h2) _ _
@[sl_canon] theorem slotW (k : Fin k0_t4_loop.trips) (h2 : 2 ≤ k.val) (hh hs) :
    (bufM.slice (Rect.unit (s := S2x256x2560) (k0_off38 k) S1x256x2560.size hh) hs).squeeze S256x2560 squeezes_S1x256x2560_S256x2560 = rslot (Ring.sl 2 k.val) := rslot_congr (off38_eq k h2) _ _
@[sl_canon] theorem semI (k : Fin k0_t4_loop.trips) (hh) :
    (cc0_scratch8.slice (Rect.unit (s := S2) (k0_off40 k) S1.size hh)).squeeze S_ squeezes_S1_S_ = csm (Ring.sl 2 k.val) := csm_congr (off40_eq k) _
@[sl_canon] theorem grpI (k : Fin k0_t4_loop.trips) (hh hs) :
    dxM.slice (Rect.unit (s := S2048x2560) (k0_off41 k) S256x2560.size hh) hs = grp (Ring.bk 8 k.val) := grp_congr (off41_eq k) _ _
@[sl_canon] theorem slotI (k : Fin k0_t4_loop.trips) (hh hs) :
    (bufM.slice (Rect.unit (s := S2x256x2560) (k0_off42 k) S1x256x2560.size hh) hs).squeeze S256x2560 squeezes_S1x256x2560_S256x2560 = rslot (Ring.sl 2 k.val) := rslot_congr (off42_eq k) _ _
@[sl_canon] theorem semE0 (hh) : (cc0_scratch8.slice (Rect.unit (s := S2) (k0_off45 6#32) S1.size hh)).squeeze S_ squeezes_S1_S_ = csm 0 := csm_congr (by decide +kernel) _
@[sl_canon] theorem semE1 (hh) : (cc0_scratch8.slice (Rect.unit (s := S2) (k0_off45 7#32) S1.size hh)).squeeze S_ squeezes_S1_S_ = csm 1 := csm_congr (by decide +kernel) _
@[sl_canon] theorem grpE0 (hh hs) : dxM.slice (Rect.unit (s := S2048x2560) ![1536, 0] S256x2560.size hh) hs = grp 6 := grp_congr (by decide +kernel) _ _
@[sl_canon] theorem grpE1 (hh hs) : dxM.slice (Rect.unit (s := S2048x2560) ![1792, 0] S256x2560.size hh) hs = grp 7 := grp_congr (by decide +kernel) _ _
@[sl_canon] theorem slotE0 (hh hs) :
    (bufM.slice (Rect.unit (s := S2x256x2560) (k0_off46 6#32) S1x256x2560.size hh) hs).squeeze S256x2560 squeezes_S1x256x2560_S256x2560 = rslot 0 := rslot_congr (by decide +kernel) _ _
@[sl_canon] theorem slotE1 (hh hs) :
    (bufM.slice (Rect.unit (s := S2x256x2560) (k0_off46 7#32) S1x256x2560.size hh) hs).squeeze S256x2560 squeezes_S1x256x2560_S256x2560 = rslot 1 := rslot_congr (by decide +kernel) _ _

instance (k : Fin k0_t4_loop.trips) : ClosedOff (k0_off39 k) := ⟨slotOff (Ring.sl 2 k.val), off39_eq k⟩
instance (k : Fin k0_t4_loop.trips) : ClosedOff (k0_off42 k) := ⟨slotOff (Ring.sl 2 k.val), off42_eq k⟩
instance (k : Fin k0_t4_loop.trips) : ClosedOff (k0_off41 k) := ⟨grpOff (Ring.bk 8 k.val), off41_eq k⟩

/-! ## What a slot, a block and a copy in flight hold -/

/-- Row block `b` of the result dx, from the last chunk's operands and the accumulator. -/
def dxB (D : S2048x256.Idx → Elt F .bf16) (W : S2560x256.Idx → Elt F .bf16) (O : S2048x2560.Idx → Elt F .f32) (b : Fin 8) :
    S256x2560.Idx → Elt F .bf16 :=
  have := b.isLt
  shapeCast S256x2560 (k0_pay38 (F := F) (rowsOf 256 D b.val (by omega)) W (rowsOf 256 O b.val (by omega))) squeezes_S1x256x2560_S256x2560.numel_eq

/-- A slot written whole through the staging buffer, read. -/
theorem slot_read (s : Fin 2) (off : Fin 3 → Nat) (e : off = slotOff s) (inb : ∀ a, off a + S1x256x2560.size a ≤ S2x256x2560.size a)
    (f : bufM.view.ty.Contents (Elt F)) (p : S1x256x2560.Idx → Elt F .bf16) :
    (rslot s).view.read (Elt F) (bufM.view.writes (Elt F) f [⟨Rect.unit (s := S2x256x2560) off S1x256x2560.size inb, p⟩])
      = shapeCast S256x2560 p squeezes_S1x256x2560_S256x2560.numel_eq := by
  subst e
  funext x
  exact View.read_writes_cons_emb bufM.view f (Rect.unit (s := S2x256x2560) (slotOff s) S1x256x2560.size inb) p []
    (Shape.reshapeEquiv squeezes_S1x256x2560_S256x2560.numel_eq x)

/-- A block written whole, read. -/
theorem grp_read (b : Fin 8) (g : (grp b).view.ty.Contents (Elt F)) (p : S256x2560.Idx → Elt F .bf16) :
    (grp b).view.read (Elt F) ((grp b).view.writes (Elt F) g [⟨Rect.whole S256x2560, p⟩]) = p := by
  funext x
  exact (congrArg _ (ix_ext _ _ (by show _ = 0 + 1 * (x 0).val; omega) (by show _ = 0 + 1 * (x 1).val; omega))).trans
    (View.read_writes_cons_emb (grp b).view g (Rect.whole S256x2560) p [] x)

section Pieces
variable (c : Dev nD)

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
abbrev homeP (b : Fin 8) (g : Buf (Elt F) ((grp b).view.loc (c : Thread nD τ))) : sProp 𝕄 :=
  (grp b).view.loc (c : Thread nD τ) ↦[(grp b).view.set]{fullShare} g

/-- Before a slot's first use: at anything, its semaphore at zero. -/
def idle (s : Fin 2) : sProp 𝕄 := iprop(∃ f, slotP (F := F) c s f ∗ cellP c s)

variable (D : S2048x256.Idx → Elt F .bf16) (W : S2560x256.Idx → Elt F .bf16) (O : S2048x2560.Idx → Elt F .f32)

/-- The copy of block `b` out of slot `s`, in flight. -/
def fly (s : Fin 2) (b : Fin 8) : sProp 𝕄 :=
  iprop(∃ X Y, ⌜(grp b).view.read (Elt F) Y = dxB D W O b⌝
    ∗ Transfers.Flight countersEmb (c : Thread nD τ) (SemLoc.dma (csm s).sem) () 40960 iprop(homeP c b Y ∗ slotP c s X))
/-- The slot that trip `j` uses, before the trip: free for the first two, else still with the copy of trip `j - 2`. -/
def role (j : ℕ) : sProp 𝕄 := if j < 2 then idle c (Ring.sl 2 j) else fly c D W O (Ring.sl 2 j) (Ring.bk 8 (j - 2))
/-- The blocks not yet written. -/
def todo (g : Buf (Elt F) (dxM.view.loc (c : Thread nD τ))) (k : ℕ) : sProp 𝕄 :=
  bigSep (Finset.univ.filter fun b : Fin 8 => k ≤ b.val) fun b => homeP (F := F) c b g
/-- A block written. -/
def doneP (b : Fin 8) : sProp 𝕄 := iprop(∃ Y, ⌜(grp b).view.read (Elt F) Y = dxB D W O b⌝ ∗ homeP c b Y)
/-- The blocks written and waited for. -/
def done (k : ℕ) : sProp 𝕄 := bigSep (Finset.univ.filter fun b : Fin 8 => b.val + 2 < k) fun b => doneP c D W O b

omit [FloatOps F] in
theorem todo_step (g : Buf (Elt F) (dxM.view.loc (c : Thread nD τ))) (k : ℕ) (hk : k < 8) :
    todo c g k = iprop(homeP (F := F) c (Ring.bk 8 k) g ∗ todo c g (k + 1)) := by
  have e : (Finset.univ.filter fun b : Fin 8 => k ≤ b.val) = insert (Ring.bk 8 k) (Finset.univ.filter fun b : Fin 8 => k + 1 ≤ b.val) := by
    ext b
    simp only [Finset.mem_filter, Finset.mem_univ, Finset.mem_insert, true_and, Fin.ext_iff, Ring.bk_val hk]
    omega
  have hn : Ring.bk 8 k ∉ (Finset.univ.filter fun b : Fin 8 => k + 1 ≤ b.val) := by
    simp only [Finset.mem_filter, Finset.mem_univ, true_and, Ring.bk_val hk]; omega
  unfold todo
  rw [e, bigSep_insert hn]
  rfl

theorem done_step (k : ℕ) (h2 : 2 ≤ k) (hk : k < 10) :
    done c D W O (k + 1) = iprop(doneP c D W O (Ring.bk 8 (k - 2)) ∗ done c D W O k) := by
  have hb : k - 2 < 8 := by omega
  have e : (Finset.univ.filter fun b : Fin 8 => b.val + 2 < k + 1) = insert (Ring.bk 8 (k - 2)) (Finset.univ.filter fun b : Fin 8 => b.val + 2 < k) := by
    ext b
    simp only [Finset.mem_filter, Finset.mem_univ, Finset.mem_insert, true_and, Fin.ext_iff, Ring.bk_val hb]
    omega
  have hn : Ring.bk 8 (k - 2) ∉ (Finset.univ.filter fun b : Fin 8 => b.val + 2 < k) := by
    simp only [Finset.mem_filter, Finset.mem_univ, true_and, Ring.bk_val hb]; omega
  unfold done
  rw [e, bigSep_insert hn]
  rfl

theorem done_low (k : ℕ) (h2 : k ≤ 2) : done c D W O k = iprop(emp) := by
  have e : (Finset.univ.filter fun b : Fin 8 => b.val + 2 < k) = ∅ := by
    ext b
    simp only [Finset.mem_filter, Finset.mem_univ, true_and, Finset.notMem_empty, iff_false]; omega
  unfold done
  rw [e, bigSep_empty]
  rfl

variable (i : grid0.Coords)
  (arg1 : Memref sig .tc .vmem S2048x128 .bf16) (harg1 : arg1.IsWhole) (arg2 : Memref sig .tc .vmem S2048x128 .bf16) (harg2 : arg2.IsWhole) (arg3 : Memref sig .tc .vmem S2560x128 .bf16) (harg3 : arg3.IsWhole) (arg4 : Memref sig .tc .vmem S2560x128 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S2560x2048 .bf16) (harg7 : arg7.IsWhole) (arg8 : Memref sig .tc .vmem S2560x256 .f32) (harg8 : arg8.IsWhole) (arg10 : Memref sig .tc .vmem S2048x2560 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2560x256 .bf16) (harg15 : arg15.IsWhole) (arg16 : Memref sig .tc .vmem S2560x256 .bf16) (harg16 : arg16.IsWhole)
  (hc : k0_cond4 i = 1#1)

@[sl_loop] def loopInv4 (X7 : BufTy.Contents (Elt F) arg7.view.ty) (X10 : BufTy.Contents (Elt F) arg10.view.ty) (X11 : BufTy.Contents (Elt F) arg11.view.ty) (X13 : BufTy.Contents (Elt F) arg13.view.ty) (X15 : BufTy.Contents (Elt F) arg15.view.ty) (g : Buf (Elt F) (dxM.view.loc (c : Thread nD τ))) :
    LoopInvTy_k0_t4 (F := F) Unit ℕ (UU nD τ) ℕ 𝒱₀ c none Set.univ i arg1 harg1 arg2 harg2 arg3 harg3 arg4 harg4 arg5 harg5 arg6 harg6 arg7 harg7 arg8 harg8 dxM (Memref.isWhole_whole _) arg10 harg10 arg11 harg11 arg12 harg12 arg13 harg13 arg14 harg14 arg15 harg15 arg16 harg16 bufM (Memref.isWhole_whole _) cc0_scratch8 hc where
  inv := fun k _ => iprop((arg7.view.loc (c : Thread nD τ) ↦[arg7.view.set]{fullShare} X7) ∗ (arg10.view.loc (c : Thread nD τ) ↦[arg10.view.set]{fullShare} X10) ∗ (arg11.view.loc (c : Thread nD τ) ↦[arg11.view.set]{fullShare} X11) ∗ (arg13.view.loc (c : Thread nD τ) ↦[arg13.view.set]{fullShare} X13) ∗ (arg15.view.loc (c : Thread nD τ) ↦[arg15.view.set]{fullShare} X15) ∗ (∃ f8, (arg8.view.loc (c : Thread nD τ) ↦[arg8.view.set]{fullShare} f8) ∗ ⌜Upto (320 * k) (dwN (arg7.view.read (Elt F) X7) (arg13.view.read (Elt F) X13)) (arg8.view.read (Elt F) f8)⌝)
    ∗ (∃ W, owes (c : Thread nD τ) 0 W) ∗ todo c g k ∗ done c (arg11.view.read (Elt F) X11) (arg15.view.read (Elt F) X15) (arg10.view.read (Elt F) X10) k ∗ role c (arg11.view.read (Elt F) X11) (arg15.view.read (Elt F) X15) (arg10.view.read (Elt F) X10) k ∗ role c (arg11.view.read (Elt F) X11) (arg15.view.read (Elt F) X15) (arg10.view.read (Elt F) X10) (k + 1))
  step := fun k acc => by
    have hk : k.val < 8 := Nat.lt_of_lt_of_eq k.isLt trips4
    have hdw : ∀ f8 : BufTy.Contents (Elt F) arg8.view.ty, Upto (320 * k.val) (dwN (arg7.view.read (Elt F) X7) (arg13.view.read (Elt F) X13)) (arg8.view.read (Elt F) f8) →
        Upto (320 * (k.val + 1)) (dwN (arg7.view.read (Elt F) X7) (arg13.view.read (Elt F) X13)) (arg8.view.read (Elt F) (arg8.view.writes (Elt F) f8
          [⟨Rect.unit (s := S2560x256) (k0_off44 k) S320x256.size (k0_off44_inb i k hc), k0_pay17 (arg7.view.readAt (Elt F) (Rect.unit (s := S2560x2048) (k0_off43 k) S320x2048.size (k0_off43_inb i k hc)).toLoadRect X7)
            (arg13.view.readAt (Elt F) (Rect.unit (s := S2048x256) ![0, 0] S2048x256.size inb_S2048x256_S2048x256_0_0).toLoadRect X13)⟩])) := fun f8 h8 => by
      refine Upto.step arg8.view f8 h8 (k0_off44_eq k) fun x z z0 z1 => ?_
      rw [← dwN_at _ _ k.val hk x z z0 z1, ← readAt_rows arg7.view X7 _ (k0_off43_inb i k hc) (k0_off43_eq k), ← View.readAt_full arg13.view X13 inb_S2048x256_S2048x256_0_0]
    have hdx : k0_pay38 (F := F) (arg11.view.readAt (Elt F) (Rect.unit (s := S2048x256) (k0_off34 k) S256x256.size (k0_off34_inb i k hc)).toLoadRect X11)
          (arg15.view.readAt (Elt F) (Rect.unit (s := S2560x256) ![0, 0] S2560x256.size inb_S2560x256_S2560x256_0_0).toLoadRect X15)
          (arg10.view.readAt (Elt F) (Rect.unit (s := S2048x2560) (k0_off35 k) S256x2560.size (k0_off35_inb i k hc)).toLoadRect X10)
        = k0_pay38 (F := F) (rowsOf 256 (arg11.view.read (Elt F) X11) (Ring.bk 8 k.val).val (by rw [Ring.bk_val hk]; omega)) (arg15.view.read (Elt F) X15)
            (rowsOf 256 (arg10.view.read (Elt F) X10) (Ring.bk 8 k.val).val (by rw [Ring.bk_val hk]; omega)) := by
      have go : ∀ (a b : ℕ) (h : a = b) (ha : 256 * a + 256 ≤ 2048) (hb : 256 * b + 256 ≤ 2048),
          k0_pay38 (F := F) (rowsOf 256 (arg11.view.read (Elt F) X11) a ha) (arg15.view.read (Elt F) X15) (rowsOf 256 (arg10.view.read (Elt F) X10) a ha)
          = k0_pay38 (F := F) (rowsOf 256 (arg11.view.read (Elt F) X11) b hb) (arg15.view.read (Elt F) X15) (rowsOf 256 (arg10.view.read (Elt F) X10) b hb) := by
        rintro a b rfl _ _; rfl
      rw [readAt_rows arg11.view X11 _ (k0_off34_inb i k hc) (k0_off34_eq k) (by omega), View.readAt_full arg15.view X15 inb_S2560x256_S2560x256_0_0,
        readAt_rows arg10.view X10 _ (k0_off35_inb i k hc) (k0_off35_eq k) (by omega)]
      exact go _ _ (Ring.bk_val hk).symm _ _
    have e2 : role c (arg11.view.read (Elt F) X11) (arg15.view.read (Elt F) X15) (arg10.view.read (Elt F) X10) (k.val + 1 + 1) = fly c (arg11.view.read (Elt F) X11) (arg15.view.read (Elt F) X15) (arg10.view.read (Elt F) X10) (Ring.sl 2 k.val) (Ring.bk 8 k.val) := by
      unfold role
      rw [if_neg (by omega), show k.val + 1 + 1 = k.val + 2 from rfl, Ring.sl_add]
      rfl
    have et := todo_step (F := F) c g k.val hk
    unfold k0_t4_body
    by_cases h2 : 2 ≤ k.val
    · have h5 : k0_cond5 k = 1#1 := (cond5_iff k).2 h2
      have er : role c (arg11.view.read (Elt F) X11) (arg15.view.read (Elt F) X15) (arg10.view.read (Elt F) X10) k.val = fly c (arg11.view.read (Elt F) X11) (arg15.view.read (Elt F) X15) (arg10.view.read (Elt F) X10) (Ring.sl 2 k.val) (Ring.bk 8 (k.val - 2)) := by
        unfold role
        exact if_neg (by omega)
      rw [e2, et, er, done_step c (arg11.view.read (Elt F) X11) (arg15.view.read (Elt F) X15) (arg10.view.read (Elt F) X10) k.val h2 (by omega)]
      iintro ⟨H7, H10, H11, H13, H15, ⟨%f8, H8, %h8⟩, ⟨%W, HW⟩, ⟨Hg, Ht⟩, Hd, HF, Hr⟩
      unfold fly
      icases HF with ⟨%X, %Y, %hY, HF⟩
      sl_exec
      sl_step
      isplitl [H7]; · iexact H7
      isplitl [H10]; · iexact H10
      isplitl [H11]; · iexact H11
      isplitl [H13]; · iexact H13
      isplitl [H15]; · iexact H15
      isplitl [H8]
      · iexists _; isplitl [H8]; · iexact H8
        ipureintro; exact hdw f8 h8
      isplitl [HW]; · iexists _; iexact HW
      isplitl [Ht]; · iexact Ht
      isplitl [Hd HF_dst]
      · isplitl [HF_dst]
        · unfold doneP; iexists Y; isplitr; · ipureintro; exact hY
          iexact HF_dst
        iexact Hd
      isplitl [Hr]; · iexact Hr
      iexists _; iexists _
      isplitr [HF]
      rotate_left
      · iexact HF
      · ipureintro
        refine (grp_read _ _ _).trans ?_
        refine (slot_read _ _ (off39_eq k) (k0_off39_inb i k hc) _ _).trans ?_
        exact congrArg (fun p => shapeCast S256x2560 p squeezes_S1x256x2560_S256x2560.numel_eq) hdx
    · have h5 : ¬ k0_cond5 k = 1#1 := fun h => h2 ((cond5_iff k).1 h)
      have er : role c (arg11.view.read (Elt F) X11) (arg15.view.read (Elt F) X15) (arg10.view.read (Elt F) X10) k.val = idle (F := F) c (Ring.sl 2 k.val) := by
        unfold role
        exact if_pos (by omega)
      rw [e2, et, er, done_low c (arg11.view.read (Elt F) X11) (arg15.view.read (Elt F) X15) (arg10.view.read (Elt F) X10) k.val (by omega), done_low c (arg11.view.read (Elt F) X11) (arg15.view.read (Elt F) X15) (arg10.view.read (Elt F) X10) (k.val + 1) (by omega)]
      iintro ⟨H7, H10, H11, H13, H15, ⟨%f8, H8, %h8⟩, ⟨%W, HW⟩, ⟨Hg, Ht⟩, Hd, HF, Hr⟩
      unfold idle
      icases HF with ⟨%f, Hs, Hc⟩
      sl_exec
      sl_step
      isplitl [H7]; · iexact H7
      isplitl [H10]; · iexact H10
      isplitl [H11]; · iexact H11
      isplitl [H13]; · iexact H13
      isplitl [H15]; · iexact H15
      isplitl [H8]
      · iexists _; isplitl [H8]; · iexact H8
        ipureintro; exact hdw f8 h8
      isplitl [HW]; · iexists _; iexact HW
      isplitl [Ht]; · iexact Ht
      isplitl [Hd]; · iexact Hd
      isplitl [Hr]; · iexact Hr
      unfold fly
      iexists _; iexists _
      isplitr [Hc]
      rotate_left
      · iexact Hc
      · ipureintro
        refine (grp_read _ _ _).trans ?_
        refine (slot_read _ _ (off39_eq k) (k0_off39_inb i k hc) _ _).trans ?_
        exact congrArg (fun p => shapeCast S256x2560 p squeezes_S1x256x2560_S256x2560.numel_eq) hdx

end Pieces
end Cert.Proof.Kernel
-- ==== Proof.Kernel.Final.lean ====
/- The body at the last point: the last chunk's products are added on the way out, dx leaves block by block, the last two
   copies are waited for. -/
module

public import proofs.«01_k».proof.Proof.Kernel.Last

@[expose] public section

set_option maxRecDepth 8192
set_option maxHeartbeats 4000000

noncomputable section

namespace Cert.Proof.Kernel

open Cert.Kernel Cert.Kernel.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

omit [FloatOps F] in
theorem entails_of_eq {P Q : sProp 𝕄} (e : P = Q) : P ⊢ Q := e ▸ .rfl

/-! ## The element sets of the row blocks and of the slots -/

abbrev G8 (b : Fin 8) : Finset S2048x2560.Idx := (Rect.unit (s := S2048x2560) (grpOff b) S256x2560.size (grpOff_inb b)).set
abbrev T2 (s : Fin 2) : Finset S2x256x2560.Idx := (Rect.unit (s := S2x256x2560) (slotOff s) S1x256x2560.size (slotOff_inb s)).set

theorem grp_set (b : Fin 8) : (grp b).view.set = G8 b := View.set_slice_whole _ _
theorem rslot_set (s : Fin 2) : (rslot s).view.set = T2 s := (View.set_reshape _ _).trans (View.set_slice_whole _ _)

theorem mem_G8 (b : Fin 8) (y : S2048x2560.Idx) : y ∈ G8 b ↔ (y 0).val / 256 = b.val := by
  rw [Rect.mem_set_unit]
  have h1 : (y 1).val < 2560 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 2560; omega
theorem mem_T2 (s : Fin 2) (y : S2x256x2560.Idx) : y ∈ T2 s ↔ (y 0).val = s.val := by
  rw [Rect.mem_set_unit]
  have h1 : (y 1).val < 256 := (y 1).isLt
  have h2 : (y 2).val < 2560 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 2560; omega
theorem G8_disjoint : ∀ b b' : Fin 8, b ≠ b' → Disjoint (G8 b) (G8 b') := by
  intro b b' hne; rw [Finset.disjoint_left]; intro y hy hy'; rw [mem_G8] at hy hy'; exact hne (Fin.ext (hy.symm.trans hy'))
theorem G8_cover : (Finset.univ : Finset (Fin 8)).biUnion G8 = Finset.univ := by
  ext y
  have h0 : (y 0).val < 2048 := (y 0).isLt
  simp only [Finset.mem_biUnion, Finset.mem_univ, true_and, iff_true]
  exact ⟨⟨(y 0).val / 256, by omega⟩, by rw [mem_G8]⟩
theorem T2_disjoint : ∀ s s' : Fin 2, s ≠ s' → Disjoint (T2 s) (T2 s') := by
  intro s s' hne; rw [Finset.disjoint_left]; intro y hy hy'; rw [mem_T2] at hy hy'; exact hne (Fin.ext (hy.symm.trans hy'))
theorem T2_cover : (Finset.univ : Finset (Fin 2)).biUnion T2 = Finset.univ := by
  ext y; simp only [Finset.mem_biUnion, Finset.mem_univ, true_and, iff_true]; exact ⟨(y 0).cast (by decide), by rw [mem_T2]; rfl⟩

/-- The result dx whole: its eight row blocks. -/
def dxAll (D : S2048x256.Idx → Elt F .bf16) (W : S2560x256.Idx → Elt F .bf16) (O : S2048x2560.Idx → Elt F .f32) (y : S2048x2560.Idx) : Elt F .bf16 :=
  have h0 : (y 0).val < 2048 := (y 0).isLt
  dxB D W O ⟨(y 0).val / 256, by omega⟩ (ix ((y 0).val % 256) (y 1).val (Nat.mod_lt _ (by decide)) (y 1).isLt)

theorem dxAll_at (D : S2048x256.Idx → Elt F .bf16) (W : S2560x256.Idx → Elt F .bf16) (O : S2048x2560.Idx → Elt F .f32) (b : Fin 8)
    (x : S256x2560.Idx) (z : S2048x2560.Idx) (h0 : (z 0).val = 256 * b.val + (x 0).val) (h1 : (z 1).val = (x 1).val) :
    dxAll D W O z = dxB D W O b x := by
  have hx : (x 0).val < 256 := (x 0).isLt
  obtain ⟨b, hb⟩ := b
  have h0' : (z 0).val = 256 * b + (x 0).val := h0
  have e : (z 0).val / 256 = b := by omega
  subst e
  have ex : (ix ((z 0).val % 256) (z 1).val (Nat.mod_lt _ (by decide)) (z 1).isLt : S256x2560.Idx) = x :=
    ix_ext (d := S256x2560.size) _ x (by show (z 0).val % 256 = (x 0).val; omega) (by show (z 1).val = (x 1).val; omega)
  exact congrArg (dxB D W O ⟨(z 0).val / 256, hb⟩) ex

section Pieces
variable (c : Dev nD)

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

omit [FloatOps F] in
/-- dx whole is its eight blocks, none written. -/
theorem dx_split (g : Buf (Elt F) ((c : Thread nD τ).loc main_v0_1)) :
    (((c : Thread nD τ).loc main_v0_1) ↦{fullShare} g : sProp 𝕄) = todo c g 0 := by
  rw [Ring.pointsTo_blocks (ℓ := (c : Thread nD τ).loc main_v0_1) G8 G8_disjoint G8_cover]
  unfold todo
  rw [show (Finset.univ.filter fun b : Fin 8 => 0 ≤ b.val) = Finset.univ from Finset.filter_true_of_mem fun _ _ => Nat.zero_le _]
  exact bigSep_congr fun b _ => by rw [← grp_set]; rfl

variable (D : S2048x256.Idx → Elt F .bf16) (W : S2560x256.Idx → Elt F .bf16) (O : S2048x2560.Idx → Elt F .f32)

/-- A block written holds its part of dx. -/
theorem doneP_part (b : Fin 8) : doneP c D W O b ⊢ (((c : Thread nD τ).loc main_v0_1) ↦[G8 b]{fullShare} dxAll D W O : sProp 𝕄) := by
  unfold doneP
  iintro ⟨%Y, %hY, H⟩
  have e : (homeP c b Y : sProp 𝕄) = (((c : Thread nD τ).loc main_v0_1) ↦[G8 b]{fullShare} dxAll D W O : sProp 𝕄) := by
    rw [← grp_set]
    refine pointsTo_congr fun y hy => ?_
    obtain ⟨x, -, rfl⟩ := Finset.mem_map.1 hy
    refine (congrFun hY x).trans (dxAll_at D W O b x _ ?_ ?_).symm
    · show 256 * b.val + 1 * (x 0).val = _; omega
    · show 0 + 1 * (x 1).val = _; omega
  irw [← e]
  iexact H

/-- All blocks written, dx is whole. -/
theorem dx_join : done c D W O 10 ⊢ (((c : Thread nD τ).loc main_v0_1) ↦{fullShare} dxAll D W O : sProp 𝕄) := by
  rw [Ring.pointsTo_blocks (ℓ := (c : Thread nD τ).loc main_v0_1) G8 G8_disjoint G8_cover]
  unfold done
  rw [show (Finset.univ.filter fun b : Fin 8 => b.val + 2 < 10) = Finset.univ from Finset.filter_true_of_mem fun b _ => by have := b.isLt; omega]
  exact bigSep_mono fun b _ => doneP_part c D W O b

omit [FloatOps F] in
theorem slotP_eq (s : Fin 2) (f) : slotP c s f = (((c : Thread nD τ).loc cc0_scratch7) ↦[T2 s]{fullShare} f : sProp 𝕄) :=
  congrArg (fun S => (_ ↦[S]{fullShare} f : sProp 𝕄)) (rslot_set s)
omit [FloatOps F] in
/-- The staging buffer whole is its two slots, and back. -/
theorem buf_split :
    iprop(∃ f : Buf (Elt F) ((c : Thread nD τ).loc cc0_scratch7), ((c : Thread nD τ).loc cc0_scratch7) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch7) T2 T2_disjoint T2_cover f).trans (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
omit [FloatOps F] in
theorem buf_join (f0 f1) : iprop(slotP c 0 f0 ∗ slotP c 1 f1)
      ⊢ (iprop(∃ f : Buf (Elt F) ((c : Thread nD τ).loc cc0_scratch7), ((c : Thread nD τ).loc cc0_scratch7) ↦{fullShare} f) : sProp 𝕄) := by
  iintro ⟨H0, H1⟩
  iapply (Ring.pointsTo_blocks_join_exists (ℓ := (c : Thread nD τ).loc cc0_scratch7) T2 T2_disjoint T2_cover f0)
  irw [bigSep_fin2]
  isplitl [H0]
  · iexists f0; iapply (entails_of_eq (slotP_eq c 0 f0)); iexact H0
  · iexists f1; iapply (entails_of_eq (slotP_eq c 1 f1)); iexact H1

theorem role_0 : role c D W O 0 = idle (F := F) c 0 := by unfold role; rw [if_pos (by decide)]; rfl
theorem role_1 : role c D W O (0 + 1) = idle (F := F) c 1 := by unfold role; rw [if_pos (by decide)]; rfl
theorem role_8 : role c D W O 8 = fly (F := F) c D W O 0 6 := by unfold role; rw [if_neg (by decide)]; rfl
theorem role_9 : role c D W O (8 + 1) = fly (F := F) c D W O 1 7 := by unfold role; rw [if_neg (by decide)]; rfl

attribute [local irreducible] todo done role

variable (i : grid0.Coords)
  (arg1 : Memref sig .tc .vmem S2048x128 .bf16) (harg1 : arg1.IsWhole) (arg2 : Memref sig .tc .vmem S2048x128 .bf16) (harg2 : arg2.IsWhole) (arg3 : Memref sig .tc .vmem S2560x128 .bf16) (harg3 : arg3.IsWhole) (arg4 : Memref sig .tc .vmem S2560x128 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S2560x2048 .bf16) (harg7 : arg7.IsWhole) (arg8 : Memref sig .tc .vmem S2560x256 .f32) (harg8 : arg8.IsWhole) (arg10 : Memref sig .tc .vmem S2048x2560 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2560x256 .bf16) (harg15 : arg15.IsWhole) (arg16 : Memref sig .tc .vmem S2560x256 .bf16) (harg16 : arg16.IsWhole)

/-- The last point. -/
theorem run4  (h1 : ¬ k0_cond1 i = 1#1) (h2 : ¬ k0_cond2 i = 1#1) (h3 : ¬ k0_cond3 i = 1#1) (h4 : k0_cond4 i = 1#1)
    (X7 : BufTy.Contents (Elt F) arg7.view.ty) (X10 : BufTy.Contents (Elt F) arg10.view.ty) (X11 : BufTy.Contents (Elt F) arg11.view.ty) (X13 : BufTy.Contents (Elt F) arg13.view.ty) (X15 : BufTy.Contents (Elt F) arg15.view.ty) (g : Buf (Elt F) ((c : Thread nD τ).loc main_v0_1)) (K : PUnit → sProp 𝕄) :
    iprop((arg7.view.loc (c : Thread nD τ) ↦[arg7.view.set]{fullShare} X7) ∗ (arg10.view.loc (c : Thread nD τ) ↦[arg10.view.set]{fullShare} X10) ∗ (arg11.view.loc (c : Thread nD τ) ↦[arg11.view.set]{fullShare} X11) ∗ (arg13.view.loc (c : Thread nD τ) ↦[arg13.view.set]{fullShare} X13) ∗ (arg15.view.loc (c : Thread nD τ) ↦[arg15.view.set]{fullShare} X15) ∗ (∃ f8, (arg8.view.loc (c : Thread nD τ) ↦[arg8.view.set]{fullShare} f8) ) ∗ (∃ W, owes (c : Thread nD τ) 0 W)
        ∗ (((c : Thread nD τ).loc main_v0_1) ↦{fullShare} g) ∗ (∃ f : Buf (Elt F) ((c : Thread nD τ).loc cc0_scratch7), ((c : Thread nD τ).loc cc0_scratch7) ↦{fullShare} f) ∗ cellP (F := F) c 0 ∗ cellP (F := F) c 1
      ∗ (iprop((arg7.view.loc (c : Thread nD τ) ↦[arg7.view.set]{fullShare} X7) ∗ (arg10.view.loc (c : Thread nD τ) ↦[arg10.view.set]{fullShare} X10) ∗ (arg11.view.loc (c : Thread nD τ) ↦[arg11.view.set]{fullShare} X11) ∗ (arg13.view.loc (c : Thread nD τ) ↦[arg13.view.set]{fullShare} X13) ∗ (arg15.view.loc (c : Thread nD τ) ↦[arg15.view.set]{fullShare} X15) ∗ (∃ f8, (arg8.view.loc (c : Thread nD τ) ↦[arg8.view.set]{fullShare} f8) ∗ ⌜arg8.view.read (Elt F) f8 = dwN (arg7.view.read (Elt F) X7) (arg13.view.read (Elt F) X13)⌝) ∗ (∃ W, owes (c : Thread nD τ) 0 W)
        ∗ (((c : Thread nD τ).loc main_v0_1) ↦{fullShare} dxAll (arg11.view.read (Elt F) X11) (arg15.view.read (Elt F) X15) (arg10.view.read (Elt F) X10) ) ∗ (∃ f : Buf (Elt F) ((c : Thread nD τ).loc cc0_scratch7), ((c : Thread nD τ).loc cc0_scratch7) ↦{fullShare} f) ∗ cellP (F := F) c 0 ∗ cellP (F := F) c 1) -∗ K ⟨⟩))
      ⊢ wp frame (wpE (defs₀ (F := F)) 𝒱₀ (c : Thread nD τ) none) Set.univ (cc0_dx_dw i arg1 harg1 arg2 harg2 arg3 harg3 arg4 harg4 arg5 harg5 arg6 harg6 arg7 harg7 arg8 harg8 dxM (Memref.isWhole_whole _) arg10 harg10 arg11 harg11 arg12 harg12 arg13 harg13 arg14 harg14 arg15 harg15 arg16 harg16 bufM (Memref.isWhole_whole _) cc0_scratch8) K := by
  simp only [cc0_dx_dw_eq_skeleton]; unfold cc0_dx_dw_skel
  iintro ⟨H7, H10, H11, H13, H15, ⟨%f8, H8⟩, ⟨%W, HW⟩, Hx, Hb, Hc0, Hc1, Hk⟩
  have z8 : Upto (320 * 0) (dwN (arg7.view.read (Elt F) X7) (arg13.view.read (Elt F) X13)) (arg8.view.read (Elt F) f8) := Upto.zero _ _
  ihave Ht := (entails_of_eq (dx_split c g)) $$ Hx
  ihave Hb2 := (buf_split c) $$ Hb
  icases Hb2 with ⟨⟨%b0, Hs0⟩, ⟨%b1, Hs1⟩⟩
  ihave Hd := (entails_of_eq (done_low c (arg11.view.read (Elt F) X11) (arg15.view.read (Elt F) X15) (arg10.view.read (Elt F) X10) 0 (by decide)).symm) $$ []
  · iempintro
  ihave Hr0 := (entails_of_eq (role_0 c (arg11.view.read (Elt F) X11) (arg15.view.read (Elt F) X15) (arg10.view.read (Elt F) X10) ).symm) $$ [Hs0 Hc0]
  · unfold idle; iexists b0; isplitl [Hs0]; · iexact Hs0
    iexact Hc0
  ihave Hr1 := (entails_of_eq (role_1 c (arg11.view.read (Elt F) X11) (arg15.view.read (Elt F) X15) (arg10.view.read (Elt F) X10) ).symm) $$ [Hs1 Hc1]
  · unfold idle; iexists b1; isplitl [Hs1]; · iexact Hs1
    iexact Hc1
  letI L := loopInv4 (F := F) c i arg1 harg1 arg2 harg2 arg3 harg3 arg4 harg4 arg5 harg5 arg6 harg6 arg7 harg7 arg8 harg8 arg10 harg10 arg11 harg11 arg12 harg12 arg13 harg13 arg14 harg14 arg15 harg15 arg16 harg16 h4 X7 X10 X11 X13 X15 g
  sl_exec
  rw [show Scf.trips k0_t4_loop.lb k0_t4_loop.ub k0_t4_loop.st = 8 from trips4]
  ihave Hf0 := (entails_of_eq (role_8 c (arg11.view.read (Elt F) X11) (arg15.view.read (Elt F) X15) (arg10.view.read (Elt F) X10) )) $$ Hr0
  ihave Hf1 := (entails_of_eq (role_9 c (arg11.view.read (Elt F) X11) (arg15.view.read (Elt F) X15) (arg10.view.read (Elt F) X10) )) $$ Hr1
  unfold fly
  icases Hf0 with ⟨%X0, %Y0, %hY0, Hf0⟩
  icases Hf1 with ⟨%X1, %Y1, %hY1, Hf1⟩
  sl_exec
  sl_step
  iapply Hk
  isplitl [H7]; · iexact H7
  isplitl [H10]; · iexact H10
  isplitl [H11]; · iexact H11
  isplitl [H13]; · iexact H13
  isplitl [H15]; · iexact H15
  isplitl [H8]
  · iexists _; isplitl [H8]; · iexact H8
    ipureintro; exact Upto.all (by assumption) (by decide)
  isplitl [HW]; · iexists _; iexact HW
  isplitl [Hd Hf0_dst Hf1_dst]
  · iapply (dx_join c (arg11.view.read (Elt F) X11) (arg15.view.read (Elt F) X15) (arg10.view.read (Elt F) X10) )
    irw [done_step c (arg11.view.read (Elt F) X11) (arg15.view.read (Elt F) X15) (arg10.view.read (Elt F) X10) 9 (by decide) (by decide)]
    irw [done_step c (arg11.view.read (Elt F) X11) (arg15.view.read (Elt F) X15) (arg10.view.read (Elt F) X10) 8 (by decide) (by decide)]
    isplitl [Hf1_dst]
    · unfold doneP; iexists Y1; isplitr; · ipureintro; exact hY1
      iexact Hf1_dst
    isplitl [Hf0_dst]
    · unfold doneP; iexists Y0; isplitr; · ipureintro; exact hY0
      iexact Hf0_dst
    iexact Hd
  isplitl [Hf0_src Hf1_src]
  · iapply (buf_join c X0 X1)
    isplitl [Hf0_src]; · iexact Hf0_src
    iexact Hf1_src
  isplitl [Hf0]; · iexact Hf0
  iexact Hf1

end Pieces

end Cert.Proof.Kernel
-- ==== Proof.Kernel.Run.lean ====
/- The run of the whole call: what stands between two grid points, the body at each point, the launch. dx is left in its
   array by the last point, dw block by block by the pipeline. -/
module

public import proofs.«01_k».proof.Proof.Kernel.Body
public import proofs.«01_k».proof.Proof.Kernel.Final
public import proofs.«01_k».proof.Proof.Gen.Kernel.Frame
public import Idealize.ShloMosaic.Lib.Pipeline.FrameValue

@[expose] public section

set_option maxRecDepth 8192
set_option maxHeartbeats 4000000

noncomputable section

namespace Cert.Proof.Kernel

open Cert.Kernel Cert.Kernel.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## The operands chunk by chunk, the running sum, the results -/

/-- The grid point numbered `n`. -/
def tp (n : ℕ) : Fin cfg0.N := ⟨n % 28, by rw [show cfg0.N = 28 from N_0]; exact Nat.mod_lt _ (by decide)⟩
theorem tp_val (t : Fin cfg0.N) : tp t.val = t :=
  Fin.ext (Nat.mod_eq_of_lt (Nat.lt_of_lt_of_eq t.isLt N_0))

/-- Chunk `n` of dy, of w, of dy by token. -/
def Dn (c : Dev nD) (n : ℕ) : S2048x256.Idx → Elt F .bf16 := cat (iblk m c 0 (tp n)) (iblk m c 1 (tp n))
def Wn (c : Dev nD) (n : ℕ) : S2560x256.Idx → Elt F .bf16 := cat (iblk m c 2 (tp n)) (iblk m c 3 (tp n))
def Tn (c : Dev nD) (n : ℕ) : S2048x256.Idx → Elt F .bf16 := lace (iblk m c 4 (tp n)) (iblk m c 5 (tp n))
/-- The accumulator after `n` chunks. -/
def An (c : Dev nD) : ℕ → S2048x2560.Idx → Elt F .f32
  | 0 => fun _ => Scalar.ofBits (F := F) .f32 0x00000000#32
  | n + 1 => accN (Dn m c n) (Wn m c n) (An c n)
/-- The result dx. -/
def dxG (c : Dev nD) : S2048x2560.Idx → Elt F .bf16 := dxAll (Dn m c 26) (Wn m c 26) (An m c 26)
/-- The block of dw that point `t` computes. -/
def dwO (c : Dev nD) (t : Fin cfg0.N) : S2560x256.Idx → Elt F .f32 := dwN (iblk m c 6 t) (Tn m c (t.val - 1))
theorem An_succ (c : Dev nD) (n : ℕ) (h : 1 ≤ n) : An m c n = accN (Dn m c (n - 1)) (Wn m c (n - 1)) (An m c (n - 1)) := by
  obtain ⟨k, rfl⟩ : ∃ k, n = k + 1 := ⟨n - 1, by omega⟩
  rfl

/-! ## Between two points -/

/-- A whole scratch buffer at contents satisfying `P`. -/
def held (c : Dev nD) {S : Shape} {e : EltTy} (M : Memref sig .tc .vmem S e) (P : (S.Idx → Elt F e) → Prop) : sProp 𝕄 :=
  iprop(∃ f, (M.view.loc (c : Thread nD τ) ↦[M.view.set]{fullShare} f) ∗ ⌜P (M.view.read (Elt F) f)⌝)

abbrev s10 : Memref sig .tc .vmem S2048x2560 .f32 := Memref.whole cc0_scratch0
abbrev s11 : Memref sig .tc .vmem S2048x256 .bf16 := Memref.whole cc0_scratch1
abbrev s12 : Memref sig .tc .vmem S2048x256 .bf16 := Memref.whole cc0_scratch2
abbrev s13 : Memref sig .tc .vmem S2048x256 .bf16 := Memref.whole cc0_scratch3
abbrev s14 : Memref sig .tc .vmem S2048x256 .bf16 := Memref.whole cc0_scratch4
abbrev s15 : Memref sig .tc .vmem S2560x256 .bf16 := Memref.whole cc0_scratch5
abbrev s16 : Memref sig .tc .vmem S2560x256 .bf16 := Memref.whole cc0_scratch6

def xAt (c : Dev nD) (n : ℕ) : Buf (Elt F) ((c : Thread nD τ).loc main_v0_1) := if n = 28 then dxG m c else V m c main_v0_1

/-- Before point `n`: the accumulator holds the chunks before `n - 1`, the buffers filled at point `n - 1` its chunk, the
    staging buffer and its semaphores are free, dx is as found until all is done. -/
def Φn (c : Dev nD) (n : ℕ) : sProp 𝕄 :=
  iprop(held c s10 (fun f => 1 ≤ n → n ≤ 27 → f = An m c (n - 1))
    ∗ held c s11 (fun f => n % 2 = 1 → f = Dn m c (n - 1)) ∗ held c s13 (fun f => n % 2 = 1 → f = Tn m c (n - 1)) ∗ held c s15 (fun f => n % 2 = 1 → f = Wn m c (n - 1))
    ∗ held c s12 (fun f => n % 2 = 0 → 1 ≤ n → n ≤ 27 → f = Dn m c (n - 1)) ∗ held c s14 (fun f => n % 2 = 0 → 1 ≤ n → n ≤ 27 → f = Tn m c (n - 1)) ∗ held c s16 (fun f => n % 2 = 0 → 1 ≤ n → n ≤ 27 → f = Wn m c (n - 1))
    ∗ (∃ f : Buf (Elt F) ((c : Thread nD τ).loc cc0_scratch7), ((c : Thread nD τ).loc cc0_scratch7) ↦{fullShare} f)
    ∗ cellP (F := F) c 0 ∗ cellP (F := F) c 1 ∗ (∃ r, prngReg c r)
    ∗ (((c : Thread nD τ).loc main_v0_1) ↦{fullShare} xAt m c n))

/-- The proof data of the call. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dwO m c t
    | ⟨_ + 8, h⟩ => absurd h (Nat.not_lt.2 (Nat.le_add_left _ _))
  Φ t := Φn m c t.val
  q _ := fullShare
  owed _ := 0

theorem A_eq (c : Dev nD) (w : Fin cfg0.W) : (dats m 0 c).A w = V m c (Pipeline.arrRef spec0 w) := rfl

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem before_4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl
theorem before_5 (c : Dev nD) (t : Fin cfg0.N) (d) : (dats m 0 c).before 5 t d = iblk m c 5 t :=
  ((dats m 0 c).before_in_eq_fetched 5 rfl (fun _ => rfl) (fun _ _ _ => rfl) (fun _ => rfl) t d).trans rfl
theorem before_6 (c : Dev nD) (t : Fin cfg0.N) (d) : (dats m 0 c).before 6 t d = iblk m c 6 t :=
  ((dats m 0 c).before_in_eq_fetched 6 rfl (fun _ => rfl) (fun _ _ _ => rfl) (fun _ => rfl) t d).trans rfl

/-! ## The body at each point -/

theorem cond1_iff : ∀ t : Fin cfg0.N, k0_cond1 (grid0.coords t) = 1#1 ↔ t.val = 0 := by decide +kernel
theorem cond2_iff : ∀ t : Fin cfg0.N, k0_cond2 (grid0.coords t) = 1#1 ↔ t.val % 2 = 1 ∧ t.val < 27 := by decide +kernel
theorem cond3_iff : ∀ t : Fin cfg0.N, k0_cond3 (grid0.coords t) = 1#1 ↔ t.val % 2 = 0 ∧ 0 < t.val := by decide +kernel
theorem cond4_iff : ∀ t : Fin cfg0.N, k0_cond4 (grid0.coords t) = 1#1 ↔ t.val = 27 := by decide +kernel
theorem idle7_iff : ∀ t : Fin cfg0.N, cfg0.idle 7 (cfg0.grid.coords t) = true ↔ t.val = 0 := by decide +kernel
theorem flush7_iff : ∀ t : Fin cfg0.N, (cfg0.win 7).flush t = true ↔ t.val ≠ 0 := by decide +kernel

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
/-- What the body leaves, the dw block's buffer apart. -/
def bodyPost (c : Dev nD) (t : Fin cfg0.N) (P : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ P)

theorem sound_first (c : Dev nD) (t : Fin cfg0.N) (ht : t.val = 0) :
    bodyPre m c t ⊢ wp frame (wpE (defs₀ (F := F)) 𝒱₀ c none) Set.univ (bodyAt0 t) (fun _ => bodyPost m c t iprop(∃ d, owns (c : Thread nD τ) (st0_7 t) fullShare ((dats m 0 c).before 7 t d))) := by
  have hN : t.val < 28 := Nat.lt_of_lt_of_eq t.isLt N_0
  have e : t.castSucc.val = t.val := rfl
  have e' : t.succ.val = t.val + 1 := rfl
  have tv := tp_val t
  unfold bodyPre bodyPost bodyAt0
  rw [show (dats m 0 c).Φ t.castSucc = Φn m c t.val from rfl, show (dats m 0 c).Φ t.succ = Φn m c (t.val + 1) from rfl]
  unfold Dat.owesAt Pipeline.owesWithin
  rw [show (dats m 0 c).owed t.castSucc = 0 from rfl, show (dats m 0 c).owed t.succ = 0 from rfl]
  simp only [before_0, before_1, before_2, before_3, before_4, before_5, before_6]

  unfold Φn held owns
  iintro ⟨⟨⟨%f10, H10, %p10⟩, ⟨%f11, H11, %p11⟩, ⟨%f13, H13, %p13⟩, ⟨%f15, H15, %p15⟩, ⟨%f12, H12, %p12⟩, ⟨%f14, H14, %p14⟩, ⟨%f16, H16, %p16⟩, Hs, Hc0, Hc1, Hg, Hx⟩, ⟨%W, -, HW⟩, ⟨%d0, %X1, %x1, H1⟩, ⟨%d1, %X2, %x2, H2⟩, ⟨%d2, %X3, %x3, H3⟩, ⟨%d3, %X4, %x4, H4⟩, ⟨%d4, %X5, %x5, H5⟩, ⟨%d5, %X6, %x6, H6⟩, ⟨%d6, %X7, %x7, H7⟩, ⟨%d7, %X8, %x8, H8⟩⟩
  iapply (run1 c (grid0.coords t) _ _ _ _ _ _ _ _ _ _ _ _ _ _ _ _ _ _ _ _ _ _ _ _ _ _ _ _ _ _ _ _ _ _ _ ((cond1_iff t).2 ht) (fun h => by have := (cond2_iff t).1 h; omega) (fun h => by have := (cond3_iff t).1 h; omega) (fun h => by have := (cond4_iff t).1 h; omega) X1 X2 X3 X4 X5 X6 _)
  isplitl [H1]; · iexact H1
  isplitl [H2]; · iexact H2
  isplitl [H3]; · iexact H3
  isplitl [H4]; · iexact H4
  isplitl [H5]; · iexact H5
  isplitl [H6]; · iexact H6
  isplitl [H10]; · iexists _; iexact H10
  isplitl [H11]; · iexists _; iexact H11
  isplitl [H13]; · iexists _; iexact H13
  isplitl [H15]; · iexists _; iexact H15
  iintro ⟨H1, H2, H3, H4, H5, H6, ⟨%g10, H10, %q10⟩, ⟨%g11, H11, %q11⟩, ⟨%g13, H13, %q13⟩, ⟨%g15, H15, %q15⟩⟩
  isplitl [H10 H11 H13 H15 H12 H14 H16 Hs Hc0 Hc1 Hg Hx]
  · isplitl [H10]
    · iexists _; isplitl [H10]; · iexact H10
      ipureintro; intro _; intros; rw [q10, Nat.add_sub_cancel, ht]; rfl
    isplitl [H11]
    · iexists _; isplitl [H11]; · iexact H11
      ipureintro; intro _; intros; rw [q11, x1, x2, Nat.add_sub_cancel]; unfold Dn; rw [tv]
    isplitl [H13]
    · iexists _; isplitl [H13]; · iexact H13
      ipureintro; intro _; intros; rw [q13, x5, x6, Nat.add_sub_cancel]; unfold Tn; rw [tv]
    isplitl [H15]
    · iexists _; isplitl [H15]; · iexact H15
      ipureintro; intro _; intros; rw [q15, x3, x4, Nat.add_sub_cancel]; unfold Wn; rw [tv]
    isplitl [H12]
    · iexists _; isplitl [H12]; · iexact H12
      ipureintro; intro _; intros; exfalso; omega
    isplitl [H14]
    · iexists _; isplitl [H14]; · iexact H14
      ipureintro; intro _; intros; exfalso; omega
    isplitl [H16]
    · iexists _; isplitl [H16]; · iexact H16
      ipureintro; intro _; intros; exfalso; omega
    isplitl [Hs]; · iexact Hs
    isplitl [Hc0]; · iexact Hc0
    isplitl [Hc1]; · iexact Hc1
    isplitl [Hg]; · iexact Hg
    irw [show xAt m c (t.val + 1) = xAt m c t.val from (if_neg (by omega)).trans (if_neg (by omega)).symm]
    iexact Hx
  isplitl [HW]
  · iexists W; isplitr; · ipureintro; exact fun _ _ => Or.inl trivial
    iexact HW
  isplitl [H1]
  · iexists X1; isplitr; · ipureintro; exact x1
    iexact H1
  isplitl [H2]
  · iexists X2; isplitr; · ipureintro; exact x2
    iexact H2
  isplitl [H3]
  · iexists X3; isplitr; · ipureintro; exact x3
    iexact H3
  isplitl [H4]
  · iexists X4; isplitr; · ipureintro; exact x4
    iexact H4
  isplitl [H5]
  · iexists X5; isplitr; · ipureintro; exact x5
    iexact H5
  isplitl [H6]
  · iexists X6; isplitr; · ipureintro; exact x6
    iexact H6
  isplitl [H7]
  · iexists X7; isplitr; · ipureintro; exact x7
    iexact H7
  iexists d7; iexists X8; isplitr; · ipureintro; exact x8
  iexact H8

theorem sound_odd (c : Dev nD) (t : Fin cfg0.N) (ht : t.val % 2 = 1 ∧ t.val < 27) :
    bodyPre m c t ⊢ wp frame (wpE (defs₀ (F := F)) 𝒱₀ c none) Set.univ (bodyAt0 t) (fun _ => bodyPost m c t (owns (c : Thread nD τ) (st0_7 t) fullShare ((dats m 0 c).after 7 t))) := by
  have hN : t.val < 28 := Nat.lt_of_lt_of_eq t.isLt N_0
  have e : t.castSucc.val = t.val := rfl
  have e' : t.succ.val = t.val + 1 := rfl
  have tv := tp_val t
  unfold bodyPre bodyPost bodyAt0
  rw [show (dats m 0 c).Φ t.castSucc = Φn m c t.val from rfl, show (dats m 0 c).Φ t.succ = Φn m c (t.val + 1) from rfl]
  unfold Dat.owesAt Pipeline.owesWithin
  rw [show (dats m 0 c).owed t.castSucc = 0 from rfl, show (dats m 0 c).owed t.succ = 0 from rfl]
  simp only [before_0, before_1, before_2, before_3, before_4, before_5, before_6]

  unfold Φn held owns
  iintro ⟨⟨⟨%f10, H10, %p10⟩, ⟨%f11, H11, %p11⟩, ⟨%f13, H13, %p13⟩, ⟨%f15, H15, %p15⟩, ⟨%f12, H12, %p12⟩, ⟨%f14, H14, %p14⟩, ⟨%f16, H16, %p16⟩, Hs, Hc0, Hc1, Hg, Hx⟩, ⟨%W, -, HW⟩, ⟨%d0, %X1, %x1, H1⟩, ⟨%d1, %X2, %x2, H2⟩, ⟨%d2, %X3, %x3, H3⟩, ⟨%d3, %X4, %x4, H4⟩, ⟨%d4, %X5, %x5, H5⟩, ⟨%d5, %X6, %x6, H6⟩, ⟨%d6, %X7, %x7, H7⟩, ⟨%d7, %X8, %x8, H8⟩⟩
  iapply (run2 c (grid0.coords t) _ _ _ _ _ _ _ _ _ _ _ _ _ _ _ _ _ _ _ _ _ _ _ _ _ _ _ _ _ _ _ _ _ _ _ (fun h => by have := (cond1_iff t).1 h; omega) ((cond2_iff t).2 ht) (fun h => by have := (cond3_iff t).1 h; omega) (fun h => by have := (cond4_iff t).1 h; omega) X1 X2 X3 X4 X5 X6 X7 f11 f13 f15 f10 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H11]; · iexact H11
  isplitl [H13]; · iexact H13
  isplitl [H15]; · iexact H15
  isplitl [H8]; · iexists _; iexact H8
  isplitl [H10]; · iexact H10
  isplitl [H12]; · iexists _; iexact H12
  isplitl [H14]; · iexists _; iexact H14
  isplitl [H16]; · iexists _; iexact H16
  iintro ⟨H1, H2, H3, H4, H5, H6, H7, H11, H13, H15, ⟨%g8, H8, %q8⟩, ⟨%g10, H10, %q10⟩, ⟨%g12, H12, %q12⟩, ⟨%g14, H14, %q14⟩, ⟨%g16, H16, %q16⟩⟩
  isplitl [H10 H11 H13 H15 H12 H14 H16 Hs Hc0 Hc1 Hg Hx]
  · isplitl [H10]
    · iexists _; isplitl [H10]; · iexact H10
      ipureintro; intro _; intros; rw [q10, (p11 (by omega)), (p15 (by omega)), p10 (by omega) (by omega), Nat.add_sub_cancel]; exact (An_succ m c t.val (by omega)).symm
    isplitl [H11]
    · iexists _; isplitl [H11]; · iexact H11
      ipureintro; intro _; intros; exfalso; omega
    isplitl [H13]
    · iexists _; isplitl [H13]; · iexact H13
      ipureintro; intro _; intros; exfalso; omega
    isplitl [H15]
    · iexists _; isplitl [H15]; · iexact H15
      ipureintro; intro _; intros; exfalso; omega
    isplitl [H12]
    · iexists _; isplitl [H12]; · iexact H12
      ipureintro; intro _; intros; rw [q12, x1, x2, Nat.add_sub_cancel]; unfold Dn; rw [tv]
    isplitl [H14]
    · iexists _; isplitl [H14]; · iexact H14
      ipureintro; intro _; intros; rw [q14, x5, x6, Nat.add_sub_cancel]; unfold Tn; rw [tv]
    isplitl [H16]
    · iexists _; isplitl [H16]; · iexact H16
      ipureintro; intro _; intros; rw [q16, x3, x4, Nat.add_sub_cancel]; unfold Wn; rw [tv]
    isplitl [Hs]; · iexact Hs
    isplitl [Hc0]; · iexact Hc0
    isplitl [Hc1]; · iexact Hc1
    isplitl [Hg]; · iexact Hg
    irw [show xAt m c (t.val + 1) = xAt m c t.val from (if_neg (by omega)).trans (if_neg (by omega)).symm]
    iexact Hx
  isplitl [HW]
  · iexists W; isplitr; · ipureintro; exact fun _ _ => Or.inl trivial
    iexact HW
  isplitl [H1]
  · iexists X1; isplitr; · ipureintro; exact x1
    iexact H1
  isplitl [H2]
  · iexists X2; isplitr; · ipureintro; exact x2
    iexact H2
  isplitl [H3]
  · iexists X3; isplitr; · ipureintro; exact x3
    iexact H3
  isplitl [H4]
  · iexists X4; isplitr; · ipureintro; exact x4
    iexact H4
  isplitl [H5]
  · iexists X5; isplitr; · ipureintro; exact x5
    iexact H5
  isplitl [H6]
  · iexists X6; isplitr; · ipureintro; exact x6
    iexact H6
  isplitl [H7]
  · iexists X7; isplitr; · ipureintro; exact x7
    iexact H7
  iexists g8; isplitr; rotate_left; · iexact H8
  ipureintro; refine q8.trans ?_; rw [x7, p13 (by omega)]; rfl

theorem sound_even (c : Dev nD) (t : Fin cfg0.N) (ht : t.val % 2 = 0 ∧ 0 < t.val) :
    bodyPre m c t ⊢ wp frame (wpE (defs₀ (F := F)) 𝒱₀ c none) Set.univ (bodyAt0 t) (fun _ => bodyPost m c t (owns (c : Thread nD τ) (st0_7 t) fullShare ((dats m 0 c).after 7 t))) := by
  have hN : t.val < 28 := Nat.lt_of_lt_of_eq t.isLt N_0
  have e : t.castSucc.val = t.val := rfl
  have e' : t.succ.val = t.val + 1 := rfl
  have tv := tp_val t
  unfold bodyPre bodyPost bodyAt0
  rw [show (dats m 0 c).Φ t.castSucc = Φn m c t.val from rfl, show (dats m 0 c).Φ t.succ = Φn m c (t.val + 1) from rfl]
  unfold Dat.owesAt Pipeline.owesWithin
  rw [show (dats m 0 c).owed t.castSucc = 0 from rfl, show (dats m 0 c).owed t.succ = 0 from rfl]
  simp only [before_0, before_1, before_2, before_3, before_4, before_5, before_6]

  unfold Φn held owns
  iintro ⟨⟨⟨%f10, H10, %p10⟩, ⟨%f11, H11, %p11⟩, ⟨%f13, H13, %p13⟩, ⟨%f15, H15, %p15⟩, ⟨%f12, H12, %p12⟩, ⟨%f14, H14, %p14⟩, ⟨%f16, H16, %p16⟩, Hs, Hc0, Hc1, Hg, Hx⟩, ⟨%W, -, HW⟩, ⟨%d0, %X1, %x1, H1⟩, ⟨%d1, %X2, %x2, H2⟩, ⟨%d2, %X3, %x3, H3⟩, ⟨%d3, %X4, %x4, H4⟩, ⟨%d4, %X5, %x5, H5⟩, ⟨%d5, %X6, %x6, H6⟩, ⟨%d6, %X7, %x7, H7⟩, ⟨%d7, %X8, %x8, H8⟩⟩
  iapply (run3 c (grid0.coords t) _ _ _ _ _ _ _ _ _ _ _ _ _ _ _ _ _ _ _ _ _ _ _ _ _ _ _ _ _ _ _ _ _ _ _ (fun h => by have := (cond1_iff t).1 h; omega) (fun h => by have := (cond2_iff t).1 h; omega) ((cond3_iff t).2 ht) (fun h => by have := (cond4_iff t).1 h; omega) X1 X2 X3 X4 X5 X6 X7 f12 f14 f16 f10 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H12]; · iexact H12
  isplitl [H14]; · iexact H14
  isplitl [H16]; · iexact H16
  isplitl [H8]; · iexists _; iexact H8
  isplitl [H10]; · iexact H10
  isplitl [H11]; · iexists _; iexact H11
  isplitl [H13]; · iexists _; iexact H13
  isplitl [H15]; · iexists _; iexact H15
  iintro ⟨H1, H2, H3, H4, H5, H6, H7, H12, H14, H16, ⟨%g8, H8, %q8⟩, ⟨%g10, H10, %q10⟩, ⟨%g11, H11, %q11⟩, ⟨%g13, H13, %q13⟩, ⟨%g15, H15, %q15⟩⟩
  isplitl [H10 H11 H13 H15 H12 H14 H16 Hs Hc0 Hc1 Hg Hx]
  · isplitl [H10]
    · iexists _; isplitl [H10]; · iexact H10
      ipureintro; intro _; intros; rw [q10, (p12 (by omega) (by omega) (by omega)), (p16 (by omega) (by omega) (by omega)), p10 (by omega) (by omega), Nat.add_sub_cancel]; exact (An_succ m c t.val (by omega)).symm
    isplitl [H11]
    · iexists _; isplitl [H11]; · iexact H11
      ipureintro; intro _; intros; rw [q11, x1, x2, Nat.add_sub_cancel]; unfold Dn; rw [tv]
    isplitl [H13]
    · iexists _; isplitl [H13]; · iexact H13
      ipureintro; intro _; intros; rw [q13, x5, x6, Nat.add_sub_cancel]; unfold Tn; rw [tv]
    isplitl [H15]
    · iexists _; isplitl [H15]; · iexact H15
      ipureintro; intro _; intros; rw [q15, x3, x4, Nat.add_sub_cancel]; unfold Wn; rw [tv]
    isplitl [H12]
    · iexists _; isplitl [H12]; · iexact H12
      ipureintro; intro _; intros; exfalso; omega
    isplitl [H14]
    · iexists _; isplitl [H14]; · iexact H14
      ipureintro; intro _; intros; exfalso; omega
    isplitl [H16]
    · iexists _; isplitl [H16]; · iexact H16
      ipureintro; intro _; intros; exfalso; omega
    isplitl [Hs]; · iexact Hs
    isplitl [Hc0]; · iexact Hc0
    isplitl [Hc1]; · iexact Hc1
    isplitl [Hg]; · iexact Hg
    irw [show xAt m c (t.val + 1) = xAt m c t.val from (if_neg (by omega)).trans (if_neg (by omega)).symm]
    iexact Hx
  isplitl [HW]
  · iexists W; isplitr; · ipureintro; exact fun _ _ => Or.inl trivial
    iexact HW
  isplitl [H1]
  · iexists X1; isplitr; · ipureintro; exact x1
    iexact H1
  isplitl [H2]
  · iexists X2; isplitr; · ipureintro; exact x2
    iexact H2
  isplitl [H3]
  · iexists X3; isplitr; · ipureintro; exact x3
    iexact H3
  isplitl [H4]
  · iexists X4; isplitr; · ipureintro; exact x4
    iexact H4
  isplitl [H5]
  · iexists X5; isplitr; · ipureintro; exact x5
    iexact H5
  isplitl [H6]
  · iexists X6; isplitr; · ipureintro; exact x6
    iexact H6
  isplitl [H7]
  · iexists X7; isplitr; · ipureintro; exact x7
    iexact H7
  iexists g8; isplitr; rotate_left; · iexact H8
  ipureintro; refine q8.trans ?_; rw [x7, p14 (by omega) (by omega) (by omega)]; rfl

theorem sound_last (c : Dev nD) (t : Fin cfg0.N) (ht : t.val = 27) :
    bodyPre m c t ⊢ wp frame (wpE (defs₀ (F := F)) 𝒱₀ c none) Set.univ (bodyAt0 t) (fun _ => bodyPost m c t (owns (c : Thread nD τ) (st0_7 t) fullShare ((dats m 0 c).after 7 t))) := by
  have hN : t.val < 28 := Nat.lt_of_lt_of_eq t.isLt N_0
  have e : t.castSucc.val = t.val := rfl
  have e' : t.succ.val = t.val + 1 := rfl
  have tv := tp_val t
  unfold bodyPre bodyPost bodyAt0
  rw [show (dats m 0 c).Φ t.castSucc = Φn m c t.val from rfl, show (dats m 0 c).Φ t.succ = Φn m c (t.val + 1) from rfl]
  unfold Dat.owesAt Pipeline.owesWithin
  rw [show (dats m 0 c).owed t.castSucc = 0 from rfl, show (dats m 0 c).owed t.succ = 0 from rfl]
  simp only [before_0, before_1, before_2, before_3, before_4, before_5, before_6]

  unfold Φn held owns
  iintro ⟨⟨⟨%f10, H10, %p10⟩, ⟨%f11, H11, %p11⟩, ⟨%f13, H13, %p13⟩, ⟨%f15, H15, %p15⟩, ⟨%f12, H12, %p12⟩, ⟨%f14, H14, %p14⟩, ⟨%f16, H16, %p16⟩, Hs, Hc0, Hc1, Hg, Hx⟩, ⟨%W, -, HW⟩, ⟨%d0, %X1, %x1, H1⟩, ⟨%d1, %X2, %x2, H2⟩, ⟨%d2, %X3, %x3, H3⟩, ⟨%d3, %X4, %x4, H4⟩, ⟨%d4, %X5, %x5, H5⟩, ⟨%d5, %X6, %x6, H6⟩, ⟨%d6, %X7, %x7, H7⟩, ⟨%d7, %X8, %x8, H8⟩⟩
  iapply (run4 c (grid0.coords t) _ _ _ _ _ _ _ _ _ _ _ _ _ _ _ _ _ _ _ _ _ _ _ _ _ _ _ _ _ _ (fun h => by have := (cond1_iff t).1 h; omega) (fun h => by have := (cond2_iff t).1 h; omega) (fun h => by have := (cond3_iff t).1 h; omega) ((cond4_iff t).2 ht) X7 f10 f11 f13 f15 (xAt m c t.val) _)
  isplitl [H7]; · iexact H7
  isplitl [H10]; · iexact H10
  isplitl [H11]; · iexact H11
  isplitl [H13]; · iexact H13
  isplitl [H15]; · iexact H15
  isplitl [H8]; · iexists _; iexact H8
  isplitl [HW]; · iexists _; iexact HW
  isplitl [Hx]; · iexact Hx
  isplitl [Hs]; · iexact Hs
  isplitl [Hc0]; · iexact Hc0
  isplitl [Hc1]; · iexact Hc1
  iintro ⟨H7, H10, H11, H13, H15, ⟨%g8, H8, %q8⟩, ⟨%W', HW⟩, Hx, Hs, Hc0, Hc1⟩
  isplitl [H10 H11 H13 H15 H12 H14 H16 Hs Hc0 Hc1 Hg Hx]
  · isplitl [H10]
    · iexists _; isplitl [H10]; · iexact H10
      ipureintro; intro _; intros; exfalso; omega
    isplitl [H11]
    · iexists _; isplitl [H11]; · iexact H11
      ipureintro; intro _; intros; exfalso; omega
    isplitl [H13]
    · iexists _; isplitl [H13]; · iexact H13
      ipureintro; intro _; intros; exfalso; omega
    isplitl [H15]
    · iexists _; isplitl [H15]; · iexact H15
      ipureintro; intro _; intros; exfalso; omega
    isplitl [H12]
    · iexists _; isplitl [H12]; · iexact H12
      ipureintro; intro _; intros; exfalso; omega
    isplitl [H14]
    · iexists _; isplitl [H14]; · iexact H14
      ipureintro; intro _; intros; exfalso; omega
    isplitl [H16]
    · iexists _; isplitl [H16]; · iexact H16
      ipureintro; intro _; intros; exfalso; omega
    isplitl [Hs]; · iexact Hs
    isplitl [Hc0]; · iexact Hc0
    isplitl [Hc1]; · iexact Hc1
    isplitl [Hg]; · iexact Hg
    irw [show xAt m c (t.val + 1) = dxAll (s11.view.read (Elt F) f11) (s15.view.read (Elt F) f15) (s10.view.read (Elt F) f10) from (if_pos (by omega)).trans (by rw [p11 (by omega), p15 (by omega), p10 (by omega) (by omega), ht]; rfl)]
    iexact Hx
  isplitl [HW]
  · iexists W'; isplitr; · ipureintro; exact fun _ _ => Or.inl trivial
    iexact HW
  isplitl [H1]
  · iexists X1; isplitr; · ipureintro; exact x1
    iexact H1
  isplitl [H2]
  · iexists X2; isplitr; · ipureintro; exact x2
    iexact H2
  isplitl [H3]
  · iexists X3; isplitr; · ipureintro; exact x3
    iexact H3
  isplitl [H4]
  · iexists X4; isplitr; · ipureintro; exact x4
    iexact H4
  isplitl [H5]
  · iexists X5; isplitr; · ipureintro; exact x5
    iexact H5
  isplitl [H6]
  · iexists X6; isplitr; · ipureintro; exact x6
    iexact H6
  isplitl [H7]
  · iexists X7; isplitr; · ipureintro; exact x7
    iexact H7
  iexists g8; isplitr; rotate_left; · iexact H8
  ipureintro; refine q8.trans ?_; rw [x7, p13 (by omega)]; rfl

theorem defs₀_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) 𝒱₀ () Set.univ := fun t => by
  have hN : t.val < 28 := Nat.lt_of_lt_of_eq t.isLt N_0
  rw [bigSep_W0, bigSep_W0, defs₀_row]
  by_cases h0 : t.val = 0
  · rewrite [(idle7_iff t).2 h0, show (cfg0.win 7).flush t = false from Bool.eq_false_iff.2 fun h => (flush7_iff t).1 h h0]
    exact triple_restated (sound_first m c t h0) rfl .rfl fun _ => .rfl
  rewrite [show cfg0.idle 7 (cfg0.grid.coords t) = false from Bool.eq_false_iff.2 fun h => h0 ((idle7_iff t).1 h)]
  by_cases h27 : t.val = 27
  · exact triple_restated (sound_last m c t h27) rfl .rfl fun _ => .rfl
  by_cases h2 : t.val % 2 = 1
  · exact triple_restated (sound_odd m c t ⟨h2, by omega⟩) rfl .rfl fun _ => .rfl
  · exact triple_restated (sound_even m c t ⟨by omega, by omega⟩) rfl .rfl fun _ => .rfl

/-! ## The launch -/

/-- The call's own semaphores: the two slots'. -/
abbrev osem : Fin 2 → SemLoc sig := fun s => .dma (csm s).sem
theorem ownSemFacts : Pipeline.OwnSemFacts spec0 osem := by decide

omit [FloatOps F] in
theorem ownSems_eq (c : Dev nD) :
    (Pipeline.ownSems0 (Ix := Unit) (Name := ℕ) (U := UU nD τ) (Lvl := ℕ) (Val := Elt F) (τ := τ) osem c : sProp 𝕄)
      = iprop(cellP (F := F) c 0 ∗ cellP (F := F) c 1) := by
  unfold Pipeline.ownSems0; rw [bigSep_fin2]

/-- The array the body writes itself. -/
def R0 : Finset (Ref sig .tc) := {main_v0_1}
theorem R0_sub : R0 ⊆ Pipeline.restRefs sig spec0 \ ∅ := by decide

def Gf (c : Dev nD) (b : Ref sig .tc) : Buf (Elt F) ((c : Thread nD τ).loc b) :=
  if h : b = main_v0_1 then h ▸ dxG m c else V m c b

omit [FloatOps F] in
theorem routed_eq (c : Dev nD) (W : (b : Ref sig .tc) → Buf (Elt F) ((c : Thread nD τ).loc b)) :
    (Pipeline.routed R0 c W : sProp 𝕄) = (((c : Thread nD τ).loc main_v0_1) ↦{fullShare} W main_v0_1) := by
  unfold Pipeline.routed R0; rw [bigSep_singleton]

omit [FloatOps F] in
/-- A whole scratch buffer held, in the launch's words. -/
theorem pt_whole (c : Dev nD) (b : Ref sig .tc) (f : Buf (Elt F) ((c : Thread nD τ).loc b)) :
    ((Memref.whole b).view.loc (c : Thread nD τ) ↦[(Memref.whole b).view.set]{fullShare} f : sProp 𝕄) = (((c : Thread nD τ).loc b) ↦{fullShare} f) :=
  congrArg (fun S => (((c : Thread nD τ).loc b) ↦[S]{fullShare} f : sProp 𝕄)) (View.set_whole b)

theorem Φ_in (c : Dev nD) : Pipeline.ΦDRG osem spec0 ∅ R0 (V m) (V m) c ⊢ Φn m c 0 := by
  rw [Pipeline.ΦDRG_eq, scopedRest0_eq, ownSems_eq, routed_eq]
  unfold Φn held
  iintro ⟨⟨⟨%f10, H10⟩, ⟨%f11, H11⟩, ⟨%f12, H12⟩, ⟨%f13, H13⟩, ⟨%f14, H14⟩, ⟨%f15, H15⟩, ⟨%f16, H16⟩, Hs⟩, Hg, ⟨Hc0, Hc1⟩, -, Hx⟩
  isplitl [H10]
  · iexists f10; isplitl [H10]
    · iapply (entails_of_eq (pt_whole c cc0_scratch0 f10).symm); iexact H10
    ipureintro; intro _; intros; exfalso; omega
  isplitl [H11]
  · iexists f11; isplitl [H11]
    · iapply (entails_of_eq (pt_whole c cc0_scratch1 f11).symm); iexact H11
    ipureintro; intro _; intros; exfalso; omega
  isplitl [H13]
  · iexists f13; isplitl [H13]
    · iapply (entails_of_eq (pt_whole c cc0_scratch3 f13).symm); iexact H13
    ipureintro; intro _; intros; exfalso; omega
  isplitl [H15]
  · iexists f15; isplitl [H15]
    · iapply (entails_of_eq (pt_whole c cc0_scratch5 f15).symm); iexact H15
    ipureintro; intro _; intros; exfalso; omega
  isplitl [H12]
  · iexists f12; isplitl [H12]
    · iapply (entails_of_eq (pt_whole c cc0_scratch2 f12).symm); iexact H12
    ipureintro; intro _; intros; exfalso; omega
  isplitl [H14]
  · iexists f14; isplitl [H14]
    · iapply (entails_of_eq (pt_whole c cc0_scratch4 f14).symm); iexact H14
    ipureintro; intro _; intros; exfalso; omega
  isplitl [H16]
  · iexists f16; isplitl [H16]
    · iapply (entails_of_eq (pt_whole c cc0_scratch6 f16).symm); iexact H16
    ipureintro; intro _; intros; exfalso; omega
  isplitl [Hs]; · iexact Hs
  isplitl [Hc0]; · iexact Hc0
  isplitl [Hc1]; · iexact Hc1
  isplitl [Hg]; · iexact Hg
  iexact Hx

theorem Φ_out (c : Dev nD) : Φn m c 28 ⊢ Pipeline.ΦDRG osem spec0 ∅ R0 (V m) (Gf m) c := by
  rw [Pipeline.ΦDRG_eq, scopedRest0_eq, ownSems_eq, routed_eq]
  unfold Φn held
  iintro ⟨⟨%f10, H10, -⟩, ⟨%f11, H11, -⟩, ⟨%f13, H13, -⟩, ⟨%f15, H15, -⟩, ⟨%f12, H12, -⟩, ⟨%f14, H14, -⟩, ⟨%f16, H16, -⟩, Hs, Hc0, Hc1, Hg, Hx⟩
  isplitl [H10 H11 H12 H13 H14 H15 H16 Hs]
  · isplitl [H10]; · iexists f10; iapply (entails_of_eq (pt_whole c cc0_scratch0 f10)); iexact H10
    isplitl [H11]; · iexists f11; iapply (entails_of_eq (pt_whole c cc0_scratch1 f11)); iexact H11
    isplitl [H12]; · iexists f12; iapply (entails_of_eq (pt_whole c cc0_scratch2 f12)); iexact H12
    isplitl [H13]; · iexists f13; iapply (entails_of_eq (pt_whole c cc0_scratch3 f13)); iexact H13
    isplitl [H14]; · iexists f14; iapply (entails_of_eq (pt_whole c cc0_scratch4 f14)); iexact H14
    isplitl [H15]; · iexists f15; iapply (entails_of_eq (pt_whole c cc0_scratch5 f15)); iexact H15
    isplitl [H16]; · iexists f16; iapply (entails_of_eq (pt_whole c cc0_scratch6 f16)); iexact H16
    iexact Hs
  isplitl [Hg]; · iexact Hg
  isplitl [Hc0 Hc1]
  · isplitl [Hc0]; · iexact Hc0
    iexact Hc1
  isplitr
  · iapply (entails_of_eq (show iprop(emp) = (bigSep ∅ fun b => ((c : Thread nD τ).loc b) ↦{fullShare} V m c b : sProp 𝕄) from by rw [bigSep_empty]; rfl)); iempintro
  iexact Hx

theorem hmain' : Pipeline.HMain (Ix := Unit) (Name := ℕ) (U := UU nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- The run of the program: the arrays at what the points leave, dx whole, every semaphore at zero. -/
theorem run_main : θ_run defs (onTc (τ := τ) (main (F := F))) (s₀ m ρ)
    (fun r => Pipeline.FramePostRG cfgs (dats m) 0 R0 (V m) (Gf m) r ∧ r.2.sem = fun _ => 0) :=
  Pipeline.θ_run_frame_dmaRG (Q' := _) cfgs (dats m) (0 : Fin 1) launch0 osem defs₀ 𝒱₀ ownSemFacts ∅ R0 (Finset.empty_subset _) R0_sub m ρ main
    (hbody := fun c => (body_obligation m c).loose) (hshare := fun c => (dats m 0 c).share_full fun _ => rfl)
    (howed := fun _ _ => rfl) (V := V m) (hmain := hmain' m) (hA := A_eq m) (G := Gf m)
    (hin := fun c => Φ_in m c) (hout := fun c => Φ_out m c)

/-- dw as the pipeline leaves it. -/
def dwG (c : Dev nD) : Buf (Elt F) ((c : Thread nD τ).loc main_v0_0) := (dats m 0 c).arrAt 7 cfg0.N

/-- The whole of what the run leaves: the two results, the arguments unchanged, every semaphore at zero. -/
theorem run_post : θ_run defs (onTc (τ := τ) (main (F := F))) ⟨m, fun _ => 0, ρ⟩ (fun r => (∀ c : Dev nD,
      r.2.mem ((c.tc : Thread nD τ).loc main_v0_1) = dxG m c
      ∧ r.2.mem ((c.tc : Thread nD τ).loc main_v0_0) = dwG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1.written c (b := main_v0_1) (Finset.mem_singleton_self _)).trans (by unfold Gf; rw [dif_pos rfl]), (h.1.toR c).1 7,
      ((h.1.toR c).1 0).trans (((dats m 0 c).arrAt_in 0 rfl _).trans (A_eq m c 0)),
      ((h.1.toR c).1 1).trans (((dats m 0 c).arrAt_in 1 rfl _).trans (A_eq m c 1)),
      ((h.1.toR c).1 2).trans (((dats m 0 c).arrAt_in 2 rfl _).trans (A_eq m c 2)),
      ((h.1.toR c).1 3).trans (((dats m 0 c).arrAt_in 3 rfl _).trans (A_eq m c 3)),
      ((h.1.toR c).1 4).trans (((dats m 0 c).arrAt_in 4 rfl _).trans (A_eq m c 4)),
      ((h.1.toR c).1 5).trans (((dats m 0 c).arrAt_in 5 rfl _).trans (A_eq m c 5)),
      ((h.1.toR c).1 6).trans (((dats m 0 c).arrAt_in 6 rfl _).trans (A_eq m c 6))⟩, h.2⟩) (run_main m ρ)

end Cert.Proof.Kernel
-- ==== Proof.KernelIdeal.Loops.lean ====
/- The counted loops of the body by what they mean: a trip of a copying loop fills the next rows of the operand buffers, a
   trip of a computing loop adds the next rows of a product. -/
module

public import proofs.«01_k».proof.Proof.Rows
public import proofs.«01_k».proof.Proof.Gen.KernelIdeal.Loops
public import proofs.«01_k».proof.Proof.Gen.KernelIdeal.Frame
public import Idealize.ShloMosaic.Lib.Pipeline.FrameValue
public import Idealize.ShloMosaic.Lib.Pipeline.Value
public import Idealize.ShloMosaic.Lib.Tactic

@[expose] public section

set_option warn.classDefReducibility false
set_option maxRecDepth 8192
set_option maxHeartbeats 4000000

noncomputable section

namespace Cert.Proof.KernelIdeal

open Cert.KernelIdeal Cert.KernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := Pipeline.UD sig nD τ
abbrev 𝒱₀ : Variants := Variants.none

/-- The accumulator after a chunk: rows `256·j … 256·j + 256` are the old ones and those of one product. -/
def accN (D : S2048x256.Idx → Elt F .bf16) (W : S2560x256.Idx → Elt F .bf16) (O : S2048x2560.Idx → Elt F .f32) (y : S2048x2560.Idx) : Elt F .f32 :=
  have h0 : (y 0).val < 2048 := (y 0).isLt
  k0_pay16 (F := F) (rowsOf 256 D ((y 0).val / 256) (by omega)) W (rowsOf 256 O ((y 0).val / 256) (by omega))
    (ix ((y 0).val % 256) (y 1).val (Nat.mod_lt _ (by decide)) (y 1).isLt)

/-- The block of dw of a chunk: rows `320·j … 320·j + 320` are those of one product. -/
def dwN (X : S2560x2048.Idx → Elt F .bf16) (T : S2048x256.Idx → Elt F .bf16) (y : S2560x256.Idx) : Elt F .f32 :=
  have h0 : (y 0).val < 2560 := (y 0).isLt
  k0_pay17 (F := F) (rowsOf 320 X ((y 0).val / 320) (by omega)) T
    (ix ((y 0).val % 320) (y 1).val (Nat.mod_lt _ (by decide)) (y 1).isLt)

theorem accN_at (D : S2048x256.Idx → Elt F .bf16) (W : S2560x256.Idx → Elt F .bf16) (O : S2048x2560.Idx → Elt F .f32) (k : ℕ) (hk : k < 8)
    (x : S256x2560.Idx) (z : S2048x2560.Idx) (h0 : (z 0).val = 256 * k + (x 0).val) (h1 : (z 1).val = 0 + (x 1).val) :
    k0_pay16 (F := F) (rowsOf 256 D k (by omega)) W (rowsOf 256 O k (by omega)) x = accN D W O z := by
  have hx : (x 0).val < 256 := (x 0).isLt
  have e : (z 0).val / 256 = k := by omega
  subst e
  exact congrArg _ (ix_ext _ _ (by show _ = (z 0).val % 256; omega) (by show _ = (z 1).val; omega))

theorem dwN_at (X : S2560x2048.Idx → Elt F .bf16) (T : S2048x256.Idx → Elt F .bf16) (k : ℕ) (hk : k < 8)
    (x : S320x256.Idx) (z : S2560x256.Idx) (h0 : (z 0).val = 320 * k + (x 0).val) (h1 : (z 1).val = 0 + (x 1).val) :
    k0_pay17 (F := F) (rowsOf 320 X k (by omega)) T x = dwN X T z := by
  have hx : (x 0).val < 320 := (x 0).isLt
  have e : (z 0).val / 320 = k := by omega
  subst e
  exact congrArg _ (ix_ext _ _ (by show _ = (z 0).val % 320; omega) (by show _ = (z 1).val; omega))

@[sl_loop] def loopInv1 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2560x128 .bf16) (harg3 : arg3.IsWhole) (arg4 : Memref sig .tc .vmem S2560x128 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S2560x2048 .bf16) (harg7 : arg7.IsWhole) (arg8 : Memref sig .tc .vmem S2560x256 .f32) (harg8 : arg8.IsWhole) (arg9 : Memref sig .tc .hbm S2048x2560 .bf16) (harg9 : arg9.IsWhole) (arg10 : Memref sig .tc .vmem S2048x2560 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2560x256 .bf16) (harg15 : arg15.IsWhole) (arg16 : Memref sig .tc .vmem S2560x256 .bf16) (harg16 : arg16.IsWhole) (arg17 : Memref sig .tc .vmem S2x256x2560 .bf16) (harg17 : arg17.IsWhole) (arg18 : DmaSems sig S2) (hc : k0_cond1 i = 1#1)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) :
    LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 hc where
  inv := fun k _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg10.view.loc (c : Thread nD τ) ↦[arg10.view.set]{fullShare} f) ∗ ⌜Upto (256 * k) (fun _ => Scalar.ofBits (F := F) .f32 0x00000000#32) (arg10.view.read (Elt F) f)⌝) ∗ (∃ f, (arg11.view.loc (c : Thread nD τ) ↦[arg11.view.set]{fullShare} f) ∗ ⌜Upto (256 * k) (cat (arg1.view.read (Elt F) X1) (arg2.view.read (Elt F) X2)) (arg11.view.read (Elt F) f)⌝) ∗ (∃ f, (arg13.view.loc (c : Thread nD τ) ↦[arg13.view.set]{fullShare} f) ∗ ⌜Upto (256 * k) (lace (arg5.view.read (Elt F) X5) (arg6.view.read (Elt F) X6)) (arg13.view.read (Elt F) f)⌝) ∗ (∃ f, (arg15.view.loc (c : Thread nD τ) ↦[arg15.view.set]{fullShare} f) ∗ ⌜Upto (320 * k) (cat (arg3.view.read (Elt F) X3) (arg4.view.read (Elt F) X4)) (arg15.view.read (Elt F) f)⌝))
  step := fun k acc => by
    have hk : k.val < 8 := Nat.lt_of_lt_of_le k.isLt k0_t1_abs.2.1
    unfold k0_t1_body
    iintro ⟨HR1, HR2, HR3, HR4, HR5, HR6, ⟨%f10, HW10, %h10⟩, ⟨%f11, HW11, %h11⟩, ⟨%f13, HW13, %h13⟩, ⟨%f15, HW15, %h15⟩⟩
    sl_exec
    sl_step
    isplitl [HR1]; · iexact HR1
    isplitl [HR2]; · iexact HR2
    isplitl [HR3]; · iexact HR3
    isplitl [HR4]; · iexact HR4
    isplitl [HR5]; · iexact HR5
    isplitl [HR6]; · iexact HR6
    isplitl [HW10]
    · iexists _; isplitl [HW10]; · iexact HW10
      ipureintro
      exact Upto.step arg10.view f10 h10 (k0_off1_eq k) fun x z _ _ => rfl
    isplitl [HW11]
    · iexists _; isplitl [HW11]; · iexact HW11
      ipureintro
      exact Upto.cat arg11.view f11 arg1.view arg2.view X1 X2 (k0_off2_inb i k hc) (k0_off2_inb i k hc) h11 (k0_off3_eq k) (k0_off4_eq k) (k0_off2_eq k)
        (shapeCast_self _ _) (by sl_unfold_run_names; exact shapeCast_self _ _)
    isplitl [HW13]
    · iexists _; isplitl [HW13]; · iexact HW13
      ipureintro
      intro y hy
      refine slab_cons arg13.view f13 arg5.view arg6.view X5 X6 k 7 (by decide) (k0_off8_inb i k hc ⟨3, by decide⟩) (k0_off9_eq k ⟨7, by decide⟩) (k0_off8_eq k ⟨3, by decide⟩) (shapeCast_self _ _) fun n7 => ?_
      refine slab_cons arg13.view f13 arg5.view arg6.view X5 X6 k 6 (by decide) (k0_off8_inb i k hc ⟨3, by decide⟩) (k0_off9_eq k ⟨6, by decide⟩) (k0_off8_eq k ⟨3, by decide⟩) (shapeCast_self _ _) fun n6 => ?_
      refine slab_cons arg13.view f13 arg5.view arg6.view X5 X6 k 5 (by decide) (k0_off8_inb i k hc ⟨2, by decide⟩) (k0_off9_eq k ⟨5, by decide⟩) (k0_off8_eq k ⟨2, by decide⟩) (shapeCast_self _ _) fun n5 => ?_
      refine slab_cons arg13.view f13 arg5.view arg6.view X5 X6 k 4 (by decide) (k0_off8_inb i k hc ⟨2, by decide⟩) (k0_off9_eq k ⟨4, by decide⟩) (k0_off8_eq k ⟨2, by decide⟩) (shapeCast_self _ _) fun n4 => ?_
      refine slab_cons arg13.view f13 arg5.view arg6.view X5 X6 k 3 (by decide) (k0_off8_inb i k hc ⟨1, by decide⟩) (k0_off9_eq k ⟨3, by decide⟩) (k0_off8_eq k ⟨1, by decide⟩) (shapeCast_self _ _) fun n3 => ?_
      refine slab_cons arg13.view f13 arg5.view arg6.view X5 X6 k 2 (by decide) (k0_off8_inb i k hc ⟨1, by decide⟩) (k0_off9_eq k ⟨2, by decide⟩) (k0_off8_eq k ⟨1, by decide⟩) (shapeCast_self _ _) fun n2 => ?_
      refine slab_cons arg13.view f13 arg5.view arg6.view X5 X6 k 1 (by decide) (k0_off8_inb i k hc ⟨0, by decide⟩) (k0_off9_eq k ⟨1, by decide⟩) (k0_off8_eq k ⟨0, by decide⟩) (shapeCast_self _ _) fun n1 => ?_
      refine slab_cons arg13.view f13 arg5.view arg6.view X5 X6 k 0 (by decide) (k0_off8_inb i k hc ⟨0, by decide⟩) (k0_off9_eq k ⟨0, by decide⟩) (k0_off8_eq k ⟨0, by decide⟩) (shapeCast_self _ _) fun n0 => ?_
      exact h13 y (by omega)
    iexists _; isplitl [HW15]; · iexact HW15
    ipureintro
    exact Upto.cat arg15.view f15 arg3.view arg4.view X3 X4 (k0_off5_inb i k hc) (k0_off5_inb i k hc) h15 (k0_off6_eq k) (k0_off7_eq k) (k0_off5_eq k)
        (shapeCast_self _ _) (by sl_unfold_run_names; exact shapeCast_self _ _)

@[sl_loop] def loopInv2 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2560x128 .bf16) (harg3 : arg3.IsWhole) (arg4 : Memref sig .tc .vmem S2560x128 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S2560x2048 .bf16) (harg7 : arg7.IsWhole) (arg8 : Memref sig .tc .vmem S2560x256 .f32) (harg8 : arg8.IsWhole) (arg9 : Memref sig .tc .hbm S2048x2560 .bf16) (harg9 : arg9.IsWhole) (arg10 : Memref sig .tc .vmem S2048x2560 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2560x256 .bf16) (harg15 : arg15.IsWhole) (arg16 : Memref sig .tc .vmem S2560x256 .bf16) (harg16 : arg16.IsWhole) (arg17 : Memref sig .tc .vmem S2x256x2560 .bf16) (harg17 : arg17.IsWhole) (arg18 : DmaSems sig S2) (hc : k0_cond2 i = 1#1)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X15 : BufTy.Contents (Elt F) arg15.view.ty) (O : S2048x2560.Idx → Elt F .f32) :
    LoopInvTy_k0_t2 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 hc where
  inv := fun k _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (arg13.view.loc (c : Thread nD τ) ↦[arg13.view.set]{fullShare} X13) ∗ (arg15.view.loc (c : Thread nD τ) ↦[arg15.view.set]{fullShare} X15) ∗ (∃ f, (arg8.view.loc (c : Thread nD τ) ↦[arg8.view.set]{fullShare} f) ∗ ⌜Upto (320 * k) (dwN (arg7.view.read (Elt F) X7) (arg13.view.read (Elt F) X13)) (arg8.view.read (Elt F) f)⌝) ∗ (∃ f, (arg10.view.loc (c : Thread nD τ) ↦[arg10.view.set]{fullShare} f) ∗ ⌜Mid (256 * k) (accN (arg11.view.read (Elt F) X11) (arg15.view.read (Elt F) X15) O) O (arg10.view.read (Elt F) f)⌝) ∗ (∃ f, (arg12.view.loc (c : Thread nD τ) ↦[arg12.view.set]{fullShare} f) ∗ ⌜Upto (256 * k) (cat (arg1.view.read (Elt F) X1) (arg2.view.read (Elt F) X2)) (arg12.view.read (Elt F) f)⌝) ∗ (∃ f, (arg14.view.loc (c : Thread nD τ) ↦[arg14.view.set]{fullShare} f) ∗ ⌜Upto (256 * k) (lace (arg5.view.read (Elt F) X5) (arg6.view.read (Elt F) X6)) (arg14.view.read (Elt F) f)⌝) ∗ (∃ f, (arg16.view.loc (c : Thread nD τ) ↦[arg16.view.set]{fullShare} f) ∗ ⌜Upto (320 * k) (cat (arg3.view.read (Elt F) X3) (arg4.view.read (Elt F) X4)) (arg16.view.read (Elt F) f)⌝))
  step := fun k acc => by
    have hk : k.val < 8 := Nat.lt_of_lt_of_le k.isLt k0_t2_abs.2.1
    unfold k0_t2_body
    iintro ⟨HR1, HR2, HR3, HR4, HR5, HR6, HR7, HR11, HR13, HR15, ⟨%f8, HW8, %h8⟩, ⟨%f10, HW10, %h10⟩, ⟨%f12, HW12, %h12⟩, ⟨%f14, HW14, %h14⟩, ⟨%f16, HW16, %h16⟩⟩
    sl_exec
    sl_step
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR11]; · iexact HR11
    isplitl [HR13]; · iexact HR13
    isplitl [HR15]; · iexact HR15
    isplitl [HW8]
    · iexists _; isplitl [HW8]; · iexact HW8
      ipureintro
      refine Upto.step arg8.view f8 h8 (k0_off13_eq k) fun x z z0 z1 => ?_
      rw [← dwN_at _ _ k.val hk x z z0 z1, ← readAt_rows arg7.view X7 _ (k0_off12_inb i k hc) (k0_off12_eq k), ← View.readAt_full arg13.view X13 inb_S2048x256_S2048x256_0_0]
      all_goals rfl
    isplitl [HW10]
    · iexists _; isplitl [HW10]; · iexact HW10
      ipureintro
      refine Mid.step arg10.view f10 h10 (k0_off11_eq k) fun x z z0 z1 => ?_
      rw [← accN_at _ _ _ k.val hk x z z0 z1, ← Mid.rows h10 (by omega), ← readAt_rows arg11.view X11 _ (k0_off10_inb i k hc) (k0_off10_eq k), ← readAt_rows arg10.view f10 _ (k0_off11_inb i k hc) (k0_off11_eq k), ← View.readAt_full arg15.view X15 inb_S2560x256_S2560x256_0_0]
      all_goals rfl
    isplitl [HW12]
    · iexists _; isplitl [HW12]; · iexact HW12
      ipureintro
      exact Upto.cat arg12.view f12 arg1.view arg2.view X1 X2 (k0_off14_inb i k hc) (k0_off14_inb i k hc) h12 (k0_off15_eq k) (k0_off16_eq k) (k0_off14_eq k)
        (shapeCast_self _ _) (by sl_unfold_run_names; exact shapeCast_self _ _)
    isplitl [HW14]
    · iexists _; isplitl [HW14]; · iexact HW14
      ipureintro
      intro y hy
      refine slab_cons arg14.view f14 arg5.view arg6.view X5 X6 k 7 (by decide) (k0_off20_inb i k hc ⟨3, by decide⟩) (k0_off21_eq k ⟨7, by decide⟩) (k0_off20_eq k ⟨3, by decide⟩) (shapeCast_self _ _) fun n7 => ?_
      refine slab_cons arg14.view f14 arg5.view arg6.view X5 X6 k 6 (by decide) (k0_off20_inb i k hc ⟨3, by decide⟩) (k0_off21_eq k ⟨6, by decide⟩) (k0_off20_eq k ⟨3, by decide⟩) (shapeCast_self _ _) fun n6 => ?_
      refine slab_cons arg14.view f14 arg5.view arg6.view X5 X6 k 5 (by decide) (k0_off20_inb i k hc ⟨2, by decide⟩) (k0_off21_eq k ⟨5, by decide⟩) (k0_off20_eq k ⟨2, by decide⟩) (shapeCast_self _ _) fun n5 => ?_
      refine slab_cons arg14.view f14 arg5.view arg6.view X5 X6 k 4 (by decide) (k0_off20_inb i k hc ⟨2, by decide⟩) (k0_off21_eq k ⟨4, by decide⟩) (k0_off20_eq k ⟨2, by decide⟩) (shapeCast_self _ _) fun n4 => ?_
      refine slab_cons arg14.view f14 arg5.view arg6.view X5 X6 k 3 (by decide) (k0_off20_inb i k hc ⟨1, by decide⟩) (k0_off21_eq k ⟨3, by decide⟩) (k0_off20_eq k ⟨1, by decide⟩) (shapeCast_self _ _) fun n3 => ?_
      refine slab_cons arg14.view f14 arg5.view arg6.view X5 X6 k 2 (by decide) (k0_off20_inb i k hc ⟨1, by decide⟩) (k0_off21_eq k ⟨2, by decide⟩) (k0_off20_eq k ⟨1, by decide⟩) (shapeCast_self _ _) fun n2 => ?_
      refine slab_cons arg14.view f14 arg5.view arg6.view X5 X6 k 1 (by decide) (k0_off20_inb i k hc ⟨0, by decide⟩) (k0_off21_eq k ⟨1, by decide⟩) (k0_off20_eq k ⟨0, by decide⟩) (shapeCast_self _ _) fun n1 => ?_
      refine slab_cons arg14.view f14 arg5.view arg6.view X5 X6 k 0 (by decide) (k0_off20_inb i k hc ⟨0, by decide⟩) (k0_off21_eq k ⟨0, by decide⟩) (k0_off20_eq k ⟨0, by decide⟩) (shapeCast_self _ _) fun n0 => ?_
      exact h14 y (by omega)
    iexists _; isplitl [HW16]; · iexact HW16
    ipureintro
    exact Upto.cat arg16.view f16 arg3.view arg4.view X3 X4 (k0_off17_inb i k hc) (k0_off17_inb i k hc) h16 (k0_off18_eq k) (k0_off19_eq k) (k0_off17_eq k)
        (shapeCast_self _ _) (by sl_unfold_run_names; exact shapeCast_self _ _)

@[sl_loop] def loopInv3 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2560x128 .bf16) (harg3 : arg3.IsWhole) (arg4 : Memref sig .tc .vmem S2560x128 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S2560x2048 .bf16) (harg7 : arg7.IsWhole) (arg8 : Memref sig .tc .vmem S2560x256 .f32) (harg8 : arg8.IsWhole) (arg9 : Memref sig .tc .hbm S2048x2560 .bf16) (harg9 : arg9.IsWhole) (arg10 : Memref sig .tc .vmem S2048x2560 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2560x256 .bf16) (harg15 : arg15.IsWhole) (arg16 : Memref sig .tc .vmem S2560x256 .bf16) (harg16 : arg16.IsWhole) (arg17 : Memref sig .tc .vmem S2x256x2560 .bf16) (harg17 : arg17.IsWhole) (arg18 : DmaSems sig S2) (hc : k0_cond3 i = 1#1)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X12 : BufTy.Contents (Elt F) arg12.view.ty) (X14 : BufTy.Contents (Elt F) arg14.view.ty) (X16 : BufTy.Contents (Elt F) arg16.view.ty) (O : S2048x2560.Idx → Elt F .f32) :
    LoopInvTy_k0_t3 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 hc where
  inv := fun k _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ (arg14.view.loc (c : Thread nD τ) ↦[arg14.view.set]{fullShare} X14) ∗ (arg16.view.loc (c : Thread nD τ) ↦[arg16.view.set]{fullShare} X16) ∗ (∃ f, (arg8.view.loc (c : Thread nD τ) ↦[arg8.view.set]{fullShare} f) ∗ ⌜Upto (320 * k) (dwN (arg7.view.read (Elt F) X7) (arg14.view.read (Elt F) X14)) (arg8.view.read (Elt F) f)⌝) ∗ (∃ f, (arg10.view.loc (c : Thread nD τ) ↦[arg10.view.set]{fullShare} f) ∗ ⌜Mid (256 * k) (accN (arg12.view.read (Elt F) X12) (arg16.view.read (Elt F) X16) O) O (arg10.view.read (Elt F) f)⌝) ∗ (∃ f, (arg11.view.loc (c : Thread nD τ) ↦[arg11.view.set]{fullShare} f) ∗ ⌜Upto (256 * k) (cat (arg1.view.read (Elt F) X1) (arg2.view.read (Elt F) X2)) (arg11.view.read (Elt F) f)⌝) ∗ (∃ f, (arg13.view.loc (c : Thread nD τ) ↦[arg13.view.set]{fullShare} f) ∗ ⌜Upto (256 * k) (lace (arg5.view.read (Elt F) X5) (arg6.view.read (Elt F) X6)) (arg13.view.read (Elt F) f)⌝) ∗ (∃ f, (arg15.view.loc (c : Thread nD τ) ↦[arg15.view.set]{fullShare} f) ∗ ⌜Upto (320 * k) (cat (arg3.view.read (Elt F) X3) (arg4.view.read (Elt F) X4)) (arg15.view.read (Elt F) f)⌝))
  step := fun k acc => by
    have hk : k.val < 8 := Nat.lt_of_lt_of_le k.isLt k0_t3_abs.2.1
    unfold k0_t3_body
    iintro ⟨HR1, HR2, HR3, HR4, HR5, HR6, HR7, HR12, HR14, HR16, ⟨%f8, HW8, %h8⟩, ⟨%f10, HW10, %h10⟩, ⟨%f11, HW11, %h11⟩, ⟨%f13, HW13, %h13⟩, ⟨%f15, HW15, %h15⟩⟩
    sl_exec
    sl_step
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR12]; · iexact HR12
    isplitl [HR14]; · iexact HR14
    isplitl [HR16]; · iexact HR16
    isplitl [HW8]
    · iexists _; isplitl [HW8]; · iexact HW8
      ipureintro
      refine Upto.step arg8.view f8 h8 (k0_off25_eq k) fun x z z0 z1 => ?_
      rw [← dwN_at _ _ k.val hk x z z0 z1, ← readAt_rows arg7.view X7 _ (k0_off24_inb i k hc) (k0_off24_eq k), ← View.readAt_full arg14.view X14 inb_S2048x256_S2048x256_0_0]
      all_goals rfl
    isplitl [HW10]
    · iexists _; isplitl [HW10]; · iexact HW10
      ipureintro
      refine Mid.step arg10.view f10 h10 (k0_off23_eq k) fun x z z0 z1 => ?_
      rw [← accN_at _ _ _ k.val hk x z z0 z1, ← Mid.rows h10 (by omega), ← readAt_rows arg12.view X12 _ (k0_off22_inb i k hc) (k0_off22_eq k), ← readAt_rows arg10.view f10 _ (k0_off23_inb i k hc) (k0_off23_eq k), ← View.readAt_full arg16.view X16 inb_S2560x256_S2560x256_0_0]
      all_goals rfl
    isplitl [HW11]
    · iexists _; isplitl [HW11]; · iexact HW11
      ipureintro
      exact Upto.cat arg11.view f11 arg1.view arg2.view X1 X2 (k0_off26_inb i k hc) (k0_off26_inb i k hc) h11 (k0_off27_eq k) (k0_off28_eq k) (k0_off26_eq k)
        (shapeCast_self _ _) (by sl_unfold_run_names; exact shapeCast_self _ _)
    isplitl [HW13]
    · iexists _; isplitl [HW13]; · iexact HW13
      ipureintro
      intro y hy
      refine slab_cons arg13.view f13 arg5.view arg6.view X5 X6 k 7 (by decide) (k0_off32_inb i k hc ⟨3, by decide⟩) (k0_off33_eq k ⟨7, by decide⟩) (k0_off32_eq k ⟨3, by decide⟩) (shapeCast_self _ _) fun n7 => ?_
      refine slab_cons arg13.view f13 arg5.view arg6.view X5 X6 k 6 (by decide) (k0_off32_inb i k hc ⟨3, by decide⟩) (k0_off33_eq k ⟨6, by decide⟩) (k0_off32_eq k ⟨3, by decide⟩) (shapeCast_self _ _) fun n6 => ?_
      refine slab_cons arg13.view f13 arg5.view arg6.view X5 X6 k 5 (by decide) (k0_off32_inb i k hc ⟨2, by decide⟩) (k0_off33_eq k ⟨5, by decide⟩) (k0_off32_eq k ⟨2, by decide⟩) (shapeCast_self _ _) fun n5 => ?_
      refine slab_cons arg13.view f13 arg5.view arg6.view X5 X6 k 4 (by decide) (k0_off32_inb i k hc ⟨2, by decide⟩) (k0_off33_eq k ⟨4, by decide⟩) (k0_off32_eq k ⟨2, by decide⟩) (shapeCast_self _ _) fun n4 => ?_
      refine slab_cons arg13.view f13 arg5.view arg6.view X5 X6 k 3 (by decide) (k0_off32_inb i k hc ⟨1, by decide⟩) (k0_off33_eq k ⟨3, by decide⟩) (k0_off32_eq k ⟨1, by decide⟩) (shapeCast_self _ _) fun n3 => ?_
      refine slab_cons arg13.view f13 arg5.view arg6.view X5 X6 k 2 (by decide) (k0_off32_inb i k hc ⟨1, by decide⟩) (k0_off33_eq k ⟨2, by decide⟩) (k0_off32_eq k ⟨1, by decide⟩) (shapeCast_self _ _) fun n2 => ?_
      refine slab_cons arg13.view f13 arg5.view arg6.view X5 X6 k 1 (by decide) (k0_off32_inb i k hc ⟨0, by decide⟩) (k0_off33_eq k ⟨1, by decide⟩) (k0_off32_eq k ⟨0, by decide⟩) (shapeCast_self _ _) fun n1 => ?_
      refine slab_cons arg13.view f13 arg5.view arg6.view X5 X6 k 0 (by decide) (k0_off32_inb i k hc ⟨0, by decide⟩) (k0_off33_eq k ⟨0, by decide⟩) (k0_off32_eq k ⟨0, by decide⟩) (shapeCast_self _ _) fun n0 => ?_
      exact h13 y (by omega)
    iexists _; isplitl [HW15]; · iexact HW15
    ipureintro
    exact Upto.cat arg15.view f15 arg3.view arg4.view X3 X4 (k0_off29_inb i k hc) (k0_off29_inb i k hc) h15 (k0_off30_eq k) (k0_off31_eq k) (k0_off29_eq k)
        (shapeCast_self _ _) (by sl_unfold_run_names; exact shapeCast_self _ _)

end Cert.Proof.KernelIdeal
-- ==== Proof.KernelIdeal.Body.lean ====
/- The body at the points before the last: at the first it fills the operand buffers and clears the accumulator, at a later
   one it adds the products of the operands at hand and fills the other buffers. -/
module

public import proofs.«01_k».proof.Proof.KernelIdeal.Loops

@[expose] public section

set_option maxRecDepth 8192
set_option maxHeartbeats 4000000

noncomputable section

namespace Cert.Proof.KernelIdeal

open Cert.KernelIdeal Cert.KernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-- The first point. -/
theorem run1 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2560x128 .bf16) (harg3 : arg3.IsWhole) (arg4 : Memref sig .tc .vmem S2560x128 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S2560x2048 .bf16) (harg7 : arg7.IsWhole) (arg8 : Memref sig .tc .vmem S2560x256 .f32) (harg8 : arg8.IsWhole) (arg9 : Memref sig .tc .hbm S2048x2560 .bf16) (harg9 : arg9.IsWhole) (arg10 : Memref sig .tc .vmem S2048x2560 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2560x256 .bf16) (harg15 : arg15.IsWhole) (arg16 : Memref sig .tc .vmem S2560x256 .bf16) (harg16 : arg16.IsWhole) (arg17 : Memref sig .tc .vmem S2x256x2560 .bf16) (harg17 : arg17.IsWhole) (arg18 : DmaSems sig S2) (h1 : k0_cond1 i = 1#1) (h2 : ¬ k0_cond2 i = 1#1) (h3 : ¬ k0_cond3 i = 1#1) (h4 : ¬ k0_cond4 i = 1#1)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (K : PUnit → sProp 𝕄) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg10.view.loc (c : Thread nD τ) ↦[arg10.view.set]{fullShare} f)) ∗ (∃ f, (arg11.view.loc (c : Thread nD τ) ↦[arg11.view.set]{fullShare} f)) ∗ (∃ f, (arg13.view.loc (c : Thread nD τ) ↦[arg13.view.set]{fullShare} f)) ∗ (∃ f, (arg15.view.loc (c : Thread nD τ) ↦[arg15.view.set]{fullShare} f)) ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg10.view.loc (c : Thread nD τ) ↦[arg10.view.set]{fullShare} f) ∗ ⌜arg10.view.read (Elt F) f = fun _ => Scalar.ofBits (F := F) .f32 0x00000000#32⌝) ∗ (∃ f, (arg11.view.loc (c : Thread nD τ) ↦[arg11.view.set]{fullShare} f) ∗ ⌜arg11.view.read (Elt F) f = cat (arg1.view.read (Elt F) X1) (arg2.view.read (Elt F) X2)⌝) ∗ (∃ f, (arg13.view.loc (c : Thread nD τ) ↦[arg13.view.set]{fullShare} f) ∗ ⌜arg13.view.read (Elt F) f = lace (arg5.view.read (Elt F) X5) (arg6.view.read (Elt F) X6)⌝) ∗ (∃ f, (arg15.view.loc (c : Thread nD τ) ↦[arg15.view.set]{fullShare} f) ∗ ⌜arg15.view.read (Elt F) f = cat (arg3.view.read (Elt F) X3) (arg4.view.read (Elt F) X4)⌝)) -∗ K ⟨⟩))
      ⊢ wp frame (wpE (defs₀ (F := F)) 𝒱₀ (c : Thread nD τ) none) Set.univ (cc0_dx_dw i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18) K := by
  simp only [cc0_dx_dw_eq_skeleton]; unfold cc0_dx_dw_skel
  iintro ⟨HR1, HR2, HR3, HR4, HR5, HR6, ⟨%f10, HW10⟩, ⟨%f11, HW11⟩, ⟨%f13, HW13⟩, ⟨%f15, HW15⟩, Hk⟩
  have z10 : Upto (256 * 0) (fun _ => Scalar.ofBits (F := F) .f32 0x00000000#32) (arg10.view.read (Elt F) f10) := Upto.zero _ _
  have z11 : Upto (256 * 0) (cat (arg1.view.read (Elt F) X1) (arg2.view.read (Elt F) X2)) (arg11.view.read (Elt F) f11) := Upto.zero _ _
  have z13 : Upto (256 * 0) (lace (arg5.view.read (Elt F) X5) (arg6.view.read (Elt F) X6)) (arg13.view.read (Elt F) f13) := Upto.zero _ _
  have z15 : Upto (320 * 0) (cat (arg3.view.read (Elt F) X3) (arg4.view.read (Elt F) X4)) (arg15.view.read (Elt F) f15) := Upto.zero _ _
  sl_exec
  sl_step
  iapply Hk
  isplitl [HR1]; · iexact HR1
  isplitl [HR2]; · iexact HR2
  isplitl [HR3]; · iexact HR3
  isplitl [HR4]; · iexact HR4
  isplitl [HR5]; · iexact HR5
  isplitl [HR6]; · iexact HR6
  isplitl [HW10]
  · iexists _; isplitl [HW10]; · iexact HW10
    ipureintro; exact Upto.all (by assumption) (by decide)
  isplitl [HW11]
  · iexists _; isplitl [HW11]; · iexact HW11
    ipureintro; exact Upto.all (by assumption) (by decide)
  isplitl [HW13]
  · iexists _; isplitl [HW13]; · iexact HW13
    ipureintro; exact Upto.all (by assumption) (by decide)
  iexists _; isplitl [HW15]; · iexact HW15
  ipureintro; exact Upto.all (by assumption) (by decide)

/-- A point between, odd. -/
theorem run2 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2560x128 .bf16) (harg3 : arg3.IsWhole) (arg4 : Memref sig .tc .vmem S2560x128 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S2560x2048 .bf16) (harg7 : arg7.IsWhole) (arg8 : Memref sig .tc .vmem S2560x256 .f32) (harg8 : arg8.IsWhole) (arg9 : Memref sig .tc .hbm S2048x2560 .bf16) (harg9 : arg9.IsWhole) (arg10 : Memref sig .tc .vmem S2048x2560 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2560x256 .bf16) (harg15 : arg15.IsWhole) (arg16 : Memref sig .tc .vmem S2560x256 .bf16) (harg16 : arg16.IsWhole) (arg17 : Memref sig .tc .vmem S2x256x2560 .bf16) (harg17 : arg17.IsWhole) (arg18 : DmaSems sig S2) (h1 : ¬ k0_cond1 i = 1#1) (h2 : k0_cond2 i = 1#1) (h3 : ¬ k0_cond3 i = 1#1) (h4 : ¬ k0_cond4 i = 1#1)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X11 : BufTy.Contents (Elt F) arg11.view.ty) (X13 : BufTy.Contents (Elt F) arg13.view.ty) (X15 : BufTy.Contents (Elt F) arg15.view.ty) (X10 : BufTy.Contents (Elt F) arg10.view.ty) (K : PUnit → sProp 𝕄) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (arg13.view.loc (c : Thread nD τ) ↦[arg13.view.set]{fullShare} X13) ∗ (arg15.view.loc (c : Thread nD τ) ↦[arg15.view.set]{fullShare} X15) ∗ (∃ f, (arg8.view.loc (c : Thread nD τ) ↦[arg8.view.set]{fullShare} f)) ∗ (arg10.view.loc (c : Thread nD τ) ↦[arg10.view.set]{fullShare} X10) ∗ (∃ f, (arg12.view.loc (c : Thread nD τ) ↦[arg12.view.set]{fullShare} f)) ∗ (∃ f, (arg14.view.loc (c : Thread nD τ) ↦[arg14.view.set]{fullShare} f)) ∗ (∃ f, (arg16.view.loc (c : Thread nD τ) ↦[arg16.view.set]{fullShare} f)) ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg11.view.loc (c : Thread nD τ) ↦[arg11.view.set]{fullShare} X11) ∗ (arg13.view.loc (c : Thread nD τ) ↦[arg13.view.set]{fullShare} X13) ∗ (arg15.view.loc (c : Thread nD τ) ↦[arg15.view.set]{fullShare} X15) ∗ (∃ f, (arg8.view.loc (c : Thread nD τ) ↦[arg8.view.set]{fullShare} f) ∗ ⌜arg8.view.read (Elt F) f = dwN (arg7.view.read (Elt F) X7) (arg13.view.read (Elt F) X13)⌝) ∗ (∃ f, (arg10.view.loc (c : Thread nD τ) ↦[arg10.view.set]{fullShare} f) ∗ ⌜arg10.view.read (Elt F) f = accN (arg11.view.read (Elt F) X11) (arg15.view.read (Elt F) X15) (arg10.view.read (Elt F) X10)⌝) ∗ (∃ f, (arg12.view.loc (c : Thread nD τ) ↦[arg12.view.set]{fullShare} f) ∗ ⌜arg12.view.read (Elt F) f = cat (arg1.view.read (Elt F) X1) (arg2.view.read (Elt F) X2)⌝) ∗ (∃ f, (arg14.view.loc (c : Thread nD τ) ↦[arg14.view.set]{fullShare} f) ∗ ⌜arg14.view.read (Elt F) f = lace (arg5.view.read (Elt F) X5) (arg6.view.read (Elt F) X6)⌝) ∗ (∃ f, (arg16.view.loc (c : Thread nD τ) ↦[arg16.view.set]{fullShare} f) ∗ ⌜arg16.view.read (Elt F) f = cat (arg3.view.read (Elt F) X3) (arg4.view.read (Elt F) X4)⌝)) -∗ K ⟨⟩))
      ⊢ wp frame (wpE (defs₀ (F := F)) 𝒱₀ (c : Thread nD τ) none) Set.univ (cc0_dx_dw i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18) K := by
  simp only [cc0_dx_dw_eq_skeleton]; unfold cc0_dx_dw_skel
  iintro ⟨HR1, HR2, HR3, HR4, HR5, HR6, HR7, HR11, HR13, HR15, ⟨%f8, HW8⟩, HW10, ⟨%f12, HW12⟩, ⟨%f14, HW14⟩, ⟨%f16, HW16⟩, Hk⟩
  have z8 : Upto (320 * 0) (dwN (arg7.view.read (Elt F) X7) (arg13.view.read (Elt F) X13)) (arg8.view.read (Elt F) f8) := Upto.zero _ _
  have z10 : Mid (256 * 0) (accN (arg11.view.read (Elt F) X11) (arg15.view.read (Elt F) X15) (arg10.view.read (Elt F) X10)) (arg10.view.read (Elt F) X10) (arg10.view.read (Elt F) X10) := Mid.zero _ _
  have z12 : Upto (256 * 0) (cat (arg1.view.read (Elt F) X1) (arg2.view.read (Elt F) X2)) (arg12.view.read (Elt F) f12) := Upto.zero _ _
  have z14 : Upto (256 * 0) (lace (arg5.view.read (Elt F) X5) (arg6.view.read (Elt F) X6)) (arg14.view.read (Elt F) f14) := Upto.zero _ _
  have z16 : Upto (320 * 0) (cat (arg3.view.read (Elt F) X3) (arg4.view.read (Elt F) X4)) (arg16.view.read (Elt F) f16) := Upto.zero _ _
  letI L := loopInv2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h2 X1 X2 X3 X4 X5 X6 X7 X11 X13 X15 (arg10.view.read (Elt F) X10)
  sl_exec
  sl_step
  iapply Hk
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR11]; · iexact HR11
  isplitl [HR13]; · iexact HR13
  isplitl [HR15]; · iexact HR15
  isplitl [HW8]
  · iexists _; isplitl [HW8]; · iexact HW8
    ipureintro; exact Upto.all (by assumption) (by decide)
  isplitl [HW10]
  · iexists _; isplitl [HW10]; · iexact HW10
    ipureintro; exact Mid.all (by assumption) (by decide)
  isplitl [HW12]
  · iexists _; isplitl [HW12]; · iexact HW12
    ipureintro; exact Upto.all (by assumption) (by decide)
  isplitl [HW14]
  · iexists _; isplitl [HW14]; · iexact HW14
    ipureintro; exact Upto.all (by assumption) (by decide)
  iexists _; isplitl [HW16]; · iexact HW16
  ipureintro; exact Upto.all (by assumption) (by decide)

/-- A point between, even. -/
theorem run3 (c : Dev nD) (i : grid0.Coords) (arg1 : Memref sig .tc .vmem S2048x128 .bf16) (harg1 : arg1.IsWhole) (arg2 : Memref sig .tc .vmem S2048x128 .bf16) (harg2 : arg2.IsWhole) (arg3 : Memref sig .tc .vmem S2560x128 .bf16) (harg3 : arg3.IsWhole) (arg4 : Memref sig .tc .vmem S2560x128 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S2560x2048 .bf16) (harg7 : arg7.IsWhole) (arg8 : Memref sig .tc .vmem S2560x256 .f32) (harg8 : arg8.IsWhole) (arg9 : Memref sig .tc .hbm S2048x2560 .bf16) (harg9 : arg9.IsWhole) (arg10 : Memref sig .tc .vmem S2048x2560 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2560x256 .bf16) (harg15 : arg15.IsWhole) (arg16 : Memref sig .tc .vmem S2560x256 .bf16) (harg16 : arg16.IsWhole) (arg17 : Memref sig .tc .vmem S2x256x2560 .bf16) (harg17 : arg17.IsWhole) (arg18 : DmaSems sig S2) (h1 : ¬ k0_cond1 i = 1#1) (h2 : ¬ k0_cond2 i = 1#1) (h3 : k0_cond3 i = 1#1) (h4 : ¬ k0_cond4 i = 1#1)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X12 : BufTy.Contents (Elt F) arg12.view.ty) (X14 : BufTy.Contents (Elt F) arg14.view.ty) (X16 : BufTy.Contents (Elt F) arg16.view.ty) (X10 : BufTy.Contents (Elt F) arg10.view.ty) (K : PUnit → sProp 𝕄) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ (arg14.view.loc (c : Thread nD τ) ↦[arg14.view.set]{fullShare} X14) ∗ (arg16.view.loc (c : Thread nD τ) ↦[arg16.view.set]{fullShare} X16) ∗ (∃ f, (arg8.view.loc (c : Thread nD τ) ↦[arg8.view.set]{fullShare} f)) ∗ (arg10.view.loc (c : Thread nD τ) ↦[arg10.view.set]{fullShare} X10) ∗ (∃ f, (arg11.view.loc (c : Thread nD τ) ↦[arg11.view.set]{fullShare} f)) ∗ (∃ f, (arg13.view.loc (c : Thread nD τ) ↦[arg13.view.set]{fullShare} f)) ∗ (∃ f, (arg15.view.loc (c : Thread nD τ) ↦[arg15.view.set]{fullShare} f)) ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg12.view.loc (c : Thread nD τ) ↦[arg12.view.set]{fullShare} X12) ∗ (arg14.view.loc (c : Thread nD τ) ↦[arg14.view.set]{fullShare} X14) ∗ (arg16.view.loc (c : Thread nD τ) ↦[arg16.view.set]{fullShare} X16) ∗ (∃ f, (arg8.view.loc (c : Thread nD τ) ↦[arg8.view.set]{fullShare} f) ∗ ⌜arg8.view.read (Elt F) f = dwN (arg7.view.read (Elt F) X7) (arg14.view.read (Elt F) X14)⌝) ∗ (∃ f, (arg10.view.loc (c : Thread nD τ) ↦[arg10.view.set]{fullShare} f) ∗ ⌜arg10.view.read (Elt F) f = accN (arg12.view.read (Elt F) X12) (arg16.view.read (Elt F) X16) (arg10.view.read (Elt F) X10)⌝) ∗ (∃ f, (arg11.view.loc (c : Thread nD τ) ↦[arg11.view.set]{fullShare} f) ∗ ⌜arg11.view.read (Elt F) f = cat (arg1.view.read (Elt F) X1) (arg2.view.read (Elt F) X2)⌝) ∗ (∃ f, (arg13.view.loc (c : Thread nD τ) ↦[arg13.view.set]{fullShare} f) ∗ ⌜arg13.view.read (Elt F) f = lace (arg5.view.read (Elt F) X5) (arg6.view.read (Elt F) X6)⌝) ∗ (∃ f, (arg15.view.loc (c : Thread nD τ) ↦[arg15.view.set]{fullShare} f) ∗ ⌜arg15.view.read (Elt F) f = cat (arg3.view.read (Elt F) X3) (arg4.view.read (Elt F) X4)⌝)) -∗ K ⟨⟩))
      ⊢ wp frame (wpE (defs₀ (F := F)) 𝒱₀ (c : Thread nD τ) none) Set.univ (cc0_dx_dw i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18) K := by
  simp only [cc0_dx_dw_eq_skeleton]; unfold cc0_dx_dw_skel
  iintro ⟨HR1, HR2, HR3, HR4, HR5, HR6, HR7, HR12, HR14, HR16, ⟨%f8, HW8⟩, HW10, ⟨%f11, HW11⟩, ⟨%f13, HW13⟩, ⟨%f15, HW15⟩, Hk⟩
  have z8 : Upto (320 * 0) (dwN (arg7.view.read (Elt F) X7) (arg14.view.read (Elt F) X14)) (arg8.view.read (Elt F) f8) := Upto.zero _ _
  have z10 : Mid (256 * 0) (accN (arg12.view.read (Elt F) X12) (arg16.view.read (Elt F) X16) (arg10.view.read (Elt F) X10)) (arg10.view.read (Elt F) X10) (arg10.view.read (Elt F) X10) := Mid.zero _ _
  have z11 : Upto (256 * 0) (cat (arg1.view.read (Elt F) X1) (arg2.view.read (Elt F) X2)) (arg11.view.read (Elt F) f11) := Upto.zero _ _
  have z13 : Upto (256 * 0) (lace (arg5.view.read (Elt F) X5) (arg6.view.read (Elt F) X6)) (arg13.view.read (Elt F) f13) := Upto.zero _ _
  have z15 : Upto (320 * 0) (cat (arg3.view.read (Elt F) X3) (arg4.view.read (Elt F) X4)) (arg15.view.read (Elt F) f15) := Upto.zero _ _
  letI L := loopInv3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 h3 X1 X2 X3 X4 X5 X6 X7 X12 X14 X16 (arg10.view.read (Elt F) X10)
  sl_exec
  sl_step
  iapply Hk
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR12]; · iexact HR12
  isplitl [HR14]; · iexact HR14
  isplitl [HR16]; · iexact HR16
  isplitl [HW8]
  · iexists _; isplitl [HW8]; · iexact HW8
    ipureintro; exact Upto.all (by assumption) (by decide)
  isplitl [HW10]
  · iexists _; isplitl [HW10]; · iexact HW10
    ipureintro; exact Mid.all (by assumption) (by decide)
  isplitl [HW11]
  · iexists _; isplitl [HW11]; · iexact HW11
    ipureintro; exact Upto.all (by assumption) (by decide)
  isplitl [HW13]
  · iexists _; isplitl [HW13]; · iexact HW13
    ipureintro; exact Upto.all (by assumption) (by decide)
  iexists _; isplitl [HW15]; · iexact HW15
  ipureintro; exact Upto.all (by assumption) (by decide)

end Cert.Proof.KernelIdeal
-- ==== Proof.KernelIdeal.Last.lean ====
/- The last loop: eight row blocks of dx leave through a staging buffer of two slots, each slot's copy waited two trips
   later. -/
module

public import proofs.«01_k».proof.Proof.KernelIdeal.Loops
public import Idealize.ShloMosaic.Lib.Ring

@[expose] public section

set_option warn.classDefReducibility false
set_option maxRecDepth 8192
set_option maxHeartbeats 4000000

noncomputable section

namespace Cert.Proof.KernelIdeal

open Cert.KernelIdeal Cert.KernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ) ℕ

/-! ## Names: row block `b` of dx, slot `s` of the staging buffer, slot `s`'s semaphore -/

abbrev dxM : Memref sig .tc .hbm S2048x2560 .bf16 := Memref.whole main_v0_1
abbrev bufM : Memref sig .tc .vmem S2x256x2560 .bf16 := Memref.whole cc0_scratch7

abbrev grpOff (b : Fin 8) : Fin 2 → Nat := ![256 * b.val, 0]
theorem grpOff_inb (b : Fin 8) : ∀ a, grpOff b a + S256x2560.size a ≤ S2048x2560.size a := by
  have := b.isLt; intro a; fin_cases a
  · show 256 * b.val + 256 ≤ 2048; omega
  · show 0 + 2560 ≤ 2560; omega
abbrev slotOff (s : Fin 2) : Fin 3 → Nat := ![s.val, 0, 0]
theorem slotOff_inb (s : Fin 2) : ∀ a, slotOff s a + S1x256x2560.size a ≤ S2x256x2560.size a := by
  have := s.isLt; intro a; fin_cases a
  · show s.val + 1 ≤ 2; omega
  · show 0 + 256 ≤ 256; omega
  · show 0 + 2560 ≤ 2560; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

def grp (b : Fin 8) : Memref sig .tc .hbm S256x2560 .bf16 :=
  dxM.slice (Rect.unit (s := S2048x2560) (grpOff b) S256x2560.size (grpOff_inb b)) (fun _ => rfl)
def rslot (s : Fin 2) : Memref sig .tc .vmem S256x2560 .bf16 :=
  (bufM.slice (Rect.unit (s := S2x256x2560) (slotOff s) S1x256x2560.size (slotOff_inb s)) (fun _ => rfl)).squeeze S256x2560 squeezes_S1x256x2560_S256x2560
def csm (s : Fin 2) : DmaSems sig S_ := (cc0_scratch8.slice (Rect.unit (s := S2) (semOff s) S1.size (semOff_inb s))).squeeze S_ squeezes_S1_S_

instance (s : Fin 2) : ClosedOff (slotOff s) := ⟨slotOff s, rfl⟩
instance (b : Fin 8) : ClosedOff (grpOff b) := ⟨grpOff b, rfl⟩

theorem cond5_iff : ∀ k : Fin k0_t4_loop.trips, k0_cond5 k = 1#1 ↔ 2 ≤ k.val := by decide +kernel
theorem trips4 : k0_t4_loop.trips = 8 := by decide +kernel

theorem off36_eq : ∀ k : Fin k0_t4_loop.trips, 2 ≤ k.val → k0_off36 k = semOff (Ring.sl 2 k.val) := by decide +kernel
theorem off37_eq : ∀ k : Fin k0_t4_loop.trips, 2 ≤ k.val → k0_off37 k = grpOff (Ring.bk 8 (k.val - 2)) := by decide +kernel
theorem off38_eq : ∀ k : Fin k0_t4_loop.trips, 2 ≤ k.val → k0_off38 k = slotOff (Ring.sl 2 k.val) := by decide +kernel
theorem off39_eq : ∀ k : Fin k0_t4_loop.trips, k0_off39 k = slotOff (Ring.sl 2 k.val) := by decide +kernel
theorem off40_eq : ∀ k : Fin k0_t4_loop.trips, k0_off40 k = semOff (Ring.sl 2 k.val) := by decide +kernel
theorem off41_eq : ∀ k : Fin k0_t4_loop.trips, k0_off41 k = grpOff (Ring.bk 8 k.val) := by decide +kernel
theorem off42_eq : ∀ k : Fin k0_t4_loop.trips, k0_off42 k = slotOff (Ring.sl 2 k.val) := by decide +kernel

private theorem csm_congr {off : Fin 1 → Nat} {s : Fin 2} (e : off = semOff s) (hh) :
    (cc0_scratch8.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 2} (e : off = slotOff s) (hh hs) :
    (bufM.slice (Rect.unit (s := S2x256x2560) off S1x256x2560.size hh) hs).squeeze S256x2560 squeezes_S1x256x2560_S256x2560 = rslot s :=
  congrArg (fun M : Memref sig .tc .vmem S1x256x2560 .bf16 => M.squeeze S256x2560 squeezes_S1x256x2560_S256x2560) (Memref.slice_unit_congr _ e _ _ _ _)
private theorem grp_congr {off : Fin 2 → Nat} {b : Fin 8} (e : off = grpOff b) (hh hs) :
    dxM.slice (Rect.unit (s := S2048x2560) off S256x2560.size hh) hs = grp b := Memref.slice_unit_congr _ e _ _ _ (fun _ => rfl)

@[sl_canon] theorem semW (k : Fin k0_t4_loop.trips) (h2 : 2 ≤ k.val) (hh) :
    (cc0_scratch8.slice (Rect.unit (s := S2) (k0_off36 k) S1.size hh)).squeeze S_ squeezes_S1_S_ = csm (Ring.sl 2 k.val) := csm_congr (off36_eq k h2) _
@[sl_canon] theorem grpW (k : Fin k0_t4_loop.trips) (h2 : 2 ≤ k.val) (hh hs) :
    dxM.slice (Rect.unit (s := S2048x2560) (k0_off37 k) S256x2560.size hh) hs = grp (Ring.bk 8 (k.val - 2)) := grp_congr (off37_eq k h2) _ _
@[sl_canon] theorem slotW (k : Fin k0_t4_loop.trips) (h2 : 2 ≤ k.val) (hh hs) :
    (bufM.slice (Rect.unit (s := S2x256x2560) (k0_off38 k) S1x256x2560.size hh) hs).squeeze S256x2560 squeezes_S1x256x2560_S256x2560 = rslot (Ring.sl 2 k.val) := rslot_congr (off38_eq k h2) _ _
@[sl_canon] theorem semI (k : Fin k0_t4_loop.trips) (hh) :
    (cc0_scratch8.slice (Rect.unit (s := S2) (k0_off40 k) S1.size hh)).squeeze S_ squeezes_S1_S_ = csm (Ring.sl 2 k.val) := csm_congr (off40_eq k) _
@[sl_canon] theorem grpI (k : Fin k0_t4_loop.trips) (hh hs) :
    dxM.slice (Rect.unit (s := S2048x2560) (k0_off41 k) S256x2560.size hh) hs = grp (Ring.bk 8 k.val) := grp_congr (off41_eq k) _ _
@[sl_canon] theorem slotI (k : Fin k0_t4_loop.trips) (hh hs) :
    (bufM.slice (Rect.unit (s := S2x256x2560) (k0_off42 k) S1x256x2560.size hh) hs).squeeze S256x2560 squeezes_S1x256x2560_S256x2560 = rslot (Ring.sl 2 k.val) := rslot_congr (off42_eq k) _ _
@[sl_canon] theorem semE0 (hh) : (cc0_scratch8.slice (Rect.unit (s := S2) (k0_off45 6#32) S1.size hh)).squeeze S_ squeezes_S1_S_ = csm 0 := csm_congr (by decide +kernel) _
@[sl_canon] theorem semE1 (hh) : (cc0_scratch8.slice (Rect.unit (s := S2) (k0_off45 7#32) S1.size hh)).squeeze S_ squeezes_S1_S_ = csm 1 := csm_congr (by decide +kernel) _
@[sl_canon] theorem grpE0 (hh hs) : dxM.slice (Rect.unit (s := S2048x2560) ![1536, 0] S256x2560.size hh) hs = grp 6 := grp_congr (by decide +kernel) _ _
@[sl_canon] theorem grpE1 (hh hs) : dxM.slice (Rect.unit (s := S2048x2560) ![1792, 0] S256x2560.size hh) hs = grp 7 := grp_congr (by decide +kernel) _ _
@[sl_canon] theorem slotE0 (hh hs) :
    (bufM.slice (Rect.unit (s := S2x256x2560) (k0_off46 6#32) S1x256x2560.size hh) hs).squeeze S256x2560 squeezes_S1x256x2560_S256x2560 = rslot 0 := rslot_congr (by decide +kernel) _ _
@[sl_canon] theorem slotE1 (hh hs) :
    (bufM.slice (Rect.unit (s := S2x256x2560) (k0_off46 7#32) S1x256x2560.size hh) hs).squeeze S256x2560 squeezes_S1x256x2560_S256x2560 = rslot 1 := rslot_congr (by decide +kernel) _ _

instance (k : Fin k0_t4_loop.trips) : ClosedOff (k0_off39 k) := ⟨slotOff (Ring.sl 2 k.val), off39_eq k⟩
instance (k : Fin k0_t4_loop.trips) : ClosedOff (k0_off42 k) := ⟨slotOff (Ring.sl 2 k.val), off42_eq k⟩
instance (k : Fin k0_t4_loop.trips) : ClosedOff (k0_off41 k) := ⟨grpOff (Ring.bk 8 k.val), off41_eq k⟩

/-! ## What a slot, a block and a copy in flight hold -/

/-- Row block `b` of the result dx, from the last chunk's operands and the accumulator. -/
def dxB (D : S2048x256.Idx → Elt F .bf16) (W : S2560x256.Idx → Elt F .bf16) (O : S2048x2560.Idx → Elt F .f32) (b : Fin 8) :
    S256x2560.Idx → Elt F .bf16 :=
  have := b.isLt
  shapeCast S256x2560 (k0_pay38 (F := F) (rowsOf 256 D b.val (by omega)) W (rowsOf 256 O b.val (by omega))) squeezes_S1x256x2560_S256x2560.numel_eq

/-- A slot written whole through the staging buffer, read. -/
theorem slot_read (s : Fin 2) (off : Fin 3 → Nat) (e : off = slotOff s) (inb : ∀ a, off a + S1x256x2560.size a ≤ S2x256x2560.size a)
    (f : bufM.view.ty.Contents (Elt F)) (p : S1x256x2560.Idx → Elt F .bf16) :
    (rslot s).view.read (Elt F) (bufM.view.writes (Elt F) f [⟨Rect.unit (s := S2x256x2560) off S1x256x2560.size inb, p⟩])
      = shapeCast S256x2560 p squeezes_S1x256x2560_S256x2560.numel_eq := by
  subst e
  funext x
  exact View.read_writes_cons_emb bufM.view f (Rect.unit (s := S2x256x2560) (slotOff s) S1x256x2560.size inb) p []
    (Shape.reshapeEquiv squeezes_S1x256x2560_S256x2560.numel_eq x)

/-- A block written whole, read. -/
theorem grp_read (b : Fin 8) (g : (grp b).view.ty.Contents (Elt F)) (p : S256x2560.Idx → Elt F .bf16) :
    (grp b).view.read (Elt F) ((grp b).view.writes (Elt F) g [⟨Rect.whole S256x2560, p⟩]) = p := by
  funext x
  exact (congrArg _ (ix_ext _ _ (by show _ = 0 + 1 * (x 0).val; omega) (by show _ = 0 + 1 * (x 1).val; omega))).trans
    (View.read_writes_cons_emb (grp b).view g (Rect.whole S256x2560) p [] x)

section Pieces
variable (c : Dev nD)

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
abbrev homeP (b : Fin 8) (g : Buf (Elt F) ((grp b).view.loc (c : Thread nD τ))) : sProp 𝕄 :=
  (grp b).view.loc (c : Thread nD τ) ↦[(grp b).view.set]{fullShare} g

/-- Before a slot's first use: at anything, its semaphore at zero. -/
def idle (s : Fin 2) : sProp 𝕄 := iprop(∃ f, slotP (F := F) c s f ∗ cellP c s)

variable (D : S2048x256.Idx → Elt F .bf16) (W : S2560x256.Idx → Elt F .bf16) (O : S2048x2560.Idx → Elt F .f32)

/-- The copy of block `b` out of slot `s`, in flight. -/
def fly (s : Fin 2) (b : Fin 8) : sProp 𝕄 :=
  iprop(∃ X Y, ⌜(grp b).view.read (Elt F) Y = dxB D W O b⌝
    ∗ Transfers.Flight countersEmb (c : Thread nD τ) (SemLoc.dma (csm s).sem) () 40960 iprop(homeP c b Y ∗ slotP c s X))
/-- The slot that trip `j` uses, before the trip: free for the first two, else still with the copy of trip `j - 2`. -/
def role (j : ℕ) : sProp 𝕄 := if j < 2 then idle c (Ring.sl 2 j) else fly c D W O (Ring.sl 2 j) (Ring.bk 8 (j - 2))
/-- The blocks not yet written. -/
def todo (g : Buf (Elt F) (dxM.view.loc (c : Thread nD τ))) (k : ℕ) : sProp 𝕄 :=
  bigSep (Finset.univ.filter fun b : Fin 8 => k ≤ b.val) fun b => homeP (F := F) c b g
/-- A block written. -/
def doneP (b : Fin 8) : sProp 𝕄 := iprop(∃ Y, ⌜(grp b).view.read (Elt F) Y = dxB D W O b⌝ ∗ homeP c b Y)
/-- The blocks written and waited for. -/
def done (k : ℕ) : sProp 𝕄 := bigSep (Finset.univ.filter fun b : Fin 8 => b.val + 2 < k) fun b => doneP c D W O b

omit [FloatOps F] in
theorem todo_step (g : Buf (Elt F) (dxM.view.loc (c : Thread nD τ))) (k : ℕ) (hk : k < 8) :
    todo c g k = iprop(homeP (F := F) c (Ring.bk 8 k) g ∗ todo c g (k + 1)) := by
  have e : (Finset.univ.filter fun b : Fin 8 => k ≤ b.val) = insert (Ring.bk 8 k) (Finset.univ.filter fun b : Fin 8 => k + 1 ≤ b.val) := by
    ext b
    simp only [Finset.mem_filter, Finset.mem_univ, Finset.mem_insert, true_and, Fin.ext_iff, Ring.bk_val hk]
    omega
  have hn : Ring.bk 8 k ∉ (Finset.univ.filter fun b : Fin 8 => k + 1 ≤ b.val) := by
    simp only [Finset.mem_filter, Finset.mem_univ, true_and, Ring.bk_val hk]; omega
  unfold todo
  rw [e, bigSep_insert hn]
  rfl

theorem done_step (k : ℕ) (h2 : 2 ≤ k) (hk : k < 10) :
    done c D W O (k + 1) = iprop(doneP c D W O (Ring.bk 8 (k - 2)) ∗ done c D W O k) := by
  have hb : k - 2 < 8 := by omega
  have e : (Finset.univ.filter fun b : Fin 8 => b.val + 2 < k + 1) = insert (Ring.bk 8 (k - 2)) (Finset.univ.filter fun b : Fin 8 => b.val + 2 < k) := by
    ext b
    simp only [Finset.mem_filter, Finset.mem_univ, Finset.mem_insert, true_and, Fin.ext_iff, Ring.bk_val hb]
    omega
  have hn : Ring.bk 8 (k - 2) ∉ (Finset.univ.filter fun b : Fin 8 => b.val + 2 < k) := by
    simp only [Finset.mem_filter, Finset.mem_univ, true_and, Ring.bk_val hb]; omega
  unfold done
  rw [e, bigSep_insert hn]
  rfl

theorem done_low (k : ℕ) (h2 : k ≤ 2) : done c D W O k = iprop(emp) := by
  have e : (Finset.univ.filter fun b : Fin 8 => b.val + 2 < k) = ∅ := by
    ext b
    simp only [Finset.mem_filter, Finset.mem_univ, true_and, Finset.notMem_empty, iff_false]; omega
  unfold done
  rw [e, bigSep_empty]
  rfl

variable (i : grid0.Coords)
  (arg1 : Memref sig .tc .vmem S2048x128 .bf16) (harg1 : arg1.IsWhole) (arg2 : Memref sig .tc .vmem S2048x128 .bf16) (harg2 : arg2.IsWhole) (arg3 : Memref sig .tc .vmem S2560x128 .bf16) (harg3 : arg3.IsWhole) (arg4 : Memref sig .tc .vmem S2560x128 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S2560x2048 .bf16) (harg7 : arg7.IsWhole) (arg8 : Memref sig .tc .vmem S2560x256 .f32) (harg8 : arg8.IsWhole) (arg10 : Memref sig .tc .vmem S2048x2560 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2560x256 .bf16) (harg15 : arg15.IsWhole) (arg16 : Memref sig .tc .vmem S2560x256 .bf16) (harg16 : arg16.IsWhole)
  (hc : k0_cond4 i = 1#1)

@[sl_loop] def loopInv4 (X7 : BufTy.Contents (Elt F) arg7.view.ty) (X10 : BufTy.Contents (Elt F) arg10.view.ty) (X11 : BufTy.Contents (Elt F) arg11.view.ty) (X13 : BufTy.Contents (Elt F) arg13.view.ty) (X15 : BufTy.Contents (Elt F) arg15.view.ty) (g : Buf (Elt F) (dxM.view.loc (c : Thread nD τ))) :
    LoopInvTy_k0_t4 (F := F) Unit ℕ (UU nD τ) ℕ 𝒱₀ c none Set.univ i arg1 harg1 arg2 harg2 arg3 harg3 arg4 harg4 arg5 harg5 arg6 harg6 arg7 harg7 arg8 harg8 dxM (Memref.isWhole_whole _) arg10 harg10 arg11 harg11 arg12 harg12 arg13 harg13 arg14 harg14 arg15 harg15 arg16 harg16 bufM (Memref.isWhole_whole _) cc0_scratch8 hc where
  inv := fun k _ => iprop((arg7.view.loc (c : Thread nD τ) ↦[arg7.view.set]{fullShare} X7) ∗ (arg10.view.loc (c : Thread nD τ) ↦[arg10.view.set]{fullShare} X10) ∗ (arg11.view.loc (c : Thread nD τ) ↦[arg11.view.set]{fullShare} X11) ∗ (arg13.view.loc (c : Thread nD τ) ↦[arg13.view.set]{fullShare} X13) ∗ (arg15.view.loc (c : Thread nD τ) ↦[arg15.view.set]{fullShare} X15) ∗ (∃ f8, (arg8.view.loc (c : Thread nD τ) ↦[arg8.view.set]{fullShare} f8) ∗ ⌜Upto (320 * k) (dwN (arg7.view.read (Elt F) X7) (arg13.view.read (Elt F) X13)) (arg8.view.read (Elt F) f8)⌝)
    ∗ (∃ W, owes (c : Thread nD τ) 0 W) ∗ todo c g k ∗ done c (arg11.view.read (Elt F) X11) (arg15.view.read (Elt F) X15) (arg10.view.read (Elt F) X10) k ∗ role c (arg11.view.read (Elt F) X11) (arg15.view.read (Elt F) X15) (arg10.view.read (Elt F) X10) k ∗ role c (arg11.view.read (Elt F) X11) (arg15.view.read (Elt F) X15) (arg10.view.read (Elt F) X10) (k + 1))
  step := fun k acc => by
    have hk : k.val < 8 := Nat.lt_of_lt_of_eq k.isLt trips4
    have hdw : ∀ f8 : BufTy.Contents (Elt F) arg8.view.ty, Upto (320 * k.val) (dwN (arg7.view.read (Elt F) X7) (arg13.view.read (Elt F) X13)) (arg8.view.read (Elt F) f8) →
        Upto (320 * (k.val + 1)) (dwN (arg7.view.read (Elt F) X7) (arg13.view.read (Elt F) X13)) (arg8.view.read (Elt F) (arg8.view.writes (Elt F) f8
          [⟨Rect.unit (s := S2560x256) (k0_off44 k) S320x256.size (k0_off44_inb i k hc), k0_pay17 (arg7.view.readAt (Elt F) (Rect.unit (s := S2560x2048) (k0_off43 k) S320x2048.size (k0_off43_inb i k hc)).toLoadRect X7)
            (arg13.view.readAt (Elt F) (Rect.unit (s := S2048x256) ![0, 0] S2048x256.size inb_S2048x256_S2048x256_0_0).toLoadRect X13)⟩])) := fun f8 h8 => by
      refine Upto.step arg8.view f8 h8 (k0_off44_eq k) fun x z z0 z1 => ?_
      rw [← dwN_at _ _ k.val hk x z z0 z1, ← readAt_rows arg7.view X7 _ (k0_off43_inb i k hc) (k0_off43_eq k), ← View.readAt_full arg13.view X13 inb_S2048x256_S2048x256_0_0]
    have hdx : k0_pay38 (F := F) (arg11.view.readAt (Elt F) (Rect.unit (s := S2048x256) (k0_off34 k) S256x256.size (k0_off34_inb i k hc)).toLoadRect X11)
          (arg15.view.readAt (Elt F) (Rect.unit (s := S2560x256) ![0, 0] S2560x256.size inb_S2560x256_S2560x256_0_0).toLoadRect X15)
          (arg10.view.readAt (Elt F) (Rect.unit (s := S2048x2560) (k0_off35 k) S256x2560.size (k0_off35_inb i k hc)).toLoadRect X10)
        = k0_pay38 (F := F) (rowsOf 256 (arg11.view.read (Elt F) X11) (Ring.bk 8 k.val).val (by rw [Ring.bk_val hk]; omega)) (arg15.view.read (Elt F) X15)
            (rowsOf 256 (arg10.view.read (Elt F) X10) (Ring.bk 8 k.val).val (by rw [Ring.bk_val hk]; omega)) := by
      have go : ∀ (a b : ℕ) (h : a = b) (ha : 256 * a + 256 ≤ 2048) (hb : 256 * b + 256 ≤ 2048),
          k0_pay38 (F := F) (rowsOf 256 (arg11.view.read (Elt F) X11) a ha) (arg15.view.read (Elt F) X15) (rowsOf 256 (arg10.view.read (Elt F) X10) a ha)
          = k0_pay38 (F := F) (rowsOf 256 (arg11.view.read (Elt F) X11) b hb) (arg15.view.read (Elt F) X15) (rowsOf 256 (arg10.view.read (Elt F) X10) b hb) := by
        rintro a b rfl _ _; rfl
      rw [readAt_rows arg11.view X11 _ (k0_off34_inb i k hc) (k0_off34_eq k) (by omega), View.readAt_full arg15.view X15 inb_S2560x256_S2560x256_0_0,
        readAt_rows arg10.view X10 _ (k0_off35_inb i k hc) (k0_off35_eq k) (by omega)]
      exact go _ _ (Ring.bk_val hk).symm _ _
    have e2 : role c (arg11.view.read (Elt F) X11) (arg15.view.read (Elt F) X15) (arg10.view.read (Elt F) X10) (k.val + 1 + 1) = fly c (arg11.view.read (Elt F) X11) (arg15.view.read (Elt F) X15) (arg10.view.read (Elt F) X10) (Ring.sl 2 k.val) (Ring.bk 8 k.val) := by
      unfold role
      rw [if_neg (by omega), show k.val + 1 + 1 = k.val + 2 from rfl, Ring.sl_add]
      rfl
    have et := todo_step (F := F) c g k.val hk
    unfold k0_t4_body
    by_cases h2 : 2 ≤ k.val
    · have h5 : k0_cond5 k = 1#1 := (cond5_iff k).2 h2
      have er : role c (arg11.view.read (Elt F) X11) (arg15.view.read (Elt F) X15) (arg10.view.read (Elt F) X10) k.val = fly c (arg11.view.read (Elt F) X11) (arg15.view.read (Elt F) X15) (arg10.view.read (Elt F) X10) (Ring.sl 2 k.val) (Ring.bk 8 (k.val - 2)) := by
        unfold role
        exact if_neg (by omega)
      rw [e2, et, er, done_step c (arg11.view.read (Elt F) X11) (arg15.view.read (Elt F) X15) (arg10.view.read (Elt F) X10) k.val h2 (by omega)]
      iintro ⟨H7, H10, H11, H13, H15, ⟨%f8, H8, %h8⟩, ⟨%W, HW⟩, ⟨Hg, Ht⟩, Hd, HF, Hr⟩
      unfold fly
      icases HF with ⟨%X, %Y, %hY, HF⟩
      sl_exec
      sl_step
      isplitl [H7]; · iexact H7
      isplitl [H10]; · iexact H10
      isplitl [H11]; · iexact H11
      isplitl [H13]; · iexact H13
      isplitl [H15]; · iexact H15
      isplitl [H8]
      · iexists _; isplitl [H8]; · iexact H8
        ipureintro; exact hdw f8 h8
      isplitl [HW]; · iexists _; iexact HW
      isplitl [Ht]; · iexact Ht
      isplitl [Hd HF_dst]
      · isplitl [HF_dst]
        · unfold doneP; iexists Y; isplitr; · ipureintro; exact hY
          iexact HF_dst
        iexact Hd
      isplitl [Hr]; · iexact Hr
      iexists _; iexists _
      isplitr [HF]
      rotate_left
      · iexact HF
      · ipureintro
        refine (grp_read _ _ _).trans ?_
        refine (slot_read _ _ (off39_eq k) (k0_off39_inb i k hc) _ _).trans ?_
        exact congrArg (fun p => shapeCast S256x2560 p squeezes_S1x256x2560_S256x2560.numel_eq) hdx
    · have h5 : ¬ k0_cond5 k = 1#1 := fun h => h2 ((cond5_iff k).1 h)
      have er : role c (arg11.view.read (Elt F) X11) (arg15.view.read (Elt F) X15) (arg10.view.read (Elt F) X10) k.val = idle (F := F) c (Ring.sl 2 k.val) := by
        unfold role
        exact if_pos (by omega)
      rw [e2, et, er, done_low c (arg11.view.read (Elt F) X11) (arg15.view.read (Elt F) X15) (arg10.view.read (Elt F) X10) k.val (by omega), done_low c (arg11.view.read (Elt F) X11) (arg15.view.read (Elt F) X15) (arg10.view.read (Elt F) X10) (k.val + 1) (by omega)]
      iintro ⟨H7, H10, H11, H13, H15, ⟨%f8, H8, %h8⟩, ⟨%W, HW⟩, ⟨Hg, Ht⟩, Hd, HF, Hr⟩
      unfold idle
      icases HF with ⟨%f, Hs, Hc⟩
      sl_exec
      sl_step
      isplitl [H7]; · iexact H7
      isplitl [H10]; · iexact H10
      isplitl [H11]; · iexact H11
      isplitl [H13]; · iexact H13
      isplitl [H15]; · iexact H15
      isplitl [H8]
      · iexists _; isplitl [H8]; · iexact H8
        ipureintro; exact hdw f8 h8
      isplitl [HW]; · iexists _; iexact HW
      isplitl [Ht]; · iexact Ht
      isplitl [Hd]; · iexact Hd
      isplitl [Hr]; · iexact Hr
      unfold fly
      iexists _; iexists _
      isplitr [Hc]
      rotate_left
      · iexact Hc
      · ipureintro
        refine (grp_read _ _ _).trans ?_
        refine (slot_read _ _ (off39_eq k) (k0_off39_inb i k hc) _ _).trans ?_
        exact congrArg (fun p => shapeCast S256x2560 p squeezes_S1x256x2560_S256x2560.numel_eq) hdx

end Pieces
end Cert.Proof.KernelIdeal
-- ==== Proof.KernelIdeal.Final.lean ====
/- The body at the last point: the last chunk's products are added on the way out, dx leaves block by block, the last two
   copies are waited for. -/
module

public import proofs.«01_k».proof.Proof.KernelIdeal.Last

@[expose] public section

set_option maxRecDepth 8192
set_option maxHeartbeats 4000000

noncomputable section

namespace Cert.Proof.KernelIdeal

open Cert.KernelIdeal Cert.KernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

omit [FloatOps F] in
theorem entails_of_eq {P Q : sProp 𝕄} (e : P = Q) : P ⊢ Q := e ▸ .rfl

/-! ## The element sets of the row blocks and of the slots -/

abbrev G8 (b : Fin 8) : Finset S2048x2560.Idx := (Rect.unit (s := S2048x2560) (grpOff b) S256x2560.size (grpOff_inb b)).set
abbrev T2 (s : Fin 2) : Finset S2x256x2560.Idx := (Rect.unit (s := S2x256x2560) (slotOff s) S1x256x2560.size (slotOff_inb s)).set

theorem grp_set (b : Fin 8) : (grp b).view.set = G8 b := View.set_slice_whole _ _
theorem rslot_set (s : Fin 2) : (rslot s).view.set = T2 s := (View.set_reshape _ _).trans (View.set_slice_whole _ _)

theorem mem_G8 (b : Fin 8) (y : S2048x2560.Idx) : y ∈ G8 b ↔ (y 0).val / 256 = b.val := by
  rw [Rect.mem_set_unit]
  have h1 : (y 1).val < 2560 := (y 1).isLt
  constructor
  · intro H; have a0 : 256 * b.val ≤ (y 0).val ∧ (y 0).val < 256 * b.val + 256 := H 0; omega
  · intro H i; fin_cases i
    · show 256 * b.val ≤ (y 0).val ∧ (y 0).val < 256 * b.val + 256; omega
    · show 0 ≤ (y 1).val ∧ (y 1).val < 0 + 2560; omega
theorem mem_T2 (s : Fin 2) (y : S2x256x2560.Idx) : y ∈ T2 s ↔ (y 0).val = s.val := by
  rw [Rect.mem_set_unit]
  have h1 : (y 1).val < 256 := (y 1).isLt
  have h2 : (y 2).val < 2560 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 2560; omega
theorem G8_disjoint : ∀ b b' : Fin 8, b ≠ b' → Disjoint (G8 b) (G8 b') := by
  intro b b' hne; rw [Finset.disjoint_left]; intro y hy hy'; rw [mem_G8] at hy hy'; exact hne (Fin.ext (hy.symm.trans hy'))
theorem G8_cover : (Finset.univ : Finset (Fin 8)).biUnion G8 = Finset.univ := by
  ext y
  have h0 : (y 0).val < 2048 := (y 0).isLt
  simp only [Finset.mem_biUnion, Finset.mem_univ, true_and, iff_true]
  exact ⟨⟨(y 0).val / 256, by omega⟩, by rw [mem_G8]⟩
theorem T2_disjoint : ∀ s s' : Fin 2, s ≠ s' → Disjoint (T2 s) (T2 s') := by
  intro s s' hne; rw [Finset.disjoint_left]; intro y hy hy'; rw [mem_T2] at hy hy'; exact hne (Fin.ext (hy.symm.trans hy'))
theorem T2_cover : (Finset.univ : Finset (Fin 2)).biUnion T2 = Finset.univ := by
  ext y; simp only [Finset.mem_biUnion, Finset.mem_univ, true_and, iff_true]; exact ⟨(y 0).cast (by decide), by rw [mem_T2]; rfl⟩

/-- The result dx whole: its eight row blocks. -/
def dxAll (D : S2048x256.Idx → Elt F .bf16) (W : S2560x256.Idx → Elt F .bf16) (O : S2048x2560.Idx → Elt F .f32) (y : S2048x2560.Idx) : Elt F .bf16 :=
  have h0 : (y 0).val < 2048 := (y 0).isLt
  dxB D W O ⟨(y 0).val / 256, by omega⟩ (ix ((y 0).val % 256) (y 1).val (Nat.mod_lt _ (by decide)) (y 1).isLt)

theorem dxAll_at (D : S2048x256.Idx → Elt F .bf16) (W : S2560x256.Idx → Elt F .bf16) (O : S2048x2560.Idx → Elt F .f32) (b : Fin 8)
    (x : S256x2560.Idx) (z : S2048x2560.Idx) (h0 : (z 0).val = 256 * b.val + (x 0).val) (h1 : (z 1).val = (x 1).val) :
    dxAll D W O z = dxB D W O b x := by
  have hx : (x 0).val < 256 := (x 0).isLt
  obtain ⟨b, hb⟩ := b
  have h0' : (z 0).val = 256 * b + (x 0).val := h0
  have e : (z 0).val / 256 = b := by omega
  subst e
  have ex : (ix ((z 0).val % 256) (z 1).val (Nat.mod_lt _ (by decide)) (z 1).isLt : S256x2560.Idx) = x :=
    ix_ext (d := S256x2560.size) _ x (by show (z 0).val % 256 = (x 0).val; omega) (by show (z 1).val = (x 1).val; omega)
  exact congrArg (dxB D W O ⟨(z 0).val / 256, hb⟩) ex

section Pieces
variable (c : Dev nD)

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

omit [FloatOps F] in
/-- dx whole is its eight blocks, none written. -/
theorem dx_split (g : Buf (Elt F) ((c : Thread nD τ).loc main_v0_1)) :
    (((c : Thread nD τ).loc main_v0_1) ↦{fullShare} g : sProp 𝕄) = todo c g 0 := by
  rw [Ring.pointsTo_blocks (ℓ := (c : Thread nD τ).loc main_v0_1) G8 G8_disjoint G8_cover]
  unfold todo
  rw [show (Finset.univ.filter fun b : Fin 8 => 0 ≤ b.val) = Finset.univ from Finset.filter_true_of_mem fun _ _ => Nat.zero_le _]
  exact bigSep_congr fun b _ => by rw [← grp_set]; rfl

variable (D : S2048x256.Idx → Elt F .bf16) (W : S2560x256.Idx → Elt F .bf16) (O : S2048x2560.Idx → Elt F .f32)

/-- A block written holds its part of dx. -/
theorem doneP_part (b : Fin 8) : doneP c D W O b ⊢ (((c : Thread nD τ).loc main_v0_1) ↦[G8 b]{fullShare} dxAll D W O : sProp 𝕄) := by
  unfold doneP
  iintro ⟨%Y, %hY, H⟩
  have e : (homeP c b Y : sProp 𝕄) = (((c : Thread nD τ).loc main_v0_1) ↦[G8 b]{fullShare} dxAll D W O : sProp 𝕄) := by
    rw [← grp_set]
    refine pointsTo_congr fun y hy => ?_
    obtain ⟨x, -, rfl⟩ := Finset.mem_map.1 hy
    refine (congrFun hY x).trans (dxAll_at D W O b x _ ?_ ?_).symm
    · show 256 * b.val + 1 * (x 0).val = _; omega
    · show 0 + 1 * (x 1).val = _; omega
  irw [← e]
  iexact H

/-- All blocks written, dx is whole. -/
theorem dx_join : done c D W O 10 ⊢ (((c : Thread nD τ).loc main_v0_1) ↦{fullShare} dxAll D W O : sProp 𝕄) := by
  rw [Ring.pointsTo_blocks (ℓ := (c : Thread nD τ).loc main_v0_1) G8 G8_disjoint G8_cover]
  unfold done
  rw [show (Finset.univ.filter fun b : Fin 8 => b.val + 2 < 10) = Finset.univ from Finset.filter_true_of_mem fun b _ => by have := b.isLt; omega]
  exact bigSep_mono fun b _ => doneP_part c D W O b

omit [FloatOps F] in
theorem slotP_eq (s : Fin 2) (f) : slotP c s f = (((c : Thread nD τ).loc cc0_scratch7) ↦[T2 s]{fullShare} f : sProp 𝕄) :=
  congrArg (fun S => (_ ↦[S]{fullShare} f : sProp 𝕄)) (rslot_set s)
omit [FloatOps F] in
/-- The staging buffer whole is its two slots, and back. -/
theorem buf_split :
    iprop(∃ f : Buf (Elt F) ((c : Thread nD τ).loc cc0_scratch7), ((c : Thread nD τ).loc cc0_scratch7) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch7) T2 T2_disjoint T2_cover f).trans (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
omit [FloatOps F] in
theorem buf_join (f0 f1) : iprop(slotP c 0 f0 ∗ slotP c 1 f1)
      ⊢ (iprop(∃ f : Buf (Elt F) ((c : Thread nD τ).loc cc0_scratch7), ((c : Thread nD τ).loc cc0_scratch7) ↦{fullShare} f) : sProp 𝕄) := by
  iintro ⟨H0, H1⟩
  iapply (Ring.pointsTo_blocks_join_exists (ℓ := (c : Thread nD τ).loc cc0_scratch7) T2 T2_disjoint T2_cover f0)
  irw [bigSep_fin2]
  isplitl [H0]
  · iexists f0; iapply (entails_of_eq (slotP_eq c 0 f0)); iexact H0
  · iexists f1; iapply (entails_of_eq (slotP_eq c 1 f1)); iexact H1

theorem role_0 : role c D W O 0 = idle (F := F) c 0 := by unfold role; rw [if_pos (by decide)]; rfl
theorem role_1 : role c D W O (0 + 1) = idle (F := F) c 1 := by unfold role; rw [if_pos (by decide)]; rfl
theorem role_8 : role c D W O 8 = fly (F := F) c D W O 0 6 := by unfold role; rw [if_neg (by decide)]; rfl
theorem role_9 : role c D W O (8 + 1) = fly (F := F) c D W O 1 7 := by unfold role; rw [if_neg (by decide)]; rfl

attribute [local irreducible] todo done role

variable (i : grid0.Coords)
  (arg1 : Memref sig .tc .vmem S2048x128 .bf16) (harg1 : arg1.IsWhole) (arg2 : Memref sig .tc .vmem S2048x128 .bf16) (harg2 : arg2.IsWhole) (arg3 : Memref sig .tc .vmem S2560x128 .bf16) (harg3 : arg3.IsWhole) (arg4 : Memref sig .tc .vmem S2560x128 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S2560x2048 .bf16) (harg7 : arg7.IsWhole) (arg8 : Memref sig .tc .vmem S2560x256 .f32) (harg8 : arg8.IsWhole) (arg10 : Memref sig .tc .vmem S2048x2560 .f32) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x256 .bf16) (harg14 : arg14.IsWhole) (arg15 : Memref sig .tc .vmem S2560x256 .bf16) (harg15 : arg15.IsWhole) (arg16 : Memref sig .tc .vmem S2560x256 .bf16) (harg16 : arg16.IsWhole)

/-- The last point. -/
theorem run4  (h1 : ¬ k0_cond1 i = 1#1) (h2 : ¬ k0_cond2 i = 1#1) (h3 : ¬ k0_cond3 i = 1#1) (h4 : k0_cond4 i = 1#1)
    (X7 : BufTy.Contents (Elt F) arg7.view.ty) (X10 : BufTy.Contents (Elt F) arg10.view.ty) (X11 : BufTy.Contents (Elt F) arg11.view.ty) (X13 : BufTy.Contents (Elt F) arg13.view.ty) (X15 : BufTy.Contents (Elt F) arg15.view.ty) (g : Buf (Elt F) ((c : Thread nD τ).loc main_v0_1)) (K : PUnit → sProp 𝕄) :
    iprop((arg7.view.loc (c : Thread nD τ) ↦[arg7.view.set]{fullShare} X7) ∗ (arg10.view.loc (c : Thread nD τ) ↦[arg10.view.set]{fullShare} X10) ∗ (arg11.view.loc (c : Thread nD τ) ↦[arg11.view.set]{fullShare} X11) ∗ (arg13.view.loc (c : Thread nD τ) ↦[arg13.view.set]{fullShare} X13) ∗ (arg15.view.loc (c : Thread nD τ) ↦[arg15.view.set]{fullShare} X15) ∗ (∃ f8, (arg8.view.loc (c : Thread nD τ) ↦[arg8.view.set]{fullShare} f8) ) ∗ (∃ W, owes (c : Thread nD τ) 0 W)
        ∗ (((c : Thread nD τ).loc main_v0_1) ↦{fullShare} g) ∗ (∃ f : Buf (Elt F) ((c : Thread nD τ).loc cc0_scratch7), ((c : Thread nD τ).loc cc0_scratch7) ↦{fullShare} f) ∗ cellP (F := F) c 0 ∗ cellP (F := F) c 1
      ∗ (iprop((arg7.view.loc (c : Thread nD τ) ↦[arg7.view.set]{fullShare} X7) ∗ (arg10.view.loc (c : Thread nD τ) ↦[arg10.view.set]{fullShare} X10) ∗ (arg11.view.loc (c : Thread nD τ) ↦[arg11.view.set]{fullShare} X11) ∗ (arg13.view.loc (c : Thread nD τ) ↦[arg13.view.set]{fullShare} X13) ∗ (arg15.view.loc (c : Thread nD τ) ↦[arg15.view.set]{fullShare} X15) ∗ (∃ f8, (arg8.view.loc (c : Thread nD τ) ↦[arg8.view.set]{fullShare} f8) ∗ ⌜arg8.view.read (Elt F) f8 = dwN (arg7.view.read (Elt F) X7) (arg13.view.read (Elt F) X13)⌝) ∗ (∃ W, owes (c : Thread nD τ) 0 W)
        ∗ (((c : Thread nD τ).loc main_v0_1) ↦{fullShare} dxAll (arg11.view.read (Elt F) X11) (arg15.view.read (Elt F) X15) (arg10.view.read (Elt F) X10) ) ∗ (∃ f : Buf (Elt F) ((c : Thread nD τ).loc cc0_scratch7), ((c : Thread nD τ).loc cc0_scratch7) ↦{fullShare} f) ∗ cellP (F := F) c 0 ∗ cellP (F := F) c 1) -∗ K ⟨⟩))
      ⊢ wp frame (wpE (defs₀ (F := F)) 𝒱₀ (c : Thread nD τ) none) Set.univ (cc0_dx_dw i arg1 harg1 arg2 harg2 arg3 harg3 arg4 harg4 arg5 harg5 arg6 harg6 arg7 harg7 arg8 harg8 dxM (Memref.isWhole_whole _) arg10 harg10 arg11 harg11 arg12 harg12 arg13 harg13 arg14 harg14 arg15 harg15 arg16 harg16 bufM (Memref.isWhole_whole _) cc0_scratch8) K := by
  simp only [cc0_dx_dw_eq_skeleton]; unfold cc0_dx_dw_skel
  iintro ⟨H7, H10, H11, H13, H15, ⟨%f8, H8⟩, ⟨%W, HW⟩, Hx, Hb, Hc0, Hc1, Hk⟩
  have z8 : Upto (320 * 0) (dwN (arg7.view.read (Elt F) X7) (arg13.view.read (Elt F) X13)) (arg8.view.read (Elt F) f8) := Upto.zero _ _
  ihave Ht := (entails_of_eq (dx_split c g)) $$ Hx
  ihave Hb2 := (buf_split c) $$ Hb
  icases Hb2 with ⟨⟨%b0, Hs0⟩, ⟨%b1, Hs1⟩⟩
  ihave Hd := (entails_of_eq (done_low c (arg11.view.read (Elt F) X11) (arg15.view.read (Elt F) X15) (arg10.view.read (Elt F) X10) 0 (by decide)).symm) $$ []
  · iempintro
  ihave Hr0 := (entails_of_eq (role_0 c (arg11.view.read (Elt F) X11) (arg15.view.read (Elt F) X15) (arg10.view.read (Elt F) X10) ).symm) $$ [Hs0 Hc0]
  · unfold idle; iexists b0; isplitl [Hs0]; · iexact Hs0
    iexact Hc0
  ihave Hr1 := (entails_of_eq (role_1 c (arg11.view.read (Elt F) X11) (arg15.view.read (Elt F) X15) (arg10.view.read (Elt F) X10) ).symm) $$ [Hs1 Hc1]
  · unfold idle; iexists b1; isplitl [Hs1]; · iexact Hs1
    iexact Hc1
  letI L := loopInv4 (F := F) c i arg1 harg1 arg2 harg2 arg3 harg3 arg4 harg4 arg5 harg5 arg6 harg6 arg7 harg7 arg8 harg8 arg10 harg10 arg11 harg11 arg12 harg12 arg13 harg13 arg14 harg14 arg15 harg15 arg16 harg16 h4 X7 X10 X11 X13 X15 g
  sl_exec
  rw [show Scf.trips k0_t4_loop.lb k0_t4_loop.ub k0_t4_loop.st = 8 from trips4]
  ihave Hf0 := (entails_of_eq (role_8 c (arg11.view.read (Elt F) X11) (arg15.view.read (Elt F) X15) (arg10.view.read (Elt F) X10) )) $$ Hr0
  ihave Hf1 := (entails_of_eq (role_9 c (arg11.view.read (Elt F) X11) (arg15.view.read (Elt F) X15) (arg10.view.read (Elt F) X10) )) $$ Hr1
  unfold fly
  icases Hf0 with ⟨%X0, %Y0, %hY0, Hf0⟩
  icases Hf1 with ⟨%X1, %Y1, %hY1, Hf1⟩
  sl_exec
  sl_step
  iapply Hk
  isplitl [H7]; · iexact H7
  isplitl [H10]; · iexact H10
  isplitl [H11]; · iexact H11
  isplitl [H13]; · iexact H13
  isplitl [H15]; · iexact H15
  isplitl [H8]
  · iexists _; isplitl [H8]; · iexact H8
    ipureintro; exact Upto.all (by assumption) (by decide)
  isplitl [HW]; · iexists _; iexact HW
  isplitl [Hd Hf0_dst Hf1_dst]
  · iapply (dx_join c (arg11.view.read (Elt F) X11) (arg15.view.read (Elt F) X15) (arg10.view.read (Elt F) X10) )
    irw [done_step c (arg11.view.read (Elt F) X11) (arg15.view.read (Elt F) X15) (arg10.view.read (Elt F) X10) 9 (by decide) (by decide)]
    irw [done_step c (arg11.view.read (Elt F) X11) (arg15.view.read (Elt F) X15) (arg10.view.read (Elt F) X10) 8 (by decide) (by decide)]
    isplitl [Hf1_dst]
    · unfold doneP; iexists Y1; isplitr; · ipureintro; exact hY1
      iexact Hf1_dst
    isplitl [Hf0_dst]
    · unfold doneP; iexists Y0; isplitr; · ipureintro; exact hY0
      iexact Hf0_dst
    iexact Hd
  isplitl [Hf0_src Hf1_src]
  · iapply (buf_join c X0 X1)
    isplitl [Hf0_src]; · iexact Hf0_src
    iexact Hf1_src
  isplitl [Hf0]; · iexact Hf0
  iexact Hf1

end Pieces

end Cert.Proof.KernelIdeal
-- ==== Proof.KernelIdeal.Run.lean ====
/- The run of the whole call: what stands between two grid points, the body at each point, the launch. dx is left in its
   array by the last point, dw block by block by the pipeline. -/
module

public import proofs.«01_k».proof.Proof.KernelIdeal.Body
public import proofs.«01_k».proof.Proof.KernelIdeal.Final
public import proofs.«01_k».proof.Proof.Gen.KernelIdeal.Frame
public import Idealize.ShloMosaic.Lib.Pipeline.FrameValue

@[expose] public section

set_option maxRecDepth 8192
set_option maxHeartbeats 4000000

noncomputable section

namespace Cert.Proof.KernelIdeal

open Cert.KernelIdeal Cert.KernelIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
local notation "𝕄" => MT nD τ sig Unit (Elt F) ℕ (UU nD τ) ℕ

variable (m : (ℓ : Loc nD τ sig) → Buf (Elt F) ℓ) (ρ : Dev nD → PrngReg)

/-! ## The operands chunk by chunk, the running sum, the results -/

/-- The grid point numbered `n`. -/
def tp (n : ℕ) : Fin cfg0.N := ⟨n % 28, by rw [show cfg0.N = 28 from N_0]; exact Nat.mod_lt _ (by decide)⟩
theorem tp_val (t : Fin cfg0.N) : tp t.val = t :=
  Fin.ext (Nat.mod_eq_of_lt (Nat.lt_of_lt_of_eq t.isLt N_0))

/-- Chunk `n` of dy, of w, of dy by token. -/
def Dn (c : Dev nD) (n : ℕ) : S2048x256.Idx → Elt F .bf16 := cat (iblk m c 0 (tp n)) (iblk m c 1 (tp n))
def Wn (c : Dev nD) (n : ℕ) : S2560x256.Idx → Elt F .bf16 := cat (iblk m c 2 (tp n)) (iblk m c 3 (tp n))
def Tn (c : Dev nD) (n : ℕ) : S2048x256.Idx → Elt F .bf16 := lace (iblk m c 4 (tp n)) (iblk m c 5 (tp n))
/-- The accumulator after `n` chunks. -/
def An (c : Dev nD) : ℕ → S2048x2560.Idx → Elt F .f32
  | 0 => fun _ => Scalar.ofBits (F := F) .f32 0x00000000#32
  | n + 1 => accN (Dn m c n) (Wn m c n) (An c n)
/-- The result dx. -/
def dxG (c : Dev nD) : S2048x2560.Idx → Elt F .bf16 := dxAll (Dn m c 26) (Wn m c 26) (An m c 26)
/-- The block of dw that point `t` computes. -/
def dwO (c : Dev nD) (t : Fin cfg0.N) : S2560x256.Idx → Elt F .f32 := dwN (iblk m c 6 t) (Tn m c (t.val - 1))
theorem An_succ (c : Dev nD) (n : ℕ) (h : 1 ≤ n) : An m c n = accN (Dn m c (n - 1)) (Wn m c (n - 1)) (An m c (n - 1)) := by
  obtain ⟨k, rfl⟩ : ∃ k, n = k + 1 := ⟨n - 1, by omega⟩
  rfl

/-! ## Between two points -/

/-- A whole scratch buffer at contents satisfying `P`. -/
def held (c : Dev nD) {S : Shape} {e : EltTy} (M : Memref sig .tc .vmem S e) (P : (S.Idx → Elt F e) → Prop) : sProp 𝕄 :=
  iprop(∃ f, (M.view.loc (c : Thread nD τ) ↦[M.view.set]{fullShare} f) ∗ ⌜P (M.view.read (Elt F) f)⌝)

abbrev s10 : Memref sig .tc .vmem S2048x2560 .f32 := Memref.whole cc0_scratch0
abbrev s11 : Memref sig .tc .vmem S2048x256 .bf16 := Memref.whole cc0_scratch1
abbrev s12 : Memref sig .tc .vmem S2048x256 .bf16 := Memref.whole cc0_scratch2
abbrev s13 : Memref sig .tc .vmem S2048x256 .bf16 := Memref.whole cc0_scratch3
abbrev s14 : Memref sig .tc .vmem S2048x256 .bf16 := Memref.whole cc0_scratch4
abbrev s15 : Memref sig .tc .vmem S2560x256 .bf16 := Memref.whole cc0_scratch5
abbrev s16 : Memref sig .tc .vmem S2560x256 .bf16 := Memref.whole cc0_scratch6

def xAt (c : Dev nD) (n : ℕ) : Buf (Elt F) ((c : Thread nD τ).loc main_v0_1) := if n = 28 then dxG m c else V m c main_v0_1

/-- Before point `n`: the accumulator holds the chunks before `n - 1`, the buffers filled at point `n - 1` its chunk, the
    staging buffer and its semaphores are free, dx is as found until all is done. -/
def Φn (c : Dev nD) (n : ℕ) : sProp 𝕄 :=
  iprop(held c s10 (fun f => 1 ≤ n → n ≤ 27 → f = An m c (n - 1))
    ∗ held c s11 (fun f => n % 2 = 1 → f = Dn m c (n - 1)) ∗ held c s13 (fun f => n % 2 = 1 → f = Tn m c (n - 1)) ∗ held c s15 (fun f => n % 2 = 1 → f = Wn m c (n - 1))
    ∗ held c s12 (fun f => n % 2 = 0 → 1 ≤ n → n ≤ 27 → f = Dn m c (n - 1)) ∗ held c s14 (fun f => n % 2 = 0 → 1 ≤ n → n ≤ 27 → f = Tn m c (n - 1)) ∗ held c s16 (fun f => n % 2 = 0 → 1 ≤ n → n ≤ 27 → f = Wn m c (n - 1))
    ∗ (∃ f : Buf (Elt F) ((c : Thread nD τ).loc cc0_scratch7), ((c : Thread nD τ).loc cc0_scratch7) ↦{fullShare} f)
    ∗ cellP (F := F) c 0 ∗ cellP (F := F) c 1 ∗ (∃ r, prngReg c r)
    ∗ (((c : Thread nD τ).loc main_v0_1) ↦{fullShare} xAt m c n))

/-- The proof data of the call. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dwO m c t
    | ⟨_ + 8, h⟩ => absurd h (Nat.not_lt.2 (Nat.le_add_left _ _))
  Φ t := Φn m c t.val
  q _ := fullShare
  owed _ := 0

theorem A_eq (c : Dev nD) (w : Fin cfg0.W) : (dats m 0 c).A w = V m c (Pipeline.arrRef spec0 w) := rfl

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl
theorem before_4 (c : Dev nD) (t : Fin cfg0.N) (d) : (dats m 0 c).before 4 t d = iblk m c 4 t :=
  ((dats m 0 c).before_in_eq_fetched 4 rfl (fun _ => rfl) (fun _ _ _ => rfl) (fun _ => rfl) t d).trans rfl
theorem before_5 (c : Dev nD) (t : Fin cfg0.N) (d) : (dats m 0 c).before 5 t d = iblk m c 5 t :=
  ((dats m 0 c).before_in_eq_fetched 5 rfl (fun _ => rfl) (fun _ _ _ => rfl) (fun _ => rfl) t d).trans rfl
theorem before_6 (c : Dev nD) (t : Fin cfg0.N) (d) : (dats m 0 c).before 6 t d = iblk m c 6 t :=
  ((dats m 0 c).before_in_eq_fetched 6 rfl (fun _ => rfl) (fun _ _ _ => rfl) (fun _ => rfl) t d).trans rfl

/-! ## The body at each point -/

theorem cond1_iff : ∀ t : Fin cfg0.N, k0_cond1 (grid0.coords t) = 1#1 ↔ t.val = 0 := by decide +kernel
theorem cond2_iff : ∀ t : Fin cfg0.N, k0_cond2 (grid0.coords t) = 1#1 ↔ t.val % 2 = 1 ∧ t.val < 27 := by decide +kernel
theorem cond3_iff : ∀ t : Fin cfg0.N, k0_cond3 (grid0.coords t) = 1#1 ↔ t.val % 2 = 0 ∧ 0 < t.val := by decide +kernel
theorem cond4_iff : ∀ t : Fin cfg0.N, k0_cond4 (grid0.coords t) = 1#1 ↔ t.val = 27 := by decide +kernel
theorem idle7_iff : ∀ t : Fin cfg0.N, cfg0.idle 7 (cfg0.grid.coords t) = true ↔ t.val = 0 := by decide +kernel
theorem flush7_iff : ∀ t : Fin cfg0.N, (cfg0.win 7).flush t = true ↔ t.val ≠ 0 := by decide +kernel

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
/-- What the body leaves, the dw block's buffer apart. -/
def bodyPost (c : Dev nD) (t : Fin cfg0.N) (P : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ P)

theorem sound_first (c : Dev nD) (t : Fin cfg0.N) (ht : t.val = 0) :
    bodyPre m c t ⊢ wp frame (wpE (defs₀ (F := F)) 𝒱₀ c none) Set.univ (bodyAt0 t) (fun _ => bodyPost m c t iprop(∃ d, owns (c : Thread nD τ) (st0_7 t) fullShare ((dats m 0 c).before 7 t d))) := by
  have hN : t.val < 28 := Nat.lt_of_lt_of_eq t.isLt N_0
  have e : t.castSucc.val = t.val := rfl
  have e' : t.succ.val = t.val + 1 := rfl
  have tv := tp_val t
  unfold bodyPre bodyPost bodyAt0
  rw [show (dats m 0 c).Φ t.castSucc = Φn m c t.val from rfl, show (dats m 0 c).Φ t.succ = Φn m c (t.val + 1) from rfl]
  unfold Dat.owesAt Pipeline.owesWithin
  rw [show (dats m 0 c).owed t.castSucc = 0 from rfl, show (dats m 0 c).owed t.succ = 0 from rfl]
  simp only [before_0, before_1, before_2, before_3, before_4, before_5, before_6]

  unfold Φn held owns
  iintro ⟨⟨⟨%f10, H10, %p10⟩, ⟨%f11, H11, %p11⟩, ⟨%f13, H13, %p13⟩, ⟨%f15, H15, %p15⟩, ⟨%f12, H12, %p12⟩, ⟨%f14, H14, %p14⟩, ⟨%f16, H16, %p16⟩, Hs, Hc0, Hc1, Hg, Hx⟩, ⟨%W, -, HW⟩, ⟨%d0, %X1, %x1, H1⟩, ⟨%d1, %X2, %x2, H2⟩, ⟨%d2, %X3, %x3, H3⟩, ⟨%d3, %X4, %x4, H4⟩, ⟨%d4, %X5, %x5, H5⟩, ⟨%d5, %X6, %x6, H6⟩, ⟨%d6, %X7, %x7, H7⟩, ⟨%d7, %X8, %x8, H8⟩⟩
  iapply (run1 c (grid0.coords t) _ _ _ _ _ _ _ _ _ _ _ _ _ _ _ _ _ _ _ _ _ _ _ _ _ _ _ _ _ _ _ _ _ _ _ ((cond1_iff t).2 ht) (fun h => by have := (cond2_iff t).1 h; omega) (fun h => by have := (cond3_iff t).1 h; omega) (fun h => by have := (cond4_iff t).1 h; omega) X1 X2 X3 X4 X5 X6 _)
  isplitl [H1]; · iexact H1
  isplitl [H2]; · iexact H2
  isplitl [H3]; · iexact H3
  isplitl [H4]; · iexact H4
  isplitl [H5]; · iexact H5
  isplitl [H6]; · iexact H6
  isplitl [H10]; · iexists _; iexact H10
  isplitl [H11]; · iexists _; iexact H11
  isplitl [H13]; · iexists _; iexact H13
  isplitl [H15]; · iexists _; iexact H15
  iintro ⟨H1, H2, H3, H4, H5, H6, ⟨%g10, H10, %q10⟩, ⟨%g11, H11, %q11⟩, ⟨%g13, H13, %q13⟩, ⟨%g15, H15, %q15⟩⟩
  isplitl [H10 H11 H13 H15 H12 H14 H16 Hs Hc0 Hc1 Hg Hx]
  · isplitl [H10]
    · iexists _; isplitl [H10]; · iexact H10
      ipureintro; intro _; intros; rw [q10, Nat.add_sub_cancel, ht]; rfl
    isplitl [H11]
    · iexists _; isplitl [H11]; · iexact H11
      ipureintro; intro _; intros; rw [q11, x1, x2, Nat.add_sub_cancel]; unfold Dn; rw [tv]
    isplitl [H13]
    · iexists _; isplitl [H13]; · iexact H13
      ipureintro; intro _; intros; rw [q13, x5, x6, Nat.add_sub_cancel]; unfold Tn; rw [tv]
    isplitl [H15]
    · iexists _; isplitl [H15]; · iexact H15
      ipureintro; intro _; intros; rw [q15, x3, x4, Nat.add_sub_cancel]; unfold Wn; rw [tv]
    isplitl [H12]
    · iexists _; isplitl [H12]; · iexact H12
      ipureintro; intro _; intros; exfalso; omega
    isplitl [H14]
    · iexists _; isplitl [H14]; · iexact H14
      ipureintro; intro _; intros; exfalso; omega
    isplitl [H16]
    · iexists _; isplitl [H16]; · iexact H16
      ipureintro; intro _; intros; exfalso; omega
    isplitl [Hs]; · iexact Hs
    isplitl [Hc0]; · iexact Hc0
    isplitl [Hc1]; · iexact Hc1
    isplitl [Hg]; · iexact Hg
    irw [show xAt m c (t.val + 1) = xAt m c t.val from (if_neg (by omega)).trans (if_neg (by omega)).symm]
    iexact Hx
  isplitl [HW]
  · iexists W; isplitr; · ipureintro; exact fun _ _ => Or.inl trivial
    iexact HW
  isplitl [H1]
  · iexists X1; isplitr; · ipureintro; exact x1
    iexact H1
  isplitl [H2]
  · iexists X2; isplitr; · ipureintro; exact x2
    iexact H2
  isplitl [H3]
  · iexists X3; isplitr; · ipureintro; exact x3
    iexact H3
  isplitl [H4]
  · iexists X4; isplitr; · ipureintro; exact x4
    iexact H4
  isplitl [H5]
  · iexists X5; isplitr; · ipureintro; exact x5
    iexact H5
  isplitl [H6]
  · iexists X6; isplitr; · ipureintro; exact x6
    iexact H6
  isplitl [H7]
  · iexists X7; isplitr; · ipureintro; exact x7
    iexact H7
  iexists d7; iexists X8; isplitr; · ipureintro; exact x8
  iexact H8

theorem sound_odd (c : Dev nD) (t : Fin cfg0.N) (ht : t.val % 2 = 1 ∧ t.val < 27) :
    bodyPre m c t ⊢ wp frame (wpE (defs₀ (F := F)) 𝒱₀ c none) Set.univ (bodyAt0 t) (fun _ => bodyPost m c t (owns (c : Thread nD τ) (st0_7 t) fullShare ((dats m 0 c).after 7 t))) := by
  have hN : t.val < 28 := Nat.lt_of_lt_of_eq t.isLt N_0
  have e : t.castSucc.val = t.val := rfl
  have e' : t.succ.val = t.val + 1 := rfl
  have tv := tp_val t
  unfold bodyPre bodyPost bodyAt0
  rw [show (dats m 0 c).Φ t.castSucc = Φn m c t.val from rfl, show (dats m 0 c).Φ t.succ = Φn m c (t.val + 1) from rfl]
  unfold Dat.owesAt Pipeline.owesWithin
  rw [show (dats m 0 c).owed t.castSucc = 0 from rfl, show (dats m 0 c).owed t.succ = 0 from rfl]
  simp only [before_0, before_1, before_2, before_3, before_4, before_5, before_6]

  unfold Φn held owns
  iintro ⟨⟨⟨%f10, H10, %p10⟩, ⟨%f11, H11, %p11⟩, ⟨%f13, H13, %p13⟩, ⟨%f15, H15, %p15⟩, ⟨%f12, H12, %p12⟩, ⟨%f14, H14, %p14⟩, ⟨%f16, H16, %p16⟩, Hs, Hc0, Hc1, Hg, Hx⟩, ⟨%W, -, HW⟩, ⟨%d0, %X1, %x1, H1⟩, ⟨%d1, %X2, %x2, H2⟩, ⟨%d2, %X3, %x3, H3⟩, ⟨%d3, %X4, %x4, H4⟩, ⟨%d4, %X5, %x5, H5⟩, ⟨%d5, %X6, %x6, H6⟩, ⟨%d6, %X7, %x7, H7⟩, ⟨%d7, %X8, %x8, H8⟩⟩
  iapply (run2 c (grid0.coords t) _ _ _ _ _ _ _ _ _ _ _ _ _ _ _ _ _ _ _ _ _ _ _ _ _ _ _ _ _ _ _ _ _ _ _ (fun h => by have := (cond1_iff t).1 h; omega) ((cond2_iff t).2 ht) (fun h => by have := (cond3_iff t).1 h; omega) (fun h => by have := (cond4_iff t).1 h; omega) X1 X2 X3 X4 X5 X6 X7 f11 f13 f15 f10 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H11]; · iexact H11
  isplitl [H13]; · iexact H13
  isplitl [H15]; · iexact H15
  isplitl [H8]; · iexists _; iexact H8
  isplitl [H10]; · iexact H10
  isplitl [H12]; · iexists _; iexact H12
  isplitl [H14]; · iexists _; iexact H14
  isplitl [H16]; · iexists _; iexact H16
  iintro ⟨H1, H2, H3, H4, H5, H6, H7, H11, H13, H15, ⟨%g8, H8, %q8⟩, ⟨%g10, H10, %q10⟩, ⟨%g12, H12, %q12⟩, ⟨%g14, H14, %q14⟩, ⟨%g16, H16, %q16⟩⟩
  isplitl [H10 H11 H13 H15 H12 H14 H16 Hs Hc0 Hc1 Hg Hx]
  · isplitl [H10]
    · iexists _; isplitl [H10]; · iexact H10
      ipureintro; intro _; intros; rw [q10, (p11 (by omega)), (p15 (by omega)), p10 (by omega) (by omega), Nat.add_sub_cancel]; exact (An_succ m c t.val (by omega)).symm
    isplitl [H11]
    · iexists _; isplitl [H11]; · iexact H11
      ipureintro; intro _; intros; exfalso; omega
    isplitl [H13]
    · iexists _; isplitl [H13]; · iexact H13
      ipureintro; intro _; intros; exfalso; omega
    isplitl [H15]
    · iexists _; isplitl [H15]; · iexact H15
      ipureintro; intro _; intros; exfalso; omega
    isplitl [H12]
    · iexists _; isplitl [H12]; · iexact H12
      ipureintro; intro _; intros; rw [q12, x1, x2, Nat.add_sub_cancel]; unfold Dn; rw [tv]
    isplitl [H14]
    · iexists _; isplitl [H14]; · iexact H14
      ipureintro; intro _; intros; rw [q14, x5, x6, Nat.add_sub_cancel]; unfold Tn; rw [tv]
    isplitl [H16]
    · iexists _; isplitl [H16]; · iexact H16
      ipureintro; intro _; intros; rw [q16, x3, x4, Nat.add_sub_cancel]; unfold Wn; rw [tv]
    isplitl [Hs]; · iexact Hs
    isplitl [Hc0]; · iexact Hc0
    isplitl [Hc1]; · iexact Hc1
    isplitl [Hg]; · iexact Hg
    irw [show xAt m c (t.val + 1) = xAt m c t.val from (if_neg (by omega)).trans (if_neg (by omega)).symm]
    iexact Hx
  isplitl [HW]
  · iexists W; isplitr; · ipureintro; exact fun _ _ => Or.inl trivial
    iexact HW
  isplitl [H1]
  · iexists X1; isplitr; · ipureintro; exact x1
    iexact H1
  isplitl [H2]
  · iexists X2; isplitr; · ipureintro; exact x2
    iexact H2
  isplitl [H3]
  · iexists X3; isplitr; · ipureintro; exact x3
    iexact H3
  isplitl [H4]
  · iexists X4; isplitr; · ipureintro; exact x4
    iexact H4
  isplitl [H5]
  · iexists X5; isplitr; · ipureintro; exact x5
    iexact H5
  isplitl [H6]
  · iexists X6; isplitr; · ipureintro; exact x6
    iexact H6
  isplitl [H7]
  · iexists X7; isplitr; · ipureintro; exact x7
    iexact H7
  iexists g8; isplitr; rotate_left; · iexact H8
  ipureintro; refine q8.trans ?_; rw [x7, p13 (by omega)]; rfl

theorem sound_even (c : Dev nD) (t : Fin cfg0.N) (ht : t.val % 2 = 0 ∧ 0 < t.val) :
    bodyPre m c t ⊢ wp frame (wpE (defs₀ (F := F)) 𝒱₀ c none) Set.univ (bodyAt0 t) (fun _ => bodyPost m c t (owns (c : Thread nD τ) (st0_7 t) fullShare ((dats m 0 c).after 7 t))) := by
  have hN : t.val < 28 := Nat.lt_of_lt_of_eq t.isLt N_0
  have e : t.castSucc.val = t.val := rfl
  have e' : t.succ.val = t.val + 1 := rfl
  have tv := tp_val t
  unfold bodyPre bodyPost bodyAt0
  rw [show (dats m 0 c).Φ t.castSucc = Φn m c t.val from rfl, show (dats m 0 c).Φ t.succ = Φn m c (t.val + 1) from rfl]
  unfold Dat.owesAt Pipeline.owesWithin
  rw [show (dats m 0 c).owed t.castSucc = 0 from rfl, show (dats m 0 c).owed t.succ = 0 from rfl]
  simp only [before_0, before_1, before_2, before_3, before_4, before_5, before_6]

  unfold Φn held owns
  iintro ⟨⟨⟨%f10, H10, %p10⟩, ⟨%f11, H11, %p11⟩, ⟨%f13, H13, %p13⟩, ⟨%f15, H15, %p15⟩, ⟨%f12, H12, %p12⟩, ⟨%f14, H14, %p14⟩, ⟨%f16, H16, %p16⟩, Hs, Hc0, Hc1, Hg, Hx⟩, ⟨%W, -, HW⟩, ⟨%d0, %X1, %x1, H1⟩, ⟨%d1, %X2, %x2, H2⟩, ⟨%d2, %X3, %x3, H3⟩, ⟨%d3, %X4, %x4, H4⟩, ⟨%d4, %X5, %x5, H5⟩, ⟨%d5, %X6, %x6, H6⟩, ⟨%d6, %X7, %x7, H7⟩, ⟨%d7, %X8, %x8, H8⟩⟩
  iapply (run3 c (grid0.coords t) _ _ _ _ _ _ _ _ _ _ _ _ _ _ _ _ _ _ _ _ _ _ _ _ _ _ _ _ _ _ _ _ _ _ _ (fun h => by have := (cond1_iff t).1 h; omega) (fun h => by have := (cond2_iff t).1 h; omega) ((cond3_iff t).2 ht) (fun h => by have := (cond4_iff t).1 h; omega) X1 X2 X3 X4 X5 X6 X7 f12 f14 f16 f10 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H12]; · iexact H12
  isplitl [H14]; · iexact H14
  isplitl [H16]; · iexact H16
  isplitl [H8]; · iexists _; iexact H8
  isplitl [H10]; · iexact H10
  isplitl [H11]; · iexists _; iexact H11
  isplitl [H13]; · iexists _; iexact H13
  isplitl [H15]; · iexists _; iexact H15
  iintro ⟨H1, H2, H3, H4, H5, H6, H7, H12, H14, H16, ⟨%g8, H8, %q8⟩, ⟨%g10, H10, %q10⟩, ⟨%g11, H11, %q11⟩, ⟨%g13, H13, %q13⟩, ⟨%g15, H15, %q15⟩⟩
  isplitl [H10 H11 H13 H15 H12 H14 H16 Hs Hc0 Hc1 Hg Hx]
  · isplitl [H10]
    · iexists _; isplitl [H10]; · iexact H10
      ipureintro; intro _; intros; rw [q10, (p12 (by omega) (by omega) (by omega)), (p16 (by omega) (by omega) (by omega)), p10 (by omega) (by omega), Nat.add_sub_cancel]; exact (An_succ m c t.val (by omega)).symm
    isplitl [H11]
    · iexists _; isplitl [H11]; · iexact H11
      ipureintro; intro _; intros; rw [q11, x1, x2, Nat.add_sub_cancel]; unfold Dn; rw [tv]
    isplitl [H13]
    · iexists _; isplitl [H13]; · iexact H13
      ipureintro; intro _; intros; rw [q13, x5, x6, Nat.add_sub_cancel]; unfold Tn; rw [tv]
    isplitl [H15]
    · iexists _; isplitl [H15]; · iexact H15
      ipureintro; intro _; intros; rw [q15, x3, x4, Nat.add_sub_cancel]; unfold Wn; rw [tv]
    isplitl [H12]
    · iexists _; isplitl [H12]; · iexact H12
      ipureintro; intro _; intros; exfalso; omega
    isplitl [H14]
    · iexists _; isplitl [H14]; · iexact H14
      ipureintro; intro _; intros; exfalso; omega
    isplitl [H16]
    · iexists _; isplitl [H16]; · iexact H16
      ipureintro; intro _; intros; exfalso; omega
    isplitl [Hs]; · iexact Hs
    isplitl [Hc0]; · iexact Hc0
    isplitl [Hc1]; · iexact Hc1
    isplitl [Hg]; · iexact Hg
    irw [show xAt m c (t.val + 1) = xAt m c t.val from (if_neg (by omega)).trans (if_neg (by omega)).symm]
    iexact Hx
  isplitl [HW]
  · iexists W; isplitr; · ipureintro; exact fun _ _ => Or.inl trivial
    iexact HW
  isplitl [H1]
  · iexists X1; isplitr; · ipureintro; exact x1
    iexact H1
  isplitl [H2]
  · iexists X2; isplitr; · ipureintro; exact x2
    iexact H2
  isplitl [H3]
  · iexists X3; isplitr; · ipureintro; exact x3
    iexact H3
  isplitl [H4]
  · iexists X4; isplitr; · ipureintro; exact x4
    iexact H4
  isplitl [H5]
  · iexists X5; isplitr; · ipureintro; exact x5
    iexact H5
  isplitl [H6]
  · iexists X6; isplitr; · ipureintro; exact x6
    iexact H6
  isplitl [H7]
  · iexists X7; isplitr; · ipureintro; exact x7
    iexact H7
  iexists g8; isplitr; rotate_left; · iexact H8
  ipureintro; refine q8.trans ?_; rw [x7, p14 (by omega) (by omega) (by omega)]; rfl

theorem sound_last (c : Dev nD) (t : Fin cfg0.N) (ht : t.val = 27) :
    bodyPre m c t ⊢ wp frame (wpE (defs₀ (F := F)) 𝒱₀ c none) Set.univ (bodyAt0 t) (fun _ => bodyPost m c t (owns (c : Thread nD τ) (st0_7 t) fullShare ((dats m 0 c).after 7 t))) := by
  have hN : t.val < 28 := Nat.lt_of_lt_of_eq t.isLt N_0
  have e : t.castSucc.val = t.val := rfl
  have e' : t.succ.val = t.val + 1 := rfl
  have tv := tp_val t
  unfold bodyPre bodyPost bodyAt0
  rw [show (dats m 0 c).Φ t.castSucc = Φn m c t.val from rfl, show (dats m 0 c).Φ t.succ = Φn m c (t.val + 1) from rfl]
  unfold Dat.owesAt Pipeline.owesWithin
  rw [show (dats m 0 c).owed t.castSucc = 0 from rfl, show (dats m 0 c).owed t.succ = 0 from rfl]
  simp only [before_0, before_1, before_2, before_3, before_4, before_5, before_6]

  unfold Φn held owns
  iintro ⟨⟨⟨%f10, H10, %p10⟩, ⟨%f11, H11, %p11⟩, ⟨%f13, H13, %p13⟩, ⟨%f15, H15, %p15⟩, ⟨%f12, H12, %p12⟩, ⟨%f14, H14, %p14⟩, ⟨%f16, H16, %p16⟩, Hs, Hc0, Hc1, Hg, Hx⟩, ⟨%W, -, HW⟩, ⟨%d0, %X1, %x1, H1⟩, ⟨%d1, %X2, %x2, H2⟩, ⟨%d2, %X3, %x3, H3⟩, ⟨%d3, %X4, %x4, H4⟩, ⟨%d4, %X5, %x5, H5⟩, ⟨%d5, %X6, %x6, H6⟩, ⟨%d6, %X7, %x7, H7⟩, ⟨%d7, %X8, %x8, H8⟩⟩
  iapply (run4 c (grid0.coords t) _ _ _ _ _ _ _ _ _ _ _ _ _ _ _ _ _ _ _ _ _ _ _ _ _ _ _ _ _ _ (fun h => by have := (cond1_iff t).1 h; omega) (fun h => by have := (cond2_iff t).1 h; omega) (fun h => by have := (cond3_iff t).1 h; omega) ((cond4_iff t).2 ht) X7 f10 f11 f13 f15 (xAt m c t.val) _)
  isplitl [H7]; · iexact H7
  isplitl [H10]; · iexact H10
  isplitl [H11]; · iexact H11
  isplitl [H13]; · iexact H13
  isplitl [H15]; · iexact H15
  isplitl [H8]; · iexists _; iexact H8
  isplitl [HW]; · iexists _; iexact HW
  isplitl [Hx]; · iexact Hx
  isplitl [Hs]; · iexact Hs
  isplitl [Hc0]; · iexact Hc0
  isplitl [Hc1]; · iexact Hc1
  iintro ⟨H7, H10, H11, H13, H15, ⟨%g8, H8, %q8⟩, ⟨%W', HW⟩, Hx, Hs, Hc0, Hc1⟩
  isplitl [H10 H11 H13 H15 H12 H14 H16 Hs Hc0 Hc1 Hg Hx]
  · isplitl [H10]
    · iexists _; isplitl [H10]; · iexact H10
      ipureintro; intro _; intros; exfalso; omega
    isplitl [H11]
    · iexists _; isplitl [H11]; · iexact H11
      ipureintro; intro _; intros; exfalso; omega
    isplitl [H13]
    · iexists _; isplitl [H13]; · iexact H13
      ipureintro; intro _; intros; exfalso; omega
    isplitl [H15]
    · iexists _; isplitl [H15]; · iexact H15
      ipureintro; intro _; intros; exfalso; omega
    isplitl [H12]
    · iexists _; isplitl [H12]; · iexact H12
      ipureintro; intro _; intros; exfalso; omega
    isplitl [H14]
    · iexists _; isplitl [H14]; · iexact H14
      ipureintro; intro _; intros; exfalso; omega
    isplitl [H16]
    · iexists _; isplitl [H16]; · iexact H16
      ipureintro; intro _; intros; exfalso; omega
    isplitl [Hs]; · iexact Hs
    isplitl [Hc0]; · iexact Hc0
    isplitl [Hc1]; · iexact Hc1
    isplitl [Hg]; · iexact Hg
    irw [show xAt m c (t.val + 1) = dxAll (s11.view.read (Elt F) f11) (s15.view.read (Elt F) f15) (s10.view.read (Elt F) f10) from (if_pos (by omega)).trans (by rw [p11 (by omega), p15 (by omega), p10 (by omega) (by omega), ht]; rfl)]
    iexact Hx
  isplitl [HW]
  · iexists W'; isplitr; · ipureintro; exact fun _ _ => Or.inl trivial
    iexact HW
  isplitl [H1]
  · iexists X1; isplitr; · ipureintro; exact x1
    iexact H1
  isplitl [H2]
  · iexists X2; isplitr; · ipureintro; exact x2
    iexact H2
  isplitl [H3]
  · iexists X3; isplitr; · ipureintro; exact x3
    iexact H3
  isplitl [H4]
  · iexists X4; isplitr; · ipureintro; exact x4
    iexact H4
  isplitl [H5]
  · iexists X5; isplitr; · ipureintro; exact x5
    iexact H5
  isplitl [H6]
  · iexists X6; isplitr; · ipureintro; exact x6
    iexact H6
  isplitl [H7]
  · iexists X7; isplitr; · ipureintro; exact x7
    iexact H7
  iexists g8; isplitr; rotate_left; · iexact H8
  ipureintro; refine q8.trans ?_; rw [x7, p13 (by omega)]; rfl

theorem defs₀_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligation (dats (F := F) m 0 c) (defs₀ (F := F)) 𝒱₀ () Set.univ := fun t => by
  have hN : t.val < 28 := Nat.lt_of_lt_of_eq t.isLt N_0
  rw [bigSep_W0, bigSep_W0, defs₀_row]
  by_cases h0 : t.val = 0
  · rewrite [(idle7_iff t).2 h0, show (cfg0.win 7).flush t = false from Bool.eq_false_iff.2 fun h => (flush7_iff t).1 h h0]
    exact triple_restated (sound_first m c t h0) rfl .rfl fun _ => .rfl
  rewrite [show cfg0.idle 7 (cfg0.grid.coords t) = false from Bool.eq_false_iff.2 fun h => h0 ((idle7_iff t).1 h)]
  by_cases h27 : t.val = 27
  · exact triple_restated (sound_last m c t h27) rfl .rfl fun _ => .rfl
  by_cases h2 : t.val % 2 = 1
  · exact triple_restated (sound_odd m c t ⟨h2, by omega⟩) rfl .rfl fun _ => .rfl
  · exact triple_restated (sound_even m c t ⟨by omega, by omega⟩) rfl .rfl fun _ => .rfl

/-! ## The launch -/

/-- The call's own semaphores: the two slots'. -/
abbrev osem : Fin 2 → SemLoc sig := fun s => .dma (csm s).sem
theorem ownSemFacts : Pipeline.OwnSemFacts spec0 osem := by decide

omit [FloatOps F] in
theorem ownSems_eq (c : Dev nD) :
    (Pipeline.ownSems0 (Ix := Unit) (Name := ℕ) (U := UU nD τ) (Lvl := ℕ) (Val := Elt F) (τ := τ) osem c : sProp 𝕄)
      = iprop(cellP (F := F) c 0 ∗ cellP (F := F) c 1) := by
  unfold Pipeline.ownSems0; rw [bigSep_fin2]

/-- The array the body writes itself. -/
def R0 : Finset (Ref sig .tc) := {main_v0_1}
theorem R0_sub : R0 ⊆ Pipeline.restRefs sig spec0 \ ∅ := by decide

def Gf (c : Dev nD) (b : Ref sig .tc) : Buf (Elt F) ((c : Thread nD τ).loc b) :=
  if h : b = main_v0_1 then h ▸ dxG m c else V m c b

omit [FloatOps F] in
theorem routed_eq (c : Dev nD) (W : (b : Ref sig .tc) → Buf (Elt F) ((c : Thread nD τ).loc b)) :
    (Pipeline.routed R0 c W : sProp 𝕄) = (((c : Thread nD τ).loc main_v0_1) ↦{fullShare} W main_v0_1) := by
  unfold Pipeline.routed R0; rw [bigSep_singleton]

omit [FloatOps F] in
/-- A whole scratch buffer held, in the launch's words. -/
theorem pt_whole (c : Dev nD) (b : Ref sig .tc) (f : Buf (Elt F) ((c : Thread nD τ).loc b)) :
    ((Memref.whole b).view.loc (c : Thread nD τ) ↦[(Memref.whole b).view.set]{fullShare} f : sProp 𝕄) = (((c : Thread nD τ).loc b) ↦{fullShare} f) :=
  congrArg (fun S => (((c : Thread nD τ).loc b) ↦[S]{fullShare} f : sProp 𝕄)) (View.set_whole b)

theorem Φ_in (c : Dev nD) : Pipeline.ΦDRG osem spec0 ∅ R0 (V m) (V m) c ⊢ Φn m c 0 := by
  rw [Pipeline.ΦDRG_eq, scopedRest0_eq, ownSems_eq, routed_eq]
  unfold Φn held
  iintro ⟨⟨⟨%f10, H10⟩, ⟨%f11, H11⟩, ⟨%f12, H12⟩, ⟨%f13, H13⟩, ⟨%f14, H14⟩, ⟨%f15, H15⟩, ⟨%f16, H16⟩, Hs⟩, Hg, ⟨Hc0, Hc1⟩, -, Hx⟩
  isplitl [H10]
  · iexists f10; isplitl [H10]
    · iapply (entails_of_eq (pt_whole c cc0_scratch0 f10).symm); iexact H10
    ipureintro; intro _; intros; exfalso; omega
  isplitl [H11]
  · iexists f11; isplitl [H11]
    · iapply (entails_of_eq (pt_whole c cc0_scratch1 f11).symm); iexact H11
    ipureintro; intro _; intros; exfalso; omega
  isplitl [H13]
  · iexists f13; isplitl [H13]
    · iapply (entails_of_eq (pt_whole c cc0_scratch3 f13).symm); iexact H13
    ipureintro; intro _; intros; exfalso; omega
  isplitl [H15]
  · iexists f15; isplitl [H15]
    · iapply (entails_of_eq (pt_whole c cc0_scratch5 f15).symm); iexact H15
    ipureintro; intro _; intros; exfalso; omega
  isplitl [H12]
  · iexists f12; isplitl [H12]
    · iapply (entails_of_eq (pt_whole c cc0_scratch2 f12).symm); iexact H12
    ipureintro; intro _; intros; exfalso; omega
  isplitl [H14]
  · iexists f14; isplitl [H14]
    · iapply (entails_of_eq (pt_whole c cc0_scratch4 f14).symm); iexact H14
    ipureintro; intro _; intros; exfalso; omega
  isplitl [H16]
  · iexists f16; isplitl [H16]
    · iapply (entails_of_eq (pt_whole c cc0_scratch6 f16).symm); iexact H16
    ipureintro; intro _; intros; exfalso; omega
  isplitl [Hs]; · iexact Hs
  isplitl [Hc0]; · iexact Hc0
  isplitl [Hc1]; · iexact Hc1
  isplitl [Hg]; · iexact Hg
  iexact Hx

theorem Φ_out (c : Dev nD) : Φn m c 28 ⊢ Pipeline.ΦDRG osem spec0 ∅ R0 (V m) (Gf m) c := by
  rw [Pipeline.ΦDRG_eq, scopedRest0_eq, ownSems_eq, routed_eq]
  unfold Φn held
  iintro ⟨⟨%f10, H10, -⟩, ⟨%f11, H11, -⟩, ⟨%f13, H13, -⟩, ⟨%f15, H15, -⟩, ⟨%f12, H12, -⟩, ⟨%f14, H14, -⟩, ⟨%f16, H16, -⟩, Hs, Hc0, Hc1, Hg, Hx⟩
  isplitl [H10 H11 H12 H13 H14 H15 H16 Hs]
  · isplitl [H10]; · iexists f10; iapply (entails_of_eq (pt_whole c cc0_scratch0 f10)); iexact H10
    isplitl [H11]; · iexists f11; iapply (entails_of_eq (pt_whole c cc0_scratch1 f11)); iexact H11
    isplitl [H12]; · iexists f12; iapply (entails_of_eq (pt_whole c cc0_scratch2 f12)); iexact H12
    isplitl [H13]; · iexists f13; iapply (entails_of_eq (pt_whole c cc0_scratch3 f13)); iexact H13
    isplitl [H14]; · iexists f14; iapply (entails_of_eq (pt_whole c cc0_scratch4 f14)); iexact H14
    isplitl [H15]; · iexists f15; iapply (entails_of_eq (pt_whole c cc0_scratch5 f15)); iexact H15
    isplitl [H16]; · iexists f16; iapply (entails_of_eq (pt_whole c cc0_scratch6 f16)); iexact H16
    iexact Hs
  isplitl [Hg]; · iexact Hg
  isplitl [Hc0 Hc1]
  · isplitl [Hc0]; · iexact Hc0
    iexact Hc1
  isplitr
  · iapply (entails_of_eq (show iprop(emp) = (bigSep ∅ fun b => ((c : Thread nD τ).loc b) ↦{fullShare} V m c b : sProp 𝕄) from by rw [bigSep_empty]; rfl)); iempintro
  iexact Hx

theorem hmain' : Pipeline.HMain (Ix := Unit) (Name := ℕ) (U := UU nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- The run of the program: the arrays at what the points leave, dx whole, every semaphore at zero. -/
theorem run_main : θ_run defs (onTc (τ := τ) (main (F := F))) (s₀ m ρ)
    (fun r => Pipeline.FramePostRG cfgs (dats m) 0 R0 (V m) (Gf m) r ∧ r.2.sem = fun _ => 0) :=
  Pipeline.θ_run_frame_dmaRG (Q' := _) cfgs (dats m) (0 : Fin 1) launch0 osem defs₀ 𝒱₀ ownSemFacts ∅ R0 (Finset.empty_subset _) R0_sub m ρ main
    (hbody := fun c => (body_obligation m c).loose) (hshare := fun c => (dats m 0 c).share_full fun _ => rfl)
    (howed := fun _ _ => rfl) (V := V m) (hmain := hmain' m) (hA := A_eq m) (G := Gf m)
    (hin := fun c => Φ_in m c) (hout := fun c => Φ_out m c)

/-- dw as the pipeline leaves it. -/
def dwG (c : Dev nD) : Buf (Elt F) ((c : Thread nD τ).loc main_v0_0) := (dats m 0 c).arrAt 7 cfg0.N

/-- The whole of what the run leaves: the two results, the arguments unchanged, every semaphore at zero. -/
theorem run_post : θ_run defs (onTc (τ := τ) (main (F := F))) ⟨m, fun _ => 0, ρ⟩ (fun r => (∀ c : Dev nD,
      r.2.mem ((c.tc : Thread nD τ).loc main_v0_1) = dxG m c
      ∧ r.2.mem ((c.tc : Thread nD τ).loc main_v0_0) = dwG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1.written c (b := main_v0_1) (Finset.mem_singleton_self _)).trans (by unfold Gf; rw [dif_pos rfl]), (h.1.toR c).1 7,
      ((h.1.toR c).1 0).trans (((dats m 0 c).arrAt_in 0 rfl _).trans (A_eq m c 0)),
      ((h.1.toR c).1 1).trans (((dats m 0 c).arrAt_in 1 rfl _).trans (A_eq m c 1)),
      ((h.1.toR c).1 2).trans (((dats m 0 c).arrAt_in 2 rfl _).trans (A_eq m c 2)),
      ((h.1.toR c).1 3).trans (((dats m 0 c).arrAt_in 3 rfl _).trans (A_eq m c 3)),
      ((h.1.toR c).1 4).trans (((dats m 0 c).arrAt_in 4 rfl _).trans (A_eq m c 4)),
      ((h.1.toR c).1 5).trans (((dats m 0 c).arrAt_in 5 rfl _).trans (A_eq m c 5)),
      ((h.1.toR c).1 6).trans (((dats m 0 c).arrAt_in 6 rfl _).trans (A_eq m c 6))⟩, h.2⟩) (run_main m ρ)

end Cert.Proof.KernelIdeal
-- ==== Proof.Value.lean ====
/- The two results as sums over the rows and columns of the arguments: the kernel's chunk by chunk, the reference's at once. -/
module

public import proofs.«01_k».proof.Proof.KernelIdeal.Run
public import Idealize.ShloMosaic.Lib.Pointwise
public import Idealize.ShloMosaic.Lib.Pipeline.ValueKit
public import Idealize.ShloMosaic.PureOps.Ideal.Laws

@[expose] public section

noncomputable section

namespace Cert.Proof.Value

open Idealize.ShloMosaic Cert.Rows Finset

/-- An array read at two numbers, zero outside. -/
def rd {R C : ℕ} (A : (⟨2, ![R, C]⟩ : Shape).Idx → EReal) (a b : ℕ) : EReal := if h : a < R ∧ b < C then A (ix a b h.1 h.2) else 0

theorem rd_ix {R C : ℕ} (A : (⟨2, ![R, C]⟩ : Shape).Idx → EReal) (a b : ℕ) (ha : a < R) (hb : b < C) : rd A a b = A (ix a b ha hb) :=
  dif_pos ⟨ha, hb⟩

theorem rd_of {R C : ℕ} (A : (⟨2, ![R, C]⟩ : Shape).Idx → EReal) (x : (⟨2, ![R, C]⟩ : Shape).Idx) (a b : ℕ) (ha : (x 0).val = a) (hb : (x 1).val = b) :
    A x = rd A a b := by
  subst ha hb
  exact (congrArg A (ix_self x (x 0).isLt (x 1).isLt)).symm.trans (rd_ix A _ _ _ _).symm

theorem rd_ix2 {R C : ℕ} (A : (⟨2, ![R, C]⟩ : Shape).Idx → EReal) (a : Fin R) (b : Fin C) : rd A a.val b.val = A (ix2 a b) :=
  (rd_of A (ix2 a b) a.val b.val rfl rfl).symm

/-- The factor 1/32. -/
def c32 : EReal := Ideal.ofBits .f32 0x3D000000#32

section Products
open Cert.KernelIdeal Cert.KernelIdeal.Gen

theorem pay16_at (A : S256x256.Idx → EReal) (B : S2560x256.Idx → EReal) (O : S256x2560.Idx → EReal) (x : S256x2560.Idx) :
    k0_pay16 (F := Ideal) A B O x = O x + ∑ k ∈ range 256, rd A (x 0).val k * rd B (x 1).val k := by
  rw [← Fin.sum_univ_eq_sum_range (fun k => rd A (x 0).val k * rd B (x 1).val k)]
  pointwise [k0_pay16]
  exact congrArg (O x + ·) (sum_congr rfl fun k _ => congrArg₂ (· * ·) (rd_ix2 A (x 0) k).symm (rd_ix2 B (x 1) k).symm)

theorem pay17_at (A : S320x2048.Idx → EReal) (B : S2048x256.Idx → EReal) (x : S320x256.Idx) :
    k0_pay17 (F := Ideal) A B x = (∑ k ∈ range 2048, rd A (x 0).val k * rd B k (x 1).val) * c32 := by
  rw [← Fin.sum_univ_eq_sum_range (fun k => rd A (x 0).val k * rd B k (x 1).val)]
  pointwise [k0_pay17]
  exact congrArg (· * c32) (sum_congr rfl fun k _ => congrArg₂ (· * ·) (rd_ix2 A (x 0) k).symm (rd_ix2 B k (x 1)).symm)

theorem pay38_eq (A : S256x256.Idx → EReal) (B : S2560x256.Idx → EReal) (O : S256x2560.Idx → EReal) (x : S256x2560.Idx) :
    shapeCast S256x2560 (k0_pay38 (F := Ideal) A B O) squeezes_S1x256x2560_S256x2560.numel_eq x = k0_pay16 (F := Ideal) A B O x * c32 := by
  pointwise [k0_pay38, k0_pay16]
  try rfl

end Products

/-- A sum over rows in slabs of 32, the even slabs and the odd ones apart. -/
theorem sum_slabs (g : ℕ → EReal) (P : ℕ) :
    ∑ s ∈ range (64 * P), g s = ∑ r ∈ range (32 * P), g (64 * (r / 32) + r % 32) + ∑ r ∈ range (32 * P), g (64 * (r / 32) + 32 + r % 32) := by
  induction P with
  | zero => simp
  | succ P ih =>
    have e (o : ℕ) : ∑ r ∈ range (32 * (P + 1)), g (64 * (r / 32) + o + r % 32) = ∑ r ∈ range (32 * P), g (64 * (r / 32) + o + r % 32) + ∑ x ∈ range 32, g (64 * P + o + x) := by
      rw [show 32 * (P + 1) = 32 * P + 32 by omega, sum_range_add]
      refine congrArg _ (sum_congr rfl fun x hx => ?_)
      have := mem_range.1 hx
      rw [show (32 * P + x) / 32 = P by omega, show (32 * P + x) % 32 = x by omega]
    have e0 := e 0
    simp only [Nat.add_zero] at e0
    rw [e0, e 32, show 64 * (P + 1) = 64 * P + (32 + 32) by omega, sum_range_add, sum_range_add, ih]
    simp only [Nat.add_assoc]
    abel

/-- A sum over chunks of 128 columns. -/
theorem sum_chunks (g : ℕ → EReal) (P : ℕ) : ∑ q ∈ range P, ∑ k ∈ range 128, g (128 * q + k) = ∑ k ∈ range (128 * P), g k := by
  induction P with
  | zero => simp
  | succ P ih => rw [sum_range_succ, ih, show 128 * (P + 1) = 128 * P + 128 by omega, sum_range_add]

/-! ## The operands in terms of the arguments -/

theorem rd_congr {R C : ℕ} (A B : (⟨2, ![R, C]⟩ : Shape).Idx → EReal) (a b : ℕ) (h : A = B) : rd A a b = rd B a b := by rw [h]

theorem rd_cat {R : ℕ} (A B : (⟨2, ![R, 128]⟩ : Shape).Idx → EReal) (a k : ℕ) (ha : a < R) (hk : k < 128) :
    rd (cat A B) a k = rd A a k ∧ rd (cat A B) a (128 + k) = rd B a k := by
  constructor
  · rw [rd_ix _ a k ha (by omega), rd_ix A a k ha hk]
    exact dif_pos hk
  · rw [rd_ix _ a (128 + k) ha (by omega), rd_ix B a k ha hk]
    refine (dif_neg (by show ¬ 128 + k < 128; omega)).trans (congrArg B (ix_ext _ _ rfl ?_))
    show 128 + k - 128 = k; omega

/-- A sum over the 256 columns of a chunk: the first half's and the second half's. -/
theorem sum_cat {R R' : ℕ} (A B : (⟨2, ![R, 128]⟩ : Shape).Idx → EReal) (A' B' : (⟨2, ![R', 128]⟩ : Shape).Idx → EReal) (a a' : ℕ) (ha : a < R) (ha' : a' < R') :
    ∑ k ∈ range 256, rd (cat A B) a k * rd (cat A' B') a' k
      = ∑ k ∈ range 128, rd A a k * rd A' a' k + ∑ k ∈ range 128, rd B a k * rd B' a' k := by
  refine (sum_range_add (fun k => rd (cat A B) a k * rd (cat A' B') a' k) 128 128).trans ?_
  refine congrArg₂ _ (sum_congr rfl fun k hk => ?_) (sum_congr rfl fun k hk => ?_)
  · have hk := mem_range.1 hk
    rw [(rd_cat A B a k ha hk).1, (rd_cat A' B' a' k ha' hk).1]
  · have hk := mem_range.1 hk
    rw [(rd_cat A B a k ha hk).2, (rd_cat A' B' a' k ha' hk).2]

section Chunks
open Cert.KernelIdeal Cert.KernelIdeal.Gen Cert.Proof.KernelIdeal Idealize.ShloMosaic.TcCoe

variable (m : (ℓ : Loc nD τ sig) → Buf (Elt Ideal) ℓ) (c : Dev nD)

/-- The block of each window at a point, by numbers. -/
theorem idx_all : ∀ t : Fin cfg0.N, (win0_0.index t 0 = 0 ∧ win0_0.index t 1 = min t.val 26) ∧ (win0_1.index t 0 = 0 ∧ win0_1.index t 1 = min t.val 26) ∧ (win0_2.index t 0 = 0 ∧ win0_2.index t 1 = min t.val 26) ∧ (win0_3.index t 0 = 0 ∧ win0_3.index t 1 = min t.val 26) ∧ (win0_4.index t 0 = 0 ∧ win0_4.index t 1 = min t.val 26) ∧ (win0_5.index t 0 = 0 ∧ win0_5.index t 1 = min t.val 26)
    ∧ (win0_6.index t 0 = 0 ∧ win0_6.index t 1 = 0) ∧ (win0_7.index t 0 = 0 ∧ win0_7.index t 1 = t.val - 1) := by decide +kernel

theorem iblk0_at (n : ℕ) (hn : n < 27) (a k : ℕ) (ha : a < 2048) (hk : k < 128) :
    rd (iblk m c 0 (tp n) : S2048x128.Idx → EReal) a k = rd (m ((c : Thread nD τ).loc main_arg0) : S2048x3456.Idx → EReal) a (128 * n + k) := by
  have e : (tp n).val = n := Nat.mod_eq_of_lt (by omega)
  obtain ⟨i0, i1⟩ := (idx_all (tp n)).1
  rw [rd_ix _ a k ha hk]
  refine rd_of (m ((c : Thread nD τ).loc main_arg0) : S2048x3456.Idx → EReal) _ a (128 * n + k) ?_ ?_
  · blk_simp [i0]; rfl
  · blk_simp [i1]; show min (tp n).val 26 * 128 + k = 128 * n + k; omega

theorem iblk1_at (n : ℕ) (hn : n < 27) (a k : ℕ) (ha : a < 2048) (hk : k < 128) :
    rd (iblk m c 1 (tp n) : S2048x128.Idx → EReal) a k = rd (m ((c : Thread nD τ).loc main_arg1) : S2048x3456.Idx → EReal) a (128 * n + k) := by
  have e : (tp n).val = n := Nat.mod_eq_of_lt (by omega)
  obtain ⟨i0, i1⟩ := (idx_all (tp n)).2.1
  rw [rd_ix _ a k ha hk]
  refine rd_of (m ((c : Thread nD τ).loc main_arg1) : S2048x3456.Idx → EReal) _ a (128 * n + k) ?_ ?_
  · blk_simp [i0]; rfl
  · blk_simp [i1]; show min (tp n).val 26 * 128 + k = 128 * n + k; omega

theorem iblk2_at (n : ℕ) (hn : n < 27) (a k : ℕ) (ha : a < 2560) (hk : k < 128) :
    rd (iblk m c 2 (tp n) : S2560x128.Idx → EReal) a k = rd (m ((c : Thread nD τ).loc main_arg2) : S2560x3456.Idx → EReal) a (128 * n + k) := by
  have e : (tp n).val = n := Nat.mod_eq_of_lt (by omega)
  obtain ⟨i0, i1⟩ := (idx_all (tp n)).2.2.1
  rw [rd_ix _ a k ha hk]
  refine rd_of (m ((c : Thread nD τ).loc main_arg2) : S2560x3456.Idx → EReal) _ a (128 * n + k) ?_ ?_
  · blk_simp [i0]; rfl
  · blk_simp [i1]; show min (tp n).val 26 * 128 + k = 128 * n + k; omega

theorem iblk3_at (n : ℕ) (hn : n < 27) (a k : ℕ) (ha : a < 2560) (hk : k < 128) :
    rd (iblk m c 3 (tp n) : S2560x128.Idx → EReal) a k = rd (m ((c : Thread nD τ).loc main_arg3) : S2560x3456.Idx → EReal) a (128 * n + k) := by
  have e : (tp n).val = n := Nat.mod_eq_of_lt (by omega)
  obtain ⟨i0, i1⟩ := (idx_all (tp n)).2.2.2.1
  rw [rd_ix _ a k ha hk]
  refine rd_of (m ((c : Thread nD τ).loc main_arg3) : S2560x3456.Idx → EReal) _ a (128 * n + k) ?_ ?_
  · blk_simp [i0]; rfl
  · blk_simp [i1]; show min (tp n).val 26 * 128 + k = 128 * n + k; omega

theorem iblk4_at (n : ℕ) (hn : n < 27) (a k : ℕ) (ha : a < 1024) (hk : k < 256) :
    rd (iblk m c 4 (tp n) : S1024x256.Idx → EReal) a k = rd (m ((c : Thread nD τ).loc main_arg4) : S1024x6912.Idx → EReal) a (256 * n + k) := by
  have e : (tp n).val = n := Nat.mod_eq_of_lt (by omega)
  obtain ⟨i0, i1⟩ := (idx_all (tp n)).2.2.2.2.1
  rw [rd_ix _ a k ha hk]
  refine rd_of (m ((c : Thread nD τ).loc main_arg4) : S1024x6912.Idx → EReal) _ a (256 * n + k) ?_ ?_
  · blk_simp [i0]; rfl
  · blk_simp [i1]; show min (tp n).val 26 * 256 + k = 256 * n + k; omega

theorem iblk5_at (n : ℕ) (hn : n < 27) (a k : ℕ) (ha : a < 1024) (hk : k < 256) :
    rd (iblk m c 5 (tp n) : S1024x256.Idx → EReal) a k = rd (m ((c : Thread nD τ).loc main_arg5) : S1024x6912.Idx → EReal) a (256 * n + k) := by
  have e : (tp n).val = n := Nat.mod_eq_of_lt (by omega)
  obtain ⟨i0, i1⟩ := (idx_all (tp n)).2.2.2.2.2.1
  rw [rd_ix _ a k ha hk]
  refine rd_of (m ((c : Thread nD τ).loc main_arg5) : S1024x6912.Idx → EReal) _ a (256 * n + k) ?_ ?_
  · blk_simp [i0]; rfl
  · blk_simp [i1]; show min (tp n).val 26 * 256 + k = 256 * n + k; omega

theorem iblk6_eq (t : Fin cfg0.N) : (iblk m c 6 t : S2560x2048.Idx → EReal) = m ((c : Thread nD τ).loc main_arg6) := by
  obtain ⟨i0, i1⟩ := (idx_all t).2.2.2.2.2.2.1
  funext y
  refine (rd_of (m ((c : Thread nD τ).loc main_arg6) : S2560x2048.Idx → EReal) _ (y 0).val (y 1).val ?_ ?_).trans (rd_of _ y _ _ rfl rfl).symm
  · blk_simp [i0]
  · blk_simp [i1]

/-- One chunk's share of dx, at row `a` and column `b`. -/
def part (n a b : ℕ) : EReal :=
  ∑ k ∈ range 128, rd (m ((c : Thread nD τ).loc main_arg0) : S2048x3456.Idx → EReal) a (128 * n + k) * rd (m ((c : Thread nD τ).loc main_arg2) : S2560x3456.Idx → EReal) b (128 * n + k)
    + ∑ k ∈ range 128, rd (m ((c : Thread nD τ).loc main_arg1) : S2048x3456.Idx → EReal) a (128 * n + k) * rd (m ((c : Thread nD τ).loc main_arg3) : S2560x3456.Idx → EReal) b (128 * n + k)

theorem part_eq (n : ℕ) (hn : n < 27) (a b : ℕ) (ha : a < 2048) (hb : b < 2560) :
    ∑ k ∈ range 256, rd (Dn m c n : S2048x256.Idx → EReal) a k * rd (Wn m c n : S2560x256.Idx → EReal) b k = part m c n a b := by
  unfold Dn Wn part
  refine (sum_cat _ _ _ _ a b ha hb).trans (congrArg₂ _ (sum_congr rfl fun k hk => ?_) (sum_congr rfl fun k hk => ?_))
  · have hk := mem_range.1 hk
    exact congrArg₂ (· * ·) (iblk0_at m c n hn a k ha hk) (iblk2_at m c n hn b k hb hk)
  · have hk := mem_range.1 hk
    exact congrArg₂ (· * ·) (iblk1_at m c n hn a k ha hk) (iblk3_at m c n hn b k hb hk)

theorem accN_val (D : S2048x256.Idx → EReal) (W : S2560x256.Idx → EReal) (O : S2048x2560.Idx → EReal) (y : S2048x2560.Idx) :
    accN (F := Ideal) D W O y = O y + ∑ k ∈ range 256, rd D (y 0).val k * rd W (y 1).val k := by
  have h : (y 0).val < 2048 := (y 0).isLt
  have h1 : (y 1).val < 2560 := (y 1).isLt
  unfold accN
  rw [pay16_at]
  refine congrArg₂ _ (congrArg O (ix_ext _ _ ?_ rfl)) (sum_congr rfl fun k hk => ?_)
  · show 256 * ((y 0).val / 256) + (y 0).val % 256 = _; omega
  · have hk := mem_range.1 hk
    refine congrArg (· * _) ?_
    refine (rd_ix _ _ k (Nat.mod_lt _ (by decide)) hk).trans (rd_of D _ _ k ?_ rfl)
    show 256 * ((y 0).val / 256) + (y 0).val % 256 = _; omega

theorem An_val (n : ℕ) (hn : n ≤ 27) (y : S2048x2560.Idx) : An m c n y = ∑ q ∈ range n, part m c q (y 0).val (y 1).val := by
  induction n with
  | zero => exact Ideal.ofBits_zero_f32
  | succ n ih =>
    rw [sum_range_succ, ← ih (by omega), ← part_eq m c n (by omega) _ _ (y 0).isLt (y 1).isLt]
    exact accN_val _ _ _ y

theorem dxAll_val (D : S2048x256.Idx → EReal) (W : S2560x256.Idx → EReal) (O : S2048x2560.Idx → EReal) (y : S2048x2560.Idx) :
    dxAll (F := Ideal) D W O y = accN (F := Ideal) D W O y * c32 := by
  unfold dxAll dxB accN
  rw [pay38_eq]

/-- The kernel's dx. -/
theorem dxG_val (y : S2048x2560.Idx) : dxG m c y =
    (∑ k ∈ range 3456, rd (m ((c : Thread nD τ).loc main_arg0) : S2048x3456.Idx → EReal) (y 0).val k * rd (m ((c : Thread nD τ).loc main_arg2) : S2560x3456.Idx → EReal) (y 1).val k
      + ∑ k ∈ range 3456, rd (m ((c : Thread nD τ).loc main_arg1) : S2048x3456.Idx → EReal) (y 0).val k * rd (m ((c : Thread nD τ).loc main_arg3) : S2560x3456.Idx → EReal) (y 1).val k) * c32 := by
  refine (dxAll_val _ _ _ y).trans (congrArg (· * c32) ?_)
  refine (An_val m c 27 (by omega) y).trans ?_
  unfold part
  rw [sum_add_distrib]
  exact congrArg₂ _ (sum_chunks (fun k => rd _ (y 0).val k * rd _ (y 1).val k) 27) (sum_chunks (fun k => rd _ (y 0).val k * rd _ (y 1).val k) 27)

theorem dwN_val (X : S2560x2048.Idx → EReal) (T : S2048x256.Idx → EReal) (y : S2560x256.Idx) :
    dwN (F := Ideal) X T y = (∑ k ∈ range 2048, rd X (y 0).val k * rd T k (y 1).val) * c32 := by
  have h : (y 0).val < 2560 := (y 0).isLt
  unfold dwN
  rw [pay17_at]
  refine congrArg (· * c32) (sum_congr rfl fun k hk => ?_)
  have hk := mem_range.1 hk
  refine congrArg (· * _) ?_
  refine (rd_ix _ _ k (Nat.mod_lt _ (by decide)) hk).trans (rd_of X _ _ k ?_ rfl)
  show 320 * ((y 0).val / 320) + (y 0).val % 320 = _; omega

/-- One block of dw, at row `a` and column `b` of the block. -/
theorem dwO_val (t : Fin cfg0.N) (ht : t.val ≠ 0) (y : S2560x256.Idx) : dwO m c t y =
    (∑ r ∈ range 1024, rd (m ((c : Thread nD τ).loc main_arg6) : S2560x2048.Idx → EReal) (y 0).val (64 * (r / 32) + r % 32) * rd (m ((c : Thread nD τ).loc main_arg4) : S1024x6912.Idx → EReal) r (256 * (t.val - 1) + (y 1).val)
      + ∑ r ∈ range 1024, rd (m ((c : Thread nD τ).loc main_arg6) : S2560x2048.Idx → EReal) (y 0).val (64 * (r / 32) + 32 + r % 32) * rd (m ((c : Thread nD τ).loc main_arg5) : S1024x6912.Idx → EReal) r (256 * (t.val - 1) + (y 1).val)) * c32 := by
  have hN : t.val < 28 := Nat.lt_of_lt_of_eq t.isLt N_0
  have hy : (y 1).val < 256 := (y 1).isLt
  unfold dwO
  refine (dwN_val _ _ y).trans (congrArg (· * c32) ?_)
  rw [iblk6_eq]
  refine (sum_slabs (fun k => rd (m ((c : Thread nD τ).loc main_arg6) : S2560x2048.Idx → EReal) (y 0).val k * rd (Tn m c (t.val - 1) : S2048x256.Idx → EReal) k (y 1).val) 32).trans ?_
  refine congrArg₂ _ (sum_congr rfl fun r hr => ?_) (sum_congr rfl fun r hr => ?_)
  · have hr : r < 1024 := mem_range.1 hr
    refine congrArg (_ * ·) (.trans ?_ (iblk4_at m c (t.val - 1) (by omega) r _ hr hy))
    unfold Tn
    rw [rd_ix _ (64 * (r / 32) + r % 32) _ (by omega) hy]
    refine (if_pos (by show (64 * (r / 32) + r % 32) / 32 % 2 = 0; omega)).trans (rd_of _ _ _ _ ?_ rfl)
    show 32 * ((64 * (r / 32) + r % 32) / 64) + (64 * (r / 32) + r % 32) % 32 = r; omega
  · have hr : r < 1024 := mem_range.1 hr
    refine congrArg (_ * ·) (.trans ?_ (iblk5_at m c (t.val - 1) (by omega) r _ hr hy))
    unfold Tn
    rw [rd_ix _ (64 * (r / 32) + 32 + r % 32) _ (by omega) hy]
    refine (if_neg (by show ¬ (64 * (r / 32) + 32 + r % 32) / 32 % 2 = 0; omega)).trans (rd_of _ _ _ _ ?_ rfl)
    show 32 * ((64 * (r / 32) + 32 + r % 32) / 64) + (64 * (r / 32) + 32 + r % 32) % 32 = r; omega

/-- dw, row `a`, column `b`. -/
def dwF (y : S2560x6912.Idx) : EReal :=
    (∑ r ∈ range 1024, rd (m ((c : Thread nD τ).loc main_arg6) : S2560x2048.Idx → EReal) (y 0).val (64 * (r / 32) + r % 32) * rd (m ((c : Thread nD τ).loc main_arg4) : S1024x6912.Idx → EReal) r (y 1).val
      + ∑ r ∈ range 1024, rd (m ((c : Thread nD τ).loc main_arg6) : S2560x2048.Idx → EReal) (y 0).val (64 * (r / 32) + 32 + r % 32) * rd (m ((c : Thread nD τ).loc main_arg5) : S1024x6912.Idx → EReal) r (y 1).val) * c32

/-- The kernel's dw. -/
theorem dwG_val : dwG m c = dwF m c := by
  unfold dwG
  refine (dats m 0 c).arrAt_eq_of_covers 7 (dwF m c) (by decide +kernel) fun t hf y => ?_
  have h0 := (flush7_iff t).1 hf
  obtain ⟨i0, i1⟩ := (idx_all t).2.2.2.2.2.2.2
  blk_simp
  refine (dwO_val m c t h0 _).trans ?_
  unfold dwF
  have e0 : ((win0_7.blk t).view.emb y 0).val = (y 0).val := by blk_simp [i0]
  have e1 : ((win0_7.blk t).view.emb y 1).val = 256 * (t.val - 1) + (y 1).val := by blk_simp [i1]; omega
  rw [e0, e1]

end Chunks

end Cert.Proof.Value
-- ==== Proof.Reference.lean ====
/- The reference's two results as sums over the rows and columns of the arguments. -/
module

public import proofs.«01_k».proof.Proof.Value
public import proofs.«01_k».proof.Proof.Gen.ReferenceIdeal

@[expose] public section

noncomputable section

namespace Cert.Proof.Value

open Idealize.ShloMosaic Cert.Rows Finset

/-! ## The reference -/

section Reference
open Cert.ReferenceIdeal Cert.ReferenceIdeal.Gen

/-- The reference's dx. -/
theorem ref_dx (A B : S2048x3456.Idx → EReal) (C D : S2560x3456.Idx → EReal) (y : S2048x2560.Idx) :
    (truncf .bf16 (mulf (F := Ideal) (φ := .f32) (addf (Host.dotGeneral (F := Ideal) (φ₁ := .bf16) (φ₂ := .bf16) dot_S2048x3456_S2560x3456_S2048x2560_1_1_0_0_n_n none A C)
      (Host.dotGeneral (F := Ideal) (φ₁ := .bf16) (φ₂ := .bf16) dot_S2048x3456_S2560x3456_S2048x2560_1_1_0_0_n_n none B D))
      (broadcastInDim S2048x2560 ![] bcast_S_S2048x2560 (constant (F := Ideal) S_ .f32 0x3D000000#32))) bitsLt_bf16_f32 : FVec Ideal S2048x2560 .bf16) y
    = (∑ k ∈ range 3456, rd A (y 0).val k * rd C (y 1).val k + ∑ k ∈ range 3456, rd B (y 0).val k * rd D (y 1).val k) * c32 := by
  rw [← Fin.sum_univ_eq_sum_range (fun k => rd A (y 0).val k * rd C (y 1).val k), ← Fin.sum_univ_eq_sum_range (fun k => rd B (y 0).val k * rd D (y 1).val k)]
  pointwise
  refine congrArg (· * c32) (congrArg₂ _ (sum_congr rfl fun k _ => congrArg₂ (· * ·) (rd_ix2 _ (y 0) k).symm (rd_ix2 _ (y 1) k).symm) (sum_congr rfl fun k _ => congrArg₂ (· * ·) (rd_ix2 _ (y 0) k).symm (rd_ix2 _ (y 1) k).symm))

/-- The reference's dw. -/
theorem ref_dw (X : S2560x2048.Idx → EReal) (A B : S1024x6912.Idx → EReal) (y : S2560x6912.Idx) :
    (mulf (F := Ideal) (φ := .f32) (addf (Host.dotGeneral (F := Ideal) (φ₁ := .bf16) (φ₂ := .bf16) dot_S1024x2560_S1024x6912_S2560x6912_0_0_1_1_n_n none
        (shapeCast S1024x2560 (shapeCast S32x32x2560 (extractStridedSlice S32x1x32x2560 ![0, 0, 0, 0] (shapeCast S32x2x32x2560 (transpose S2048x2560 [1, 0] X transposes_S2560x2048_S2048x2560_1_0)
          shapeCasts_S2048x2560_S32x2x32x2560) slices_S32x2x32x2560_S32x1x32x2560_0_0_0_0) shapeCasts_S32x1x32x2560_S32x32x2560) shapeCasts_S32x32x2560_S1024x2560) A)
      (Host.dotGeneral (F := Ideal) (φ₁ := .bf16) (φ₂ := .bf16) dot_S1024x2560_S1024x6912_S2560x6912_0_0_1_1_n_n none
        (shapeCast S1024x2560 (shapeCast S32x32x2560 (extractStridedSlice S32x1x32x2560 ![0, 1, 0, 0] (shapeCast S32x2x32x2560 (transpose S2048x2560 [1, 0] X transposes_S2560x2048_S2048x2560_1_0)
          shapeCasts_S2048x2560_S32x2x32x2560) slices_S32x2x32x2560_S32x1x32x2560_0_1_0_0) shapeCasts_S32x1x32x2560_S32x32x2560) shapeCasts_S32x32x2560_S1024x2560) B))
      (broadcastInDim S2560x6912 ![] bcast_S_S2560x6912 (constant (F := Ideal) S_ .f32 0x3D000000#32)) : FVec Ideal S2560x6912 .f32) y
    = (∑ r ∈ range 1024, rd X (y 0).val (64 * (r / 32) + r % 32) * rd A r (y 1).val + ∑ r ∈ range 1024, rd X (y 0).val (64 * (r / 32) + 32 + r % 32) * rd B r (y 1).val) * c32 := by
  rw [← Fin.sum_univ_eq_sum_range (fun r => rd X (y 0).val (64 * (r / 32) + r % 32) * rd A r (y 1).val), ← Fin.sum_univ_eq_sum_range (fun r => rd X (y 0).val (64 * (r / 32) + 32 + r % 32) * rd B r (y 1).val)]
  pointwise
  refine congrArg (· * c32) (congrArg₂ _ (sum_congr rfl fun k _ => congrArg₂ (· * ·) (rd_of X _ _ _ rfl ?_) (rd_ix2 A k (y 1)).symm) (sum_congr rfl fun k _ => congrArg₂ (· * ·) (rd_of X _ _ _ rfl ?_) (rd_ix2 B k (y 1)).symm))
  · show k.val / 32 * 64 + k.val % 32 = _; omega
  · show k.val / 32 * 64 + 32 + k.val % 32 = _; omega

end Reference

end Cert.Proof.Value
-- ==== Proof.XQuant.Loops.lean ====
/- The counted loop of the x quantiser's body by what it means: a trip fills the next eight rows of the scale words, from
   the next 256 rows of x and the next 256 signs. What it leaves in the other buffers is not named. -/
module

public import proofs.«01_k».proof.Proof.Rows
public import proofs.«01_k».proof.Proof.Gen.XQuant.Loops
public import proofs.«01_k».proof.Proof.Gen.XQuant.Frame
public import Idealize.ShloMosaic.Lib.Pipeline.FrameValue
public import Idealize.ShloMosaic.Lib.Pipeline.Value
public import Idealize.ShloMosaic.Lib.Tactic

@[expose] public section

set_option warn.classDefReducibility false
set_option maxRecDepth 8192
set_option maxHeartbeats 4000000

noncomputable section

namespace Cert.Proof.XQuant

open Cert.XQuant Cert.XQuant.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

/-- The scale words of the left half of a tile, from 256 rows of x, their signs and the rotation map. -/
def sc0 (v11 : Vec F S256x256 .bf16) (v14 : Vec F S1x1x256 .bf16) (v16 : Vec F S256x256 .bf16) : IVec S8x128 32 :=
  let v35 := k0_pay7 v11 v14 v16
  let v36 := k0_pay8 v11 v14 v16
  let v37 := k0_pay9 v11 v14 v16
  let v38 := k0_pay10 v11 v14 v16
  let v39 := k0_pay11 v11 v14 v16
  let v40 := k0_pay12 v11 v14 v16
  let v41 := k0_pay13 v11 v14 v16
  let v42 := k0_pay14 v11 v14 v16
  let v43 := k0_pay15 v11 v14 v16
  let v44 := k0_pay16 v11 v14 v16
  let v45 := k0_pay17 v11 v14 v16
  let v46 := k0_pay18 v11 v14 v16
  let v47 := k0_pay19 v11 v14 v16
  let v48 := k0_pay20 v11 v14 v16
  let v49 := k0_pay21 v11 v14 v16
  let v50 := k0_pay22 v11 v14 v16
  let v51 := k0_pay23 v11 v14 v16
  let v52 := k0_pay24 v11 v14 v16
  let v53 := k0_pay25 v11 v14 v16
  let v54 := k0_pay26 v11 v14 v16
  let v98 := k0_pay40 v35
  let v99 := k0_pay41 v35
  let v100 := k0_pay42 v36 v37
  let v101 := k0_pay43 v38 v39
  let v102 := k0_pay44 v40 v41
  let v103 := k0_pay45 v42 v43
  let v104 := k0_pay46 v44 v45
  let v105 := k0_pay47 v46 v47
  let v106 := k0_pay48 v48 v49
  let v107 := k0_pay49 v50 v51
  let v108 := k0_pay50 v52 v53
  let v109 := k0_pay51 v35 v54
  let v110 := k0_pay52 v35
  let v111 := k0_pay53 v35
  let v112 := k0_pay54 v35
  let v113 := k0_pay55 v35
  let v114 := k0_pay56 v35
  let v132 := k0_pay57 v98 v99 v100 v101 v102 v103 v104 v105 v106 v107 v108 v109 v110 v111 v112 v113 v114
  let v134 := k0_pay58 v98 v99 v100 v101 v102 v103 v104 v105 v106 v107 v108 v109 v110 v111 v112 v113 v114
  let v163 := k0_pay59 v98 v99 v100 v101 v102 v103 v104 v105 v106 v107 v108 v109 v110 v111 v112 v113 v114
  let v200 := k0_pay62 v132 v134 v163
  k0_pay230 v200

/-- The scale words of the right half. -/
def sc1 (v11 : Vec F S256x256 .bf16) (v14 : Vec F S1x1x256 .bf16) (v16 : Vec F S256x256 .bf16) : IVec S8x128 32 :=
  let v20 := k0_pay4 v11 v14 v16
  let v1719 := k0_pay236 v20
  let v1720 := k0_pay237 v20
  let v1721 := k0_pay238 v20
  let v1722 := k0_pay239 v20
  let v1723 := k0_pay240 v20
  let v1724 := k0_pay241 v20
  let v1725 := k0_pay242 v20
  let v1726 := k0_pay243 v20
  let v1727 := k0_pay244 v20
  let v1728 := k0_pay245 v20
  let v1729 := k0_pay246 v20
  let v1730 := k0_pay247 v20
  let v1731 := k0_pay248 v20
  let v1732 := k0_pay249 v20
  let v1733 := k0_pay250 v20
  let v1734 := k0_pay251 v20
  let v1735 := k0_pay252 v20
  let v1736 := k0_pay253 v20
  let v1737 := k0_pay254 v20
  let v1738 := k0_pay255 v20
  let v1739 := k0_pay256 v20
  let v1740 := k0_pay257 v20
  let v1741 := k0_pay258 v20
  let v1742 := k0_pay259 v20
  let v1743 := k0_pay260 v20
  let v1792 := k0_pay269 v1736 v1737
  let v1793 := k0_pay270 v1738 v1739
  let v1794 := k0_pay271 v1740 v1741
  let v1795 := k0_pay272 v1742 v1743
  let v1796 := k0_pay273 v1719
  let v1797 := k0_pay274 v1719
  let v1798 := k0_pay275 v1719
  let v1799 := k0_pay276 v1719
  let v1800 := k0_pay277 v1720 v1721 v1722 v1723
  let v1801 := k0_pay278 v1724 v1725 v1726 v1727
  let v1802 := k0_pay279 v1728 v1729 v1730 v1731
  let v1803 := k0_pay280 v1732 v1733 v1734 v1735
  let v1816 := k0_pay281 v1792 v1793 v1794 v1795 v1796 v1797 v1798 v1799 v1800 v1801 v1802 v1803
  let v1818 := k0_pay282 v1792 v1793 v1794 v1795 v1796 v1797 v1798 v1799 v1800 v1801 v1802 v1803
  let v1847 := k0_pay283 v1792 v1793 v1794 v1795 v1796 v1797 v1798 v1799 v1800 v1801 v1802 v1803
  let v1849 := k0_pay284 v1792 v1793 v1794 v1795 v1796 v1797 v1798 v1799 v1800 v1801 v1802 v1803
  let v1850 := k0_pay285
  let v1884 := k0_pay288 v1816 v1818 v1847 v1849 v1850
  k0_pay445 v1884

/-- Row `k` of the signs. -/
def tokOf (X2 : S8x1x256.Idx → Elt F .bf16) (k : ℕ) (hk : k < 8) (z : S1x1x256.Idx) : Elt F .bf16 :=
  X2 (fun a => match a with | 0 => ⟨k, hk⟩ | 1 => ⟨0, by decide⟩ | 2 => z 2)

theorem readAt_tok {sig : RefSig} {κ : Kind} {sp : Space} (v : View sig κ sp S8x1x256 .bf16) (f : v.ty.Contents (Elt F)) (off : Fin 3 → ℕ)
    (inb : ∀ a, off a + S1x1x256.size a ≤ S8x1x256.size a) (k : ℕ) (hk : k < 8) (hoff : off = ![k, 0, 0]) :
    v.readAt (Elt F) (Rect.unit (s := S8x1x256) off S1x1x256.size inb).toLoadRect f = tokOf (v.read (Elt F) f) k hk := by
  subst hoff
  funext z
  refine congrArg (v.read (Elt F) f) (funext fun a => Fin.ext ?_)
  match a with
  | 0 => have : (z 0).val < 1 := (z 0).isLt
         show k + 1 * (z 0).val = k; omega
  | 1 => have : (z 1).val < 1 := (z 1).isLt
         show 0 + 1 * (z 1).val = 0; omega
  | 2 => show 0 + 1 * (z 2).val = (z 2).val; omega

/-- The scale words of a block of 256 columns of x. -/
def scX (X1 : S2048x256.Idx → Elt F .bf16) (X2 : S8x1x256.Idx → Elt F .bf16) (X5 : S256x256.Idx → Elt F .bf16) (y : S64x256.Idx) : BitVec 32 :=
  have h0 : (y 0).val < 64 := (y 0).isLt
  have h1 : (y 1).val < 256 := (y 1).isLt
  if h : (y 1).val < 128 then
    sc0 (F := F) (rowsOf 256 X1 ((y 0).val / 8) (by omega)) (tokOf X2 ((y 0).val / 8) (by omega)) X5 (ix ((y 0).val % 8) (y 1).val (Nat.mod_lt _ (by decide)) h)
  else
    sc1 (F := F) (rowsOf 256 X1 ((y 0).val / 8) (by omega)) (tokOf X2 ((y 0).val / 8) (by omega)) X5 (ix ((y 0).val % 8) ((y 1).val - 128) (Nat.mod_lt _ (by decide)) (by show _ < 128; omega))

theorem scX_left (X1 : S2048x256.Idx → Elt F .bf16) (X2 : S8x1x256.Idx → Elt F .bf16) (X5 : S256x256.Idx → Elt F .bf16) (k : ℕ) (hk : k < 8)
    (x : S8x128.Idx) (z : S64x256.Idx) (h0 : (z 0).val = 8 * k + (x 0).val) (h1 : (z 1).val = 0 + (x 1).val) :
    sc0 (F := F) (rowsOf 256 X1 k (by omega)) (tokOf X2 k hk) X5 x = scX X1 X2 X5 z := by
  have hx : (x 0).val < 8 := (x 0).isLt
  have hx1 : (x 1).val < 128 := (x 1).isLt
  have e : (z 0).val / 8 = k := by omega
  subst e
  refine Eq.trans ?_ (dif_pos (by omega)).symm
  exact congrArg _ (ix_ext _ _ (by show _ = (z 0).val % 8; omega) (by show _ = (z 1).val; omega))

theorem scX_right (X1 : S2048x256.Idx → Elt F .bf16) (X2 : S8x1x256.Idx → Elt F .bf16) (X5 : S256x256.Idx → Elt F .bf16) (k : ℕ) (hk : k < 8)
    (x : S8x128.Idx) (z : S64x256.Idx) (h0 : (z 0).val = 8 * k + (x 0).val) (h1 : (z 1).val = 128 + (x 1).val) :
    sc1 (F := F) (rowsOf 256 X1 k (by omega)) (tokOf X2 k hk) X5 x = scX X1 X2 X5 z := by
  have hx : (x 0).val < 8 := (x 0).isLt
  have hx1 : (x 1).val < 128 := (x 1).isLt
  have e : (z 0).val / 8 = k := by omega
  subst e
  refine Eq.trans ?_ (dif_neg (by omega)).symm
  exact congrArg _ (ix_ext _ _ (by show _ = (z 0).val % 8; omega) (by show _ = (z 1).val - 128; omega))

@[sl_loop] def loopInv1 (c : Dev nD) (i : grid0.Coords) (arg1 : Memref sig .tc .vmem S2048x256 .bf16) (harg1 : arg1.IsWhole) (arg2 : Memref sig .tc .vmem S8x1x256 .bf16) (harg2 : arg2.IsWhole) (arg3 : Memref sig .tc .vmem S2048x128 .i8) (harg3 : arg3.IsWhole) (arg4 : Memref sig .tc .vmem S2048x128 .i8) (harg4 : arg4.IsWhole) (arg5 : Memref sig .tc .vmem S256x256 .bf16) (harg5 : arg5.IsWhole) (arg6 : Memref sig .tc .vmem S2x8x128 .i32) (harg6 : arg6.IsWhole) (arg7 : Memref sig .tc .vmem S256x2048 .bf16) (harg7 : arg7.IsWhole) (arg8 : Memref sig .tc .vmem S1024x256 .i8) (harg8 : arg8.IsWhole) (arg9 : Memref sig .tc .vmem S64x256 .i8) (harg9 : arg9.IsWhole) (arg10 : Memref sig .tc .vmem S2x32x128 .i32) (harg10 : arg10.IsWhole) (arg11 : Memref sig .tc .vmem S64x256 .i32) (harg11 : arg11.IsWhole) (v0 v2 : Vec F S1x8x128 .i32)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) :
    LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 v0 v2 where
  inv := fun k _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f7, (arg7.view.loc (c : Thread nD τ) ↦[arg7.view.set]{fullShare} f7)) ∗ (∃ f8, (arg8.view.loc (c : Thread nD τ) ↦[arg8.view.set]{fullShare} f8)) ∗ (∃ f10, (arg10.view.loc (c : Thread nD τ) ↦[arg10.view.set]{fullShare} f10)) ∗ (∃ f11, (arg11.view.loc (c : Thread nD τ) ↦[arg11.view.set]{fullShare} f11) ∗ ⌜Upto (8 * k) (scX (arg1.view.read (Elt F) X1) (arg2.view.read (Elt F) X2) (arg5.view.read (Elt F) X5)) (arg11.view.read (Elt F) f11)⌝))
  step := fun k acc => by
    have hk : k.val < 8 := Nat.lt_of_lt_of_le k.isLt k0_t1_abs.2.1
    unfold k0_t1_body
    iintro ⟨HR1, HR2, HR3, HR4, HR5, ⟨%f7, HW7⟩, ⟨%f8, HW8⟩, ⟨%f10, HW10⟩, ⟨%f11, HW11, %h11⟩⟩
    sl_exec
    sl_step
    isplitl [HR1]; · iexact HR1
    isplitl [HR2]; · iexact HR2
    isplitl [HR3]; · iexact HR3
    isplitl [HR4]; · iexact HR4
    isplitl [HR5]; · iexact HR5
    isplitl [HW7]; · iexists _; iexact HW7
    isplitl [HW8]; · iexists _; iexact HW8
    isplitl [HW10]; · iexists _; iexact HW10
    iexists _; isplitl [HW11]; · iexact HW11
    ipureintro
    have e1 := readAt_rows (H := 256) arg1.view X1 _ (k0_off1_inb k) (k0_off1_eq k) (j := k.val) (by omega)
    have e2 := readAt_tok arg2.view X2 _ (k0_off2_inb k) k.val hk (k0_off2_eq k)
    have e5 : arg5.view.readAt (Elt F) (Rect.unit (s := S256x256) ![0, 0] S256x256.size inb_S256x256_S256x256_0_0).toLoadRect X5 = arg5.view.read (Elt F) X5 := View.readAt_full arg5.view X5 inb_S256x256_S256x256_0_0
    intro y hy
    refine agree_cons arg11.view f11 (8 * k.val) 128 _ (k0_off6_inb k) _ _ _ y (k0_off6_eq k) ?_ fun n2 => agree_cons arg11.view f11 (8 * k.val) 0 _ (k0_off4_inb k) _ _ _ y (k0_off4_eq k) ?_ fun n1 => h11 y ?_
    · intro x z z0 z1
      rw [← scX_right _ _ _ k.val hk x z z0 z1, ← e1, ← e2, ← e5]
      rfl
    · intro x z z0 z1
      rw [← scX_left _ _ _ k.val hk x z z0 z1, ← e1, ← e2, ← e5]
      rfl
    · have : (y 1).val < 256 := (y 1).isLt
      omega

end Cert.Proof.XQuant
-- ==== Proof.XQuant.Run.lean ====
/- The x quantiser's body at every point and the run of the whole call: what it leaves in the scales is named, what it leaves
   in the two other results is not. -/
module

public import proofs.«01_k».proof.Proof.XQuant.Loops
public import proofs.«01_k».proof.Proof.Gen.XQuant.Frame

@[expose] public section

set_option maxRecDepth 8192
set_option maxHeartbeats 4000000

noncomputable section

namespace Cert.Proof.XQuant

open Cert.XQuant Cert.XQuant.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]
local notation "𝕄" => MT nD τ sig Unit (Elt F) ℕ (UU nD τ) ℕ

/-- The body, whatever the buffers it writes held. -/
theorem run1 (c : Dev nD) (i : grid0.Coords) (arg1 : Memref sig .tc .vmem S2048x256 .bf16) (harg1 : arg1.IsWhole) (arg2 : Memref sig .tc .vmem S8x1x256 .bf16) (harg2 : arg2.IsWhole) (arg3 : Memref sig .tc .vmem S2048x128 .i8) (harg3 : arg3.IsWhole) (arg4 : Memref sig .tc .vmem S2048x128 .i8) (harg4 : arg4.IsWhole) (arg5 : Memref sig .tc .vmem S256x256 .bf16) (harg5 : arg5.IsWhole) (arg6 : Memref sig .tc .vmem S2x8x128 .i32) (harg6 : arg6.IsWhole) (arg7 : Memref sig .tc .vmem S256x2048 .bf16) (harg7 : arg7.IsWhole) (arg8 : Memref sig .tc .vmem S1024x256 .i8) (harg8 : arg8.IsWhole) (arg9 : Memref sig .tc .vmem S64x256 .i8) (harg9 : arg9.IsWhole) (arg10 : Memref sig .tc .vmem S2x32x128 .i32) (harg10 : arg10.IsWhole) (arg11 : Memref sig .tc .vmem S64x256 .i32) (harg11 : arg11.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (K : PUnit → sProp 𝕄) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f7, (arg7.view.loc (c : Thread nD τ) ↦[arg7.view.set]{fullShare} f7)) ∗ (∃ f8, (arg8.view.loc (c : Thread nD τ) ↦[arg8.view.set]{fullShare} f8)) ∗ (∃ f9, (arg9.view.loc (c : Thread nD τ) ↦[arg9.view.set]{fullShare} f9)) ∗ (∃ f10, (arg10.view.loc (c : Thread nD τ) ↦[arg10.view.set]{fullShare} f10)) ∗ (∃ f11, (arg11.view.loc (c : Thread nD τ) ↦[arg11.view.set]{fullShare} f11)) ∗ ((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f7, (arg7.view.loc (c : Thread nD τ) ↦[arg7.view.set]{fullShare} f7)) ∗ (∃ f8, (arg8.view.loc (c : Thread nD τ) ↦[arg8.view.set]{fullShare} f8)) ∗ (∃ f9, (arg9.view.loc (c : Thread nD τ) ↦[arg9.view.set]{fullShare} f9) ∗ ⌜arg9.view.read (Elt F) f9 = k0_pay3 (F := F) (scX (arg1.view.read (Elt F) X1) (arg2.view.read (Elt F) X2) (arg5.view.read (Elt F) X5))⌝) ∗ (∃ f10, (arg10.view.loc (c : Thread nD τ) ↦[arg10.view.set]{fullShare} f10)) ∗ (∃ f11, (arg11.view.loc (c : Thread nD τ) ↦[arg11.view.set]{fullShare} f11)) -∗ K ⟨⟩))
      ⊢ wp frame (wpE (defs₀ (F := F)) 𝒱₀ (c : Thread nD τ) none) Set.univ (cc0_x_quant i arg1 harg1 arg2 harg2 arg3 harg3 arg4 harg4 arg5 harg5 arg6 harg6 arg7 harg7 arg8 harg8 arg9 harg9 arg10 harg10 arg11 harg11) K := by
  simp only [cc0_x_quant_eq_skeleton]; unfold cc0_x_quant_skel
  iintro ⟨HR1, HR2, HR3, HR4, HR5, HR6, ⟨%f7, HW7⟩, ⟨%f8, HW8⟩, ⟨%f9, HW9⟩, ⟨%f10, HW10⟩, ⟨%f11, HW11⟩, Hk⟩
  have z11 : Upto (8 * 0) (scX (arg1.view.read (Elt F) X1) (arg2.view.read (Elt F) X2) (arg5.view.read (Elt F) X5)) (arg11.view.read (Elt F) f11) := Upto.zero _ _
  sl_exec
  sl_step
  iapply Hk
  isplitl [HR1]; · iexact HR1
  isplitl [HR2]; · iexact HR2
  isplitl [HR3]; · iexact HR3
  isplitl [HR4]; · iexact HR4
  isplitl [HR5]; · iexact HR5
  isplitl [HR6]; · iexact HR6
  isplitl [HW7]; · iexists _; iexact HW7
  isplitl [HW8]; · iexists _; iexact HW8
  isplitl [HW9]
  · iexists _; isplitl [HW9]; · iexact HW9
    ipureintro
    exact (View.read_writes_full arg9.view f9 inb_S64x256_S64x256_0_0 _ _).trans (congrArg (k0_pay3 (F := F)) ((View.readAt_full arg11.view _ inb_S64x256_S64x256_0_0).trans (Upto.all (by assumption) (by decide))))
  isplitl [HW10]; · iexists _; iexact HW10
  iexists _; iexact HW11

variable (m : (ℓ : Loc nD τ sig) → Buf (Elt F) ℓ) (ρ : Dev nD → PrngReg)

/-- The scales point `t` leaves in its block. -/
def scO (c : Dev nD) (t : Fin cfg0.N) : S64x256.Idx → Elt F .i8 := k0_pay3 (F := F) (scX (iblk m c 0 t) (iblk m c 1 t) (iblk m c 4 t))

/-- The proof data of the call; the codes and the transposed input are left unnamed. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Dat.unnamed 6 t
    | ⟨7, _⟩ => Dat.unnamed 7 t
    | ⟨8, _⟩ => scO m c t
    | ⟨_ + 9, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := rfl

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d
theorem before_3 (c : Dev nD) (t : Fin cfg0.N) (d) : (dats m 0 c).before 3 t d = iblk m c 3 t :=
  before0_3_of m (dats m 0 c) rfl (fun _ => rfl) t d
theorem before_4 (c : Dev nD) (t : Fin cfg0.N) (d) : (dats m 0 c).before 4 t d = iblk m c 4 t :=
  before0_4_of m (dats m 0 c) rfl (fun _ => rfl) t d
theorem before_5 (c : Dev nD) (t : Fin cfg0.N) (d) : (dats m 0 c).before 5 t d = iblk m c 5 t :=
  before0_5_of m (dats m 0 c) rfl (fun _ => rfl) t d

/-- The windows nothing is said of. -/
def fgt : Fin cfg0.W → Bool := fun w => w.val == 6 || w.val == 7

/-- A whole scratch buffer held, in the launch's words. -/
theorem pt_whole (c : Dev nD) (b : Ref sig .tc) (f : Buf (Elt F) ((c : Thread nD τ).loc b)) :
    ((Memref.whole b).view.loc (c : Thread nD τ) ↦[(Memref.whole b).view.set]{fullShare} f : sProp 𝕄) = (((c : Thread nD τ).loc b) ↦{fullShare} f) :=
  congrArg (fun S => (((c : Thread nD τ).loc b) ↦[S]{fullShare} f : sProp 𝕄)) (View.set_whole b)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X)
    ∗ (∃ X, owns (c : Thread nD τ) (st0_7 t) fullShare X)
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X)
    ∗ (∃ X, owns (c : Thread nD τ) (st0_7 t) fullShare X)
    ∗ owns (c : Thread nD τ) (st0_8 t) fullShare ((dats m 0 c).after 8 t))

theorem sound (c : Dev nD) (t : Fin cfg0.N) :
    bodyPre m c t ⊢ wp frame (wpE (defs₀ (F := F)) 𝒱₀ c none) Set.univ (bodyAt0 t) (fun _ => bodyPost m c t) := by
  unfold bodyPre bodyPost bodyAt0
  rw [show (dats m 0 c).Φ t.castSucc = Pipeline.ΦA spec0 c from rfl, show (dats m 0 c).Φ t.succ = Pipeline.ΦA spec0 c from rfl]
  unfold Dat.owesAt Pipeline.owesWithin
  rw [show (dats m 0 c).owed t.castSucc = 0 from rfl, show (dats m 0 c).owed t.succ = 0 from rfl]
  simp only [before_0, before_1, before_2, before_3, before_4, before_5]
  unfold Pipeline.ΦA
  rw [scopedRest0_eq]
  unfold owns
  iintro ⟨⟨⟨⟨%f10, H10⟩, ⟨%f11, H11⟩⟩, Hg⟩, ⟨%W, -, HW⟩, ⟨%d0, %X1, %x1, H1⟩, ⟨%d1, %X2, %x2, H2⟩, ⟨%d2, %X3, %x3, H3⟩, ⟨%d3, %X4, %x4, H4⟩, ⟨%d4, %X5, %x5, H5⟩, ⟨%d5, %X6, %x6, H6⟩, ⟨%X7, %Y7, %y7, H7⟩, ⟨%X8, %Y8, %y8, H8⟩, ⟨%d8, %X9, %x9, H9⟩⟩
  iapply (run1 c (grid0.coords t) _ _ _ _ _ _ _ _ _ _ _ _ _ _ _ _ _ _ _ _ _ _ X1 X2 X3 X4 X5 X6 _)
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists f10; iapply (Entails.of_eq (pt_whole c cc0_scratch0 f10).symm); iexact H10
  isplitl [H11]; · iexists f11; iapply (Entails.of_eq (pt_whole c cc0_scratch1 f11).symm); iexact H11
  iintro ⟨H1, H2, H3, H4, H5, H6, ⟨%g7, H7⟩, ⟨%g8, H8⟩, ⟨%g9, H9, %q9⟩, ⟨%g10, H10⟩, ⟨%g11, H11⟩⟩
  isplitl [H10 H11 Hg]
  · isplitl [H10 H11]
    · isplitl [H10]
      · iexists g10; iapply (Entails.of_eq (pt_whole c cc0_scratch0 g10)); iexact H10
      iexists g11; iapply (Entails.of_eq (pt_whole c cc0_scratch1 g11)); iexact H11
    iexact Hg
  isplitl [HW]
  · iexists W; isplitr; · ipureintro; exact fun _ _ => Or.inl trivial
    iexact HW
  isplitl [H1]
  · iexists X1; isplitr; · ipureintro; exact x1
    iexact H1
  isplitl [H2]
  · iexists X2; isplitr; · ipureintro; exact x2
    iexact H2
  isplitl [H3]
  · iexists X3; isplitr; · ipureintro; exact x3
    iexact H3
  isplitl [H4]
  · iexists X4; isplitr; · ipureintro; exact x4
    iexact H4
  isplitl [H5]
  · iexists X5; isplitr; · ipureintro; exact x5
    iexact H5
  isplitl [H6]
  · iexists X6; isplitr; · ipureintro; exact x6
    iexact H6
  isplitl [H7]
  · iexists ((st0_6 t).view.read (Elt F) g7); iexists g7; isplitr; rotate_left; · iexact H7
    ipureintro; rfl
  isplitl [H8]
  · iexists ((st0_7 t).view.read (Elt F) g8); iexists g8; isplitr; rotate_left; · iexact H8
    ipureintro; rfl
  iexists g9; isplitr; rotate_left; · iexact H9
  ipureintro; refine q9.trans ?_; rw [x1, x2, x5]; rfl

theorem defs₀_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligationLoose (dats (F := F) m 0 c) (defs₀ (F := F)) 𝒱₀ () Set.univ fgt := fun t => by
  rw [bigSep_W0, bigSep_W0, defs₀_row]
  exact triple_restated (sound m c t) rfl .rfl fun _ => .rfl

set_option backward.isDefEq.respectTransparency.types false in
/-- The run of the program: the arrays not forgotten at what the points leave, every semaphore at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ 𝒱₀ fgt m ρ main
    (hbody := fun c => body_obligation m c) (hq := fun _ _ _ => rfl)
    (howed := fun _ _ => rfl) (V := V m) (hmain := hmain m 𝒱₀) (hA := A_eq m) (hΦ := fun _ _ => rfl)

/-- The scales as the pipeline leaves them. -/
def scG (c : Dev nD) : Buf (Elt F) ((c : Thread nD τ).loc main_v4_2) := (dats m 0 c).arrAt 8 cfg0.N

/-- What the run leaves: the scales, the arguments unchanged, every semaphore at zero. -/
theorem run_post : θ_run defs (onTc (τ := τ) (main (F := F))) ⟨m, fun _ => 0, ρ⟩ (fun r => (∀ c : Dev nD,
      r.2.mem ((c.tc : Thread nD τ).loc main_v4_2) = scG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨((dats m 0 c).toRForget_arrAt_iff (fgt := fgt) (w := 8) rfl _ _).1 ((h.1 c).1 8),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Proof.XQuant
-- ==== Proof.XQuantIdeal.Loops.lean ====
/- The counted loop of the x quantiser's body by what it means: a trip fills the next eight rows of the scale words, from
   the next 256 rows of x and the next 256 signs. What it leaves in the other buffers is not named. -/
module

public import proofs.«01_k».proof.Proof.Rows
public import proofs.«01_k».proof.Proof.Gen.XQuantIdeal.Loops
public import proofs.«01_k».proof.Proof.Gen.XQuantIdeal.Frame
public import Idealize.ShloMosaic.Lib.Pipeline.FrameValue
public import Idealize.ShloMosaic.Lib.Pipeline.Value
public import Idealize.ShloMosaic.Lib.Tactic

@[expose] public section

set_option warn.classDefReducibility false
set_option maxRecDepth 8192
set_option maxHeartbeats 4000000

noncomputable section

namespace Cert.Proof.XQuantIdeal

open Cert.XQuantIdeal Cert.XQuantIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

/-- The scale words of the left half of a tile, from 256 rows of x, their signs and the rotation map. -/
def sc0 (v11 : Vec F S256x256 .bf16) (v14 : Vec F S1x1x256 .bf16) (v16 : Vec F S256x256 .bf16) : IVec S8x128 32 :=
  let v35 := k0_pay7 v11 v14 v16
  let v36 := k0_pay8 v11 v14 v16
  let v37 := k0_pay9 v11 v14 v16
  let v38 := k0_pay10 v11 v14 v16
  let v39 := k0_pay11 v11 v14 v16
  let v40 := k0_pay12 v11 v14 v16
  let v41 := k0_pay13 v11 v14 v16
  let v42 := k0_pay14 v11 v14 v16
  let v43 := k0_pay15 v11 v14 v16
  let v44 := k0_pay16 v11 v14 v16
  let v45 := k0_pay17 v11 v14 v16
  let v46 := k0_pay18 v11 v14 v16
  let v47 := k0_pay19 v11 v14 v16
  let v48 := k0_pay20 v11 v14 v16
  let v49 := k0_pay21 v11 v14 v16
  let v50 := k0_pay22 v11 v14 v16
  let v51 := k0_pay23 v11 v14 v16
  let v52 := k0_pay24 v11 v14 v16
  let v53 := k0_pay25 v11 v14 v16
  let v54 := k0_pay26 v11 v14 v16
  let v98 := k0_pay40 v35
  let v99 := k0_pay41 v35
  let v100 := k0_pay42 v36 v37
  let v101 := k0_pay43 v38 v39
  let v102 := k0_pay44 v40 v41
  let v103 := k0_pay45 v42 v43
  let v104 := k0_pay46 v44 v45
  let v105 := k0_pay47 v46 v47
  let v106 := k0_pay48 v48 v49
  let v107 := k0_pay49 v50 v51
  let v108 := k0_pay50 v52 v53
  let v109 := k0_pay51 v35 v54
  let v110 := k0_pay52 v35
  let v111 := k0_pay53 v35
  let v112 := k0_pay54 v35
  let v113 := k0_pay55 v35
  let v114 := k0_pay56 v35
  let v132 := k0_pay57 v98 v99 v100 v101 v102 v103 v104 v105 v106 v107 v108 v109 v110 v111 v112 v113 v114
  let v134 := k0_pay58 v98 v99 v100 v101 v102 v103 v104 v105 v106 v107 v108 v109 v110 v111 v112 v113 v114
  let v163 := k0_pay59 v98 v99 v100 v101 v102 v103 v104 v105 v106 v107 v108 v109 v110 v111 v112 v113 v114
  let v200 := k0_pay62 v132 v134 v163
  k0_pay230 v200

/-- The scale words of the right half. -/
def sc1 (v11 : Vec F S256x256 .bf16) (v14 : Vec F S1x1x256 .bf16) (v16 : Vec F S256x256 .bf16) : IVec S8x128 32 :=
  let v20 := k0_pay4 v11 v14 v16
  let v1719 := k0_pay236 v20
  let v1720 := k0_pay237 v20
  let v1721 := k0_pay238 v20
  let v1722 := k0_pay239 v20
  let v1723 := k0_pay240 v20
  let v1724 := k0_pay241 v20
  let v1725 := k0_pay242 v20
  let v1726 := k0_pay243 v20
  let v1727 := k0_pay244 v20
  let v1728 := k0_pay245 v20
  let v1729 := k0_pay246 v20
  let v1730 := k0_pay247 v20
  let v1731 := k0_pay248 v20
  let v1732 := k0_pay249 v20
  let v1733 := k0_pay250 v20
  let v1734 := k0_pay251 v20
  let v1735 := k0_pay252 v20
  let v1736 := k0_pay253 v20
  let v1737 := k0_pay254 v20
  let v1738 := k0_pay255 v20
  let v1739 := k0_pay256 v20
  let v1740 := k0_pay257 v20
  let v1741 := k0_pay258 v20
  let v1742 := k0_pay259 v20
  let v1743 := k0_pay260 v20
  let v1792 := k0_pay269 v1736 v1737
  let v1793 := k0_pay270 v1738 v1739
  let v1794 := k0_pay271 v1740 v1741
  let v1795 := k0_pay272 v1742 v1743
  let v1796 := k0_pay273 v1719
  let v1797 := k0_pay274 v1719
  let v1798 := k0_pay275 v1719
  let v1799 := k0_pay276 v1719
  let v1800 := k0_pay277 v1720 v1721 v1722 v1723
  let v1801 := k0_pay278 v1724 v1725 v1726 v1727
  let v1802 := k0_pay279 v1728 v1729 v1730 v1731
  let v1803 := k0_pay280 v1732 v1733 v1734 v1735
  let v1816 := k0_pay281 v1792 v1793 v1794 v1795 v1796 v1797 v1798 v1799 v1800 v1801 v1802 v1803
  let v1818 := k0_pay282 v1792 v1793 v1794 v1795 v1796 v1797 v1798 v1799 v1800 v1801 v1802 v1803
  let v1847 := k0_pay283 v1792 v1793 v1794 v1795 v1796 v1797 v1798 v1799 v1800 v1801 v1802 v1803
  let v1849 := k0_pay284 v1792 v1793 v1794 v1795 v1796 v1797 v1798 v1799 v1800 v1801 v1802 v1803
  let v1850 := k0_pay285
  let v1884 := k0_pay288 v1816 v1818 v1847 v1849 v1850
  k0_pay445 v1884

/-- Row `k` of the signs. -/
def tokOf (X2 : S8x1x256.Idx → Elt F .bf16) (k : ℕ) (hk : k < 8) (z : S1x1x256.Idx) : Elt F .bf16 :=
  X2 (fun a => match a with | 0 => ⟨k, hk⟩ | 1 => ⟨0, by decide⟩ | 2 => z 2)

theorem readAt_tok {sig : RefSig} {κ : Kind} {sp : Space} (v : View sig κ sp S8x1x256 .bf16) (f : v.ty.Contents (Elt F)) (off : Fin 3 → ℕ)
    (inb : ∀ a, off a + S1x1x256.size a ≤ S8x1x256.size a) (k : ℕ) (hk : k < 8) (hoff : off = ![k, 0, 0]) :
    v.readAt (Elt F) (Rect.unit (s := S8x1x256) off S1x1x256.size inb).toLoadRect f = tokOf (v.read (Elt F) f) k hk := by
  subst hoff
  funext z
  refine congrArg (v.read (Elt F) f) (funext fun a => Fin.ext ?_)
  match a with
  | 0 => have : (z 0).val < 1 := (z 0).isLt
         show k + 1 * (z 0).val = k; omega
  | 1 => have : (z 1).val < 1 := (z 1).isLt
         show 0 + 1 * (z 1).val = 0; omega
  | 2 => show 0 + 1 * (z 2).val = (z 2).val; omega

/-- The scale words of a block of 256 columns of x. -/
def scX (X1 : S2048x256.Idx → Elt F .bf16) (X2 : S8x1x256.Idx → Elt F .bf16) (X5 : S256x256.Idx → Elt F .bf16) (y : S64x256.Idx) : BitVec 32 :=
  have h0 : (y 0).val < 64 := (y 0).isLt
  have h1 : (y 1).val < 256 := (y 1).isLt
  if h : (y 1).val < 128 then
    sc0 (F := F) (rowsOf 256 X1 ((y 0).val / 8) (by omega)) (tokOf X2 ((y 0).val / 8) (by omega)) X5 (ix ((y 0).val % 8) (y 1).val (Nat.mod_lt _ (by decide)) h)
  else
    sc1 (F := F) (rowsOf 256 X1 ((y 0).val / 8) (by omega)) (tokOf X2 ((y 0).val / 8) (by omega)) X5 (ix ((y 0).val % 8) ((y 1).val - 128) (Nat.mod_lt _ (by decide)) (by show _ < 128; omega))

theorem scX_left (X1 : S2048x256.Idx → Elt F .bf16) (X2 : S8x1x256.Idx → Elt F .bf16) (X5 : S256x256.Idx → Elt F .bf16) (k : ℕ) (hk : k < 8)
    (x : S8x128.Idx) (z : S64x256.Idx) (h0 : (z 0).val = 8 * k + (x 0).val) (h1 : (z 1).val = 0 + (x 1).val) :
    sc0 (F := F) (rowsOf 256 X1 k (by omega)) (tokOf X2 k hk) X5 x = scX X1 X2 X5 z := by
  have hx : (x 0).val < 8 := (x 0).isLt
  have hx1 : (x 1).val < 128 := (x 1).isLt
  have e : (z 0).val / 8 = k := by omega
  subst e
  refine Eq.trans ?_ (dif_pos (by omega)).symm
  exact congrArg _ (ix_ext _ _ (by show _ = (z 0).val % 8; omega) (by show _ = (z 1).val; omega))

theorem scX_right (X1 : S2048x256.Idx → Elt F .bf16) (X2 : S8x1x256.Idx → Elt F .bf16) (X5 : S256x256.Idx → Elt F .bf16) (k : ℕ) (hk : k < 8)
    (x : S8x128.Idx) (z : S64x256.Idx) (h0 : (z 0).val = 8 * k + (x 0).val) (h1 : (z 1).val = 128 + (x 1).val) :
    sc1 (F := F) (rowsOf 256 X1 k (by omega)) (tokOf X2 k hk) X5 x = scX X1 X2 X5 z := by
  have hx : (x 0).val < 8 := (x 0).isLt
  have hx1 : (x 1).val < 128 := (x 1).isLt
  have e : (z 0).val / 8 = k := by omega
  subst e
  refine Eq.trans ?_ (dif_neg (by omega)).symm
  exact congrArg _ (ix_ext _ _ (by show _ = (z 0).val % 8; omega) (by show _ = (z 1).val - 128; omega))

@[sl_loop] def loopInv1 (c : Dev nD) (i : grid0.Coords) (arg1 : Memref sig .tc .vmem S2048x256 .bf16) (harg1 : arg1.IsWhole) (arg2 : Memref sig .tc .vmem S8x1x256 .bf16) (harg2 : arg2.IsWhole) (arg3 : Memref sig .tc .vmem S2048x128 .i8) (harg3 : arg3.IsWhole) (arg4 : Memref sig .tc .vmem S2048x128 .i8) (harg4 : arg4.IsWhole) (arg5 : Memref sig .tc .vmem S256x256 .bf16) (harg5 : arg5.IsWhole) (arg6 : Memref sig .tc .vmem S2x8x128 .i32) (harg6 : arg6.IsWhole) (arg7 : Memref sig .tc .vmem S256x2048 .bf16) (harg7 : arg7.IsWhole) (arg8 : Memref sig .tc .vmem S1024x256 .i8) (harg8 : arg8.IsWhole) (arg9 : Memref sig .tc .vmem S64x256 .i8) (harg9 : arg9.IsWhole) (arg10 : Memref sig .tc .vmem S2x32x128 .i32) (harg10 : arg10.IsWhole) (arg11 : Memref sig .tc .vmem S64x256 .i32) (harg11 : arg11.IsWhole) (v0 v2 : Vec F S1x8x128 .i32)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) :
    LoopInvTy_k0_t1 (F := F) Unit ℕ (UU nD τ) ℕ 𝒱₀ c none Set.univ i arg1 harg1 arg2 harg2 arg3 harg3 arg4 harg4 arg5 harg5 arg6 harg6 arg7 harg7 arg8 harg8 arg9 harg9 arg10 harg10 arg11 harg11 v0 v2 where
  inv := fun k _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f7, (arg7.view.loc (c : Thread nD τ) ↦[arg7.view.set]{fullShare} f7)) ∗ (∃ f8, (arg8.view.loc (c : Thread nD τ) ↦[arg8.view.set]{fullShare} f8)) ∗ (∃ f10, (arg10.view.loc (c : Thread nD τ) ↦[arg10.view.set]{fullShare} f10)) ∗ (∃ f11, (arg11.view.loc (c : Thread nD τ) ↦[arg11.view.set]{fullShare} f11) ∗ ⌜Upto (8 * k) (scX (arg1.view.read (Elt F) X1) (arg2.view.read (Elt F) X2) (arg5.view.read (Elt F) X5)) (arg11.view.read (Elt F) f11)⌝))
  step := fun k acc => by
    have hk : k.val < 8 := Nat.lt_of_lt_of_le k.isLt k0_t1_abs.2.1
    unfold k0_t1_body
    iintro ⟨HR1, HR2, HR3, HR4, HR5, ⟨%f7, HW7⟩, ⟨%f8, HW8⟩, ⟨%f10, HW10⟩, ⟨%f11, HW11, %h11⟩⟩
    sl_exec
    sl_step
    isplitl [HR1]; · iexact HR1
    isplitl [HR2]; · iexact HR2
    isplitl [HR3]; · iexact HR3
    isplitl [HR4]; · iexact HR4
    isplitl [HR5]; · iexact HR5
    isplitl [HW7]; · iexists _; iexact HW7
    isplitl [HW8]; · iexists _; iexact HW8
    isplitl [HW10]; · iexists _; iexact HW10
    iexists _; isplitl [HW11]; · iexact HW11
    ipureintro
    have e1 := readAt_rows (H := 256) arg1.view X1 _ (k0_off1_inb k) (k0_off1_eq k) (j := k.val) (by omega)
    have e2 := readAt_tok arg2.view X2 _ (k0_off2_inb k) k.val hk (k0_off2_eq k)
    have e5 : arg5.view.readAt (Elt F) (Rect.unit (s := S256x256) ![0, 0] S256x256.size inb_S256x256_S256x256_0_0).toLoadRect X5 = arg5.view.read (Elt F) X5 := View.readAt_full arg5.view X5 inb_S256x256_S256x256_0_0
    intro y hy
    refine agree_cons arg11.view f11 (8 * k.val) 128 _ (k0_off6_inb k) _ _ _ y (k0_off6_eq k) ?_ fun n2 => agree_cons arg11.view f11 (8 * k.val) 0 _ (k0_off4_inb k) _ _ _ y (k0_off4_eq k) ?_ fun n1 => h11 y ?_
    · intro x z z0 z1
      rw [← scX_right _ _ _ k.val hk x z z0 z1, ← e1, ← e2, ← e5]
      rfl
    · intro x z z0 z1
      rw [← scX_left _ _ _ k.val hk x z z0 z1, ← e1, ← e2, ← e5]
      rfl
    · have : (y 1).val < 256 := (y 1).isLt
      omega

end Cert.Proof.XQuantIdeal
-- ==== Proof.XQuantIdeal.Run.lean ====
/- The x quantiser's body at every point and the run of the whole call: what it leaves in the scales is named, what it leaves
   in the two other results is not. -/
module

public import proofs.«01_k».proof.Proof.XQuantIdeal.Loops
public import proofs.«01_k».proof.Proof.Gen.XQuantIdeal.Frame

@[expose] public section

set_option maxRecDepth 8192
set_option maxHeartbeats 4000000

noncomputable section

namespace Cert.Proof.XQuantIdeal

open Cert.XQuantIdeal Cert.XQuantIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]
local notation "𝕄" => MT nD τ sig Unit (Elt F) ℕ (UU nD τ) ℕ

/-- The body, whatever the buffers it writes held. -/
theorem run1 (c : Dev nD) (i : grid0.Coords) (arg1 : Memref sig .tc .vmem S2048x256 .bf16) (harg1 : arg1.IsWhole) (arg2 : Memref sig .tc .vmem S8x1x256 .bf16) (harg2 : arg2.IsWhole) (arg3 : Memref sig .tc .vmem S2048x128 .i8) (harg3 : arg3.IsWhole) (arg4 : Memref sig .tc .vmem S2048x128 .i8) (harg4 : arg4.IsWhole) (arg5 : Memref sig .tc .vmem S256x256 .bf16) (harg5 : arg5.IsWhole) (arg6 : Memref sig .tc .vmem S2x8x128 .i32) (harg6 : arg6.IsWhole) (arg7 : Memref sig .tc .vmem S256x2048 .bf16) (harg7 : arg7.IsWhole) (arg8 : Memref sig .tc .vmem S1024x256 .i8) (harg8 : arg8.IsWhole) (arg9 : Memref sig .tc .vmem S64x256 .i8) (harg9 : arg9.IsWhole) (arg10 : Memref sig .tc .vmem S2x32x128 .i32) (harg10 : arg10.IsWhole) (arg11 : Memref sig .tc .vmem S64x256 .i32) (harg11 : arg11.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (K : PUnit → sProp 𝕄) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f7, (arg7.view.loc (c : Thread nD τ) ↦[arg7.view.set]{fullShare} f7)) ∗ (∃ f8, (arg8.view.loc (c : Thread nD τ) ↦[arg8.view.set]{fullShare} f8)) ∗ (∃ f9, (arg9.view.loc (c : Thread nD τ) ↦[arg9.view.set]{fullShare} f9)) ∗ (∃ f10, (arg10.view.loc (c : Thread nD τ) ↦[arg10.view.set]{fullShare} f10)) ∗ (∃ f11, (arg11.view.loc (c : Thread nD τ) ↦[arg11.view.set]{fullShare} f11)) ∗ ((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f7, (arg7.view.loc (c : Thread nD τ) ↦[arg7.view.set]{fullShare} f7)) ∗ (∃ f8, (arg8.view.loc (c : Thread nD τ) ↦[arg8.view.set]{fullShare} f8)) ∗ (∃ f9, (arg9.view.loc (c : Thread nD τ) ↦[arg9.view.set]{fullShare} f9) ∗ ⌜arg9.view.read (Elt F) f9 = k0_pay3 (F := F) (scX (arg1.view.read (Elt F) X1) (arg2.view.read (Elt F) X2) (arg5.view.read (Elt F) X5))⌝) ∗ (∃ f10, (arg10.view.loc (c : Thread nD τ) ↦[arg10.view.set]{fullShare} f10)) ∗ (∃ f11, (arg11.view.loc (c : Thread nD τ) ↦[arg11.view.set]{fullShare} f11)) -∗ K ⟨⟩))
      ⊢ wp frame (wpE (defs₀ (F := F)) 𝒱₀ (c : Thread nD τ) none) Set.univ (cc0_x_quant i arg1 harg1 arg2 harg2 arg3 harg3 arg4 harg4 arg5 harg5 arg6 harg6 arg7 harg7 arg8 harg8 arg9 harg9 arg10 harg10 arg11 harg11) K := by
  simp only [cc0_x_quant_eq_skeleton]; unfold cc0_x_quant_skel
  iintro ⟨HR1, HR2, HR3, HR4, HR5, HR6, ⟨%f7, HW7⟩, ⟨%f8, HW8⟩, ⟨%f9, HW9⟩, ⟨%f10, HW10⟩, ⟨%f11, HW11⟩, Hk⟩
  have z11 : Upto (8 * 0) (scX (arg1.view.read (Elt F) X1) (arg2.view.read (Elt F) X2) (arg5.view.read (Elt F) X5)) (arg11.view.read (Elt F) f11) := Upto.zero _ _
  sl_exec
  sl_step
  iapply Hk
  isplitl [HR1]; · iexact HR1
  isplitl [HR2]; · iexact HR2
  isplitl [HR3]; · iexact HR3
  isplitl [HR4]; · iexact HR4
  isplitl [HR5]; · iexact HR5
  isplitl [HR6]; · iexact HR6
  isplitl [HW7]; · iexists _; iexact HW7
  isplitl [HW8]; · iexists _; iexact HW8
  isplitl [HW9]
  · iexists _; isplitl [HW9]; · iexact HW9
    ipureintro
    exact (View.read_writes_full arg9.view f9 inb_S64x256_S64x256_0_0 _ _).trans (congrArg (k0_pay3 (F := F)) ((View.readAt_full arg11.view _ inb_S64x256_S64x256_0_0).trans (Upto.all (by assumption) (by decide))))
  isplitl [HW10]; · iexists _; iexact HW10
  iexists _; iexact HW11

variable (m : (ℓ : Loc nD τ sig) → Buf (Elt F) ℓ) (ρ : Dev nD → PrngReg)

/-- The scales point `t` leaves in its block. -/
def scO (c : Dev nD) (t : Fin cfg0.N) : S64x256.Idx → Elt F .i8 := k0_pay3 (F := F) (scX (iblk m c 0 t) (iblk m c 1 t) (iblk m c 4 t))

/-- The proof data of the call; the codes and the transposed input are left unnamed. -/
def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Dat.unnamed 6 t
    | ⟨7, _⟩ => Dat.unnamed 7 t
    | ⟨8, _⟩ => scO m c t
    | ⟨_ + 9, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := rfl

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d
theorem before_3 (c : Dev nD) (t : Fin cfg0.N) (d) : (dats m 0 c).before 3 t d = iblk m c 3 t :=
  before0_3_of m (dats m 0 c) rfl (fun _ => rfl) t d
theorem before_4 (c : Dev nD) (t : Fin cfg0.N) (d) : (dats m 0 c).before 4 t d = iblk m c 4 t :=
  before0_4_of m (dats m 0 c) rfl (fun _ => rfl) t d
theorem before_5 (c : Dev nD) (t : Fin cfg0.N) (d) : (dats m 0 c).before 5 t d = iblk m c 5 t :=
  before0_5_of m (dats m 0 c) rfl (fun _ => rfl) t d

/-- The windows nothing is said of. -/
def fgt : Fin cfg0.W → Bool := fun w => w.val == 6 || w.val == 7

/-- A whole scratch buffer held, in the launch's words. -/
theorem pt_whole (c : Dev nD) (b : Ref sig .tc) (f : Buf (Elt F) ((c : Thread nD τ).loc b)) :
    ((Memref.whole b).view.loc (c : Thread nD τ) ↦[(Memref.whole b).view.set]{fullShare} f : sProp 𝕄) = (((c : Thread nD τ).loc b) ↦{fullShare} f) :=
  congrArg (fun S => (((c : Thread nD τ).loc b) ↦[S]{fullShare} f : sProp 𝕄)) (View.set_whole b)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X)
    ∗ (∃ X, owns (c : Thread nD τ) (st0_7 t) fullShare X)
    ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X)
    ∗ (∃ X, owns (c : Thread nD τ) (st0_7 t) fullShare X)
    ∗ owns (c : Thread nD τ) (st0_8 t) fullShare ((dats m 0 c).after 8 t))

theorem sound (c : Dev nD) (t : Fin cfg0.N) :
    bodyPre m c t ⊢ wp frame (wpE (defs₀ (F := F)) 𝒱₀ c none) Set.univ (bodyAt0 t) (fun _ => bodyPost m c t) := by
  unfold bodyPre bodyPost bodyAt0
  rw [show (dats m 0 c).Φ t.castSucc = Pipeline.ΦA spec0 c from rfl, show (dats m 0 c).Φ t.succ = Pipeline.ΦA spec0 c from rfl]
  unfold Dat.owesAt Pipeline.owesWithin
  rw [show (dats m 0 c).owed t.castSucc = 0 from rfl, show (dats m 0 c).owed t.succ = 0 from rfl]
  simp only [before_0, before_1, before_2, before_3, before_4, before_5]
  unfold Pipeline.ΦA
  rw [scopedRest0_eq]
  unfold owns
  iintro ⟨⟨⟨⟨%f10, H10⟩, ⟨%f11, H11⟩⟩, Hg⟩, ⟨%W, -, HW⟩, ⟨%d0, %X1, %x1, H1⟩, ⟨%d1, %X2, %x2, H2⟩, ⟨%d2, %X3, %x3, H3⟩, ⟨%d3, %X4, %x4, H4⟩, ⟨%d4, %X5, %x5, H5⟩, ⟨%d5, %X6, %x6, H6⟩, ⟨%X7, %Y7, %y7, H7⟩, ⟨%X8, %Y8, %y8, H8⟩, ⟨%d8, %X9, %x9, H9⟩⟩
  iapply (run1 c (grid0.coords t) _ _ _ _ _ _ _ _ _ _ _ _ _ _ _ _ _ _ _ _ _ _ X1 X2 X3 X4 X5 X6 _)
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists f10; iapply (Entails.of_eq (pt_whole c cc0_scratch0 f10).symm); iexact H10
  isplitl [H11]; · iexists f11; iapply (Entails.of_eq (pt_whole c cc0_scratch1 f11).symm); iexact H11
  iintro ⟨H1, H2, H3, H4, H5, H6, ⟨%g7, H7⟩, ⟨%g8, H8⟩, ⟨%g9, H9, %q9⟩, ⟨%g10, H10⟩, ⟨%g11, H11⟩⟩
  isplitl [H10 H11 Hg]
  · isplitl [H10 H11]
    · isplitl [H10]
      · iexists g10; iapply (Entails.of_eq (pt_whole c cc0_scratch0 g10)); iexact H10
      iexists g11; iapply (Entails.of_eq (pt_whole c cc0_scratch1 g11)); iexact H11
    iexact Hg
  isplitl [HW]
  · iexists W; isplitr; · ipureintro; exact fun _ _ => Or.inl trivial
    iexact HW
  isplitl [H1]
  · iexists X1; isplitr; · ipureintro; exact x1
    iexact H1
  isplitl [H2]
  · iexists X2; isplitr; · ipureintro; exact x2
    iexact H2
  isplitl [H3]
  · iexists X3; isplitr; · ipureintro; exact x3
    iexact H3
  isplitl [H4]
  · iexists X4; isplitr; · ipureintro; exact x4
    iexact H4
  isplitl [H5]
  · iexists X5; isplitr; · ipureintro; exact x5
    iexact H5
  isplitl [H6]
  · iexists X6; isplitr; · ipureintro; exact x6
    iexact H6
  isplitl [H7]
  · iexists ((st0_6 t).view.read (Elt F) g7); iexists g7; isplitr; rotate_left; · iexact H7
    ipureintro; rfl
  isplitl [H8]
  · iexists ((st0_7 t).view.read (Elt F) g8); iexists g8; isplitr; rotate_left; · iexact H8
    ipureintro; rfl
  iexists g9; isplitr; rotate_left; · iexact H9
  ipureintro; refine q9.trans ?_; rw [x1, x2, x5]; rfl

theorem defs₀_row (t : Fin cfg0.N) :
    defs₀ (F := F) .tc cfg0.body (cfg0.bodyArgs t (cfg0.slots t)) = bodyAt0 t := by
  unfold defs₀; rw [Defs.onTc_tc]

/-- The body at every point. -/
theorem body_obligation (c : Dev nD) : BodyObligationLoose (dats (F := F) m 0 c) (defs₀ (F := F)) 𝒱₀ () Set.univ fgt := fun t => by
  rw [bigSep_W0, bigSep_W0, defs₀_row]
  exact triple_restated (sound m c t) rfl .rfl fun _ => .rfl

set_option backward.isDefEq.respectTransparency.types false in
/-- The run of the program: the arrays not forgotten at what the points leave, every semaphore at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ 𝒱₀ fgt m ρ main
    (hbody := fun c => body_obligation m c) (hq := fun _ _ _ => rfl)
    (howed := fun _ _ => rfl) (V := V m) (hmain := hmain m 𝒱₀) (hA := A_eq m) (hΦ := fun _ _ => rfl)

/-- The scales as the pipeline leaves them. -/
def scG (c : Dev nD) : Buf (Elt F) ((c : Thread nD τ).loc main_v4_2) := (dats m 0 c).arrAt 8 cfg0.N

/-- What the run leaves: the scales, the arguments unchanged, every semaphore at zero. -/
theorem run_post : θ_run defs (onTc (τ := τ) (main (F := F))) ⟨m, fun _ => 0, ρ⟩ (fun r => (∀ c : Dev nD,
      r.2.mem ((c.tc : Thread nD τ).loc main_v4_2) = scG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨((dats m 0 c).toRForget_arrAt_iff (fgt := fgt) (w := 8) rfl _ _).1 ((h.1 c).1 8),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Proof.XQuantIdeal
-- ==== Proof.XQuantIdeal.Scale.lean ====
/- The exponent field found by the search, and the scale words of a tile: the largest magnitude of 32 rotated values, over six. -/
module
public import proofs.«01_k».proof.Proof.Value
public import proofs.«01_k».proof.Proof.XQuantIdeal.Run
public import Idealize.ShloMosaic.Lib.Pointwise
public import Idealize.ShloMosaic.Lib.Pipeline.ValueKit
public import Idealize.ShloMosaic.PureOps.Ideal.Laws

@[expose] public section
noncomputable section
namespace Cert.Proof.XValue
open Idealize.ShloMosaic Cert.Rows Finset Cert.Proof.Value

/-- One step of the search for the exponent field: the bit `b` is added where `p` reaches the power of two whose field is the sum. -/
def stepw (p : EReal) (w b : BitVec 32) : BitVec 32 :=
  if p < Ideal.ofBits .f32 (IntOp.shli .vector (IntOp.addi w b) 23#32) then w else IntOp.addi w b
/-- The search, the highest bit first. -/
def fieldw (p : EReal) : BitVec 32 :=
  stepw p (stepw p (stepw p (stepw p (stepw p (stepw p (stepw p (stepw p 0#32 128#32) 64#32) 32#32) 16#32) 8#32) 4#32) 2#32) 1#32

/-- The value whose exponent field is `t` and whose fraction is nothing. -/
def thr (t : ℕ) : EReal := Ideal.ofBits .f32 (BitVec.ofNat 32 t <<< 23)

theorem thr_bits : ∀ t < 256, ((BitVec.ofNat 32 t <<< 23).extractLsb' 31 1 == 1#1) = false ∧ ((BitVec.ofNat 32 t <<< 23).extractLsb' 23 8).toNat = t ∧
    ((BitVec.ofNat 32 t <<< 23).extractLsb' 0 23).toNat = 0 := by decide +kernel

theorem thr_top : thr 255 = ⊤ := by
  obtain ⟨h1, h2, h3⟩ := thr_bits 255 (by norm_num)
  simp only [thr, Ideal.ofBits, Ideal.ieee, Nat.reduceAdd, h1, h2, h3]
  norm_num

theorem thr_mid (t : ℕ) (h0 : 0 < t) (h : t < 255) : thr t = (((2 : ℝ) ^ 23 * 2 ^ ((t : ℤ) - 150) : ℝ) : EReal) := by
  obtain ⟨h1, h2, h3⟩ := thr_bits t (by omega)
  simp only [thr, Ideal.ofBits, Ideal.ieee, Nat.reduceAdd, h1, h2, h3]
  rw [if_neg (show ¬ t = 2 ^ 8 - 1 by omega), if_neg (show ¬ t = 0 by omega)]
  refine congrArg Real.toEReal ?_
  rw [show ((t : ℤ) - (2 ^ (8 - 1) - 1) - (23 : ℕ)) = (t : ℤ) - 150 by norm_num; ring]
  norm_num

theorem thr_mono {s t : ℕ} (h0 : 0 < s) (hst : s ≤ t) (h : t < 256) : thr s ≤ thr t := by
  rcases Nat.lt_or_ge t 255 with ht | ht
  · rw [thr_mid s h0 (by omega), thr_mid t (by omega) ht]
    exact EReal.coe_le_coe_iff.2 (mul_le_mul_of_nonneg_left (zpow_le_zpow_right₀ (by norm_num) (by omega)) (by norm_num))
  · rw [show t = 255 by omega, thr_top]
    exact le_top

open Classical in
/-- The number of powers of two that `p` reaches. -/
def cnt (p : EReal) : ℕ := ((range 255).filter fun t => thr (t + 1) ≤ p).card

theorem cnt_le (p : EReal) : cnt p ≤ 255 := (card_filter_le _ _).trans (card_range _).le

open Classical in
theorem lt_thr (p : EReal) (t : ℕ) (h0 : 0 < t) (h : t < 256) : p < thr t ↔ cnt p < t := by
  constructor
  · intro hp
    have : ((range 255).filter fun s => thr (s + 1) ≤ p) ⊆ range (t - 1) := by
      intro s hs
      obtain ⟨hs, hp'⟩ := mem_filter.1 hs
      by_contra hn
      exact absurd (lt_of_lt_of_le hp (thr_mono h0 (by simp only [mem_range] at hn; omega) (by simp only [mem_range] at hs; omega))) (not_lt.2 hp')
    have := card_le_card this
    rw [card_range] at this
    unfold cnt
    exact lt_of_le_of_lt this (by omega)
  · intro hc
    by_contra hp
    have : range t ⊆ ((range 255).filter fun s => thr (s + 1) ≤ p) := by
      intro s hs
      rw [mem_range] at hs
      exact mem_filter.2 ⟨mem_range.2 (by omega), (thr_mono (by omega) (by omega) h).trans (not_lt.1 hp)⟩
    have := card_le_card this
    rw [card_range] at this
    unfold cnt at hc
    exact absurd (lt_of_lt_of_le hc this) (lt_irrefl _)

theorem shl23 (e : ℕ) : IntOp.shli .vector (BitVec.ofNat 32 e) 23#32 = BitVec.ofNat 32 e <<< 23 := by
  unfold IntOp.shli
  rw [if_pos (by decide)]
  rfl

theorem step_ok (p : EReal) (b : ℕ) (w : BitVec 32) (hb : 0 < b) (hw : ∃ e, w = BitVec.ofNat 32 e ∧ e ≤ cnt p ∧ cnt p < e + 2 * b ∧ e + 2 * b ≤ 256) :
    ∃ e, stepw p w (BitVec.ofNat 32 b) = BitVec.ofNat 32 e ∧ e ≤ cnt p ∧ cnt p < e + b ∧ e + b ≤ 256 := by
  obtain ⟨e, rfl, h1, h2, h3⟩ := hw
  have ha : IntOp.addi (BitVec.ofNat 32 e) (BitVec.ofNat 32 b) = BitVec.ofNat 32 (e + b) := (BitVec.ofNat_add ..).symm
  unfold stepw
  rw [ha, shl23]
  change ∃ e', (if p < thr (e + b) then _ else _) = _ ∧ _
  by_cases hp : p < thr (e + b)
  · rw [if_pos hp]
    exact ⟨e, rfl, h1, (lt_thr p _ (by omega) (by omega)).1 hp, by omega⟩
  · rw [if_neg hp]
    rw [lt_thr p _ (by omega) (by omega)] at hp
    exact ⟨e + b, rfl, by omega, by omega, by omega⟩

/-- The search finds the number of powers of two reached. -/
theorem fieldw_eq (p : EReal) : fieldw p = BitVec.ofNat 32 (cnt p) := by
  obtain ⟨e, h, h1, h2, _⟩ := step_ok p 1 _ (by norm_num) (step_ok p 2 _ (by norm_num) (step_ok p 4 _ (by norm_num) (step_ok p 8 _ (by norm_num)
    (step_ok p 16 _ (by norm_num) (step_ok p 32 _ (by norm_num) (step_ok p 64 _ (by norm_num) (step_ok p 128 0#32 (by norm_num)
      ⟨0, rfl, by omega, by have := cnt_le p; omega, by omega⟩)))))))
  rw [show cnt p = e by omega]
  exact h

/-- The scale word of a block whose largest magnitude over six is `p`: the exponent plus its bias plus one, with exponent nothing for a block of zeros. -/
def scw (p : EReal) : BitVec 32 := IntOp.addi (if p = 0 then 126#32 else fieldw p) 1#32

/-- The magnitude. -/
def ab (x : EReal) : EReal := FloatOps.absf (F := Ideal) (φ := .f32) x
/-- The factor 1/6 as rounded. -/
def c6 : EReal := Ideal.ofBits .f32 1042983595#32

theorem tree_sup (f : ℕ → EReal) : max (max (max (max (max (f 0) (f 1)) (max (f 2) (f 3))) (max (max (f 4) (f 5)) (max (f 6) (f 7)))) (max (max (max (f 8) (f 9)) (max (f 10) (f 11))) (max (max (f 12) (f 13)) (max (f 14) (f 15))))) (max (max (max (max (f 16) (f 17)) (max (f 18) (f 19))) (max (max (f 20) (f 21)) (max (f 22) (f 23)))) (max (max (max (f 24) (f 25)) (max (f 26) (f 27))) (max (max (f 28) (f 29)) (max (f 30) (f 31))))) = (range 32).sup f := by
  refine le_antisymm ?_ (Finset.sup_le fun k hk => ?_)
  · simp only [max_le_iff]
    refine ⟨⟨⟨⟨⟨?_, ?_⟩, ⟨?_, ?_⟩⟩, ⟨⟨?_, ?_⟩, ⟨?_, ?_⟩⟩⟩, ⟨⟨⟨?_, ?_⟩, ⟨?_, ?_⟩⟩, ⟨⟨?_, ?_⟩, ⟨?_, ?_⟩⟩⟩⟩, ⟨⟨⟨⟨?_, ?_⟩, ⟨?_, ?_⟩⟩, ⟨⟨?_, ?_⟩, ⟨?_, ?_⟩⟩⟩, ⟨⟨⟨?_, ?_⟩, ⟨?_, ?_⟩⟩, ⟨⟨?_, ?_⟩, ⟨?_, ?_⟩⟩⟩⟩⟩ <;> exact Finset.le_sup (f := f) (mem_range.2 (by norm_num))
  · rw [mem_range] at hk
    interval_cases k <;> simp only [le_max_iff, le_refl, true_or, or_true]

/-- The largest magnitude of the 32 rows of phase `g` of column `l`. -/
def mx {R C : ℕ} (V : (⟨2, ![R, C]⟩ : Shape).Idx → EReal) (g l : ℕ) : EReal := (range 32).sup fun k => ab (rd V (8 * k + g) l)

section Kernel
open Cert.XQuantIdeal Cert.XQuantIdeal.Gen Cert.Proof.XQuantIdeal Cert.Proof.Value

theorem pay62_at (v98 : FVec Ideal S8x128 .f32) (v99 : FVec Ideal S8x128 .f32) (v100 : FVec Ideal S8x128 .f32) (v101 : FVec Ideal S8x128 .f32) (v102 : FVec Ideal S8x128 .f32) (v103 : FVec Ideal S8x128 .f32) (v104 : FVec Ideal S8x128 .f32) (v105 : FVec Ideal S8x128 .f32) (v106 : FVec Ideal S8x128 .f32) (v107 : FVec Ideal S8x128 .f32) (v108 : FVec Ideal S8x128 .f32) (v109 : FVec Ideal S8x128 .f32) (v110 : FVec Ideal S8x128 .f32) (v111 : FVec Ideal S8x128 .f32) (v112 : FVec Ideal S8x128 .f32) (v113 : FVec Ideal S8x128 .f32) (v114 : FVec Ideal S8x128 .f32) (y : S8x128.Idx) :
    k0_pay62 (F := Ideal) (k0_pay57 v98 v99 v100 v101 v102 v103 v104 v105 v106 v107 v108 v109 v110 v111 v112 v113 v114) (k0_pay58 v98 v99 v100 v101 v102 v103 v104 v105 v106 v107 v108 v109 v110 v111 v112 v113 v114) (k0_pay59 v98 v99 v100 v101 v102 v103 v104 v105 v106 v107 v108 v109 v110 v111 v112 v113 v114) y =
      scw (k0_pay57 (F := Ideal) v98 v99 v100 v101 v102 v103 v104 v105 v106 v107 v108 v109 v110 v111 v112 v113 v114 y) := by
  simp only [k0_pay58, k0_pay59]
  generalize k0_pay57 (F := Ideal) v98 v99 v100 v101 v102 v103 v104 v105 v106 v107 v108 v109 v110 v111 v112 v113 v114 = P
  pointwise [k0_pay62, k0_pay60]
  rfl

theorem pay288_at (v1792 : FVec Ideal S8x128 .f32) (v1793 : FVec Ideal S8x128 .f32) (v1794 : FVec Ideal S8x128 .f32) (v1795 : FVec Ideal S8x128 .f32) (v1796 : FVec Ideal S8x128 .f32) (v1797 : FVec Ideal S8x128 .f32) (v1798 : FVec Ideal S8x128 .f32) (v1799 : FVec Ideal S8x128 .f32) (v1800 : FVec Ideal S8x128 .f32) (v1801 : FVec Ideal S8x128 .f32) (v1802 : FVec Ideal S8x128 .f32) (v1803 : FVec Ideal S8x128 .f32) (y : S8x128.Idx) :
    k0_pay288 (F := Ideal) (k0_pay281 v1792 v1793 v1794 v1795 v1796 v1797 v1798 v1799 v1800 v1801 v1802 v1803) (k0_pay282 v1792 v1793 v1794 v1795 v1796 v1797 v1798 v1799 v1800 v1801 v1802 v1803) (k0_pay283 v1792 v1793 v1794 v1795 v1796 v1797 v1798 v1799 v1800 v1801 v1802 v1803) (k0_pay284 v1792 v1793 v1794 v1795 v1796 v1797 v1798 v1799 v1800 v1801 v1802 v1803) k0_pay285 y =
      scw (k0_pay281 (F := Ideal) v1792 v1793 v1794 v1795 v1796 v1797 v1798 v1799 v1800 v1801 v1802 v1803 y) := by
  simp only [k0_pay282, k0_pay283, k0_pay284]
  generalize k0_pay281 (F := Ideal) v1792 v1793 v1794 v1795 v1796 v1797 v1798 v1799 v1800 v1801 v1802 v1803 = P
  pointwise [k0_pay288, k0_pay286, k0_pay285]
  rfl

theorem pay230_at (w : IVec S8x128 32) (y : S8x128.Idx) : k0_pay230 w y = w y := by pointwise [k0_pay230]
theorem pay445_at (w : IVec S8x128 32) (y : S8x128.Idx) : k0_pay445 w y = w y := by pointwise [k0_pay445]

theorem sc0_at (v11 : Vec Ideal S256x256 .bf16) (v14 : Vec Ideal S1x1x256 .bf16) (v16 : Vec Ideal S256x256 .bf16) (y : S8x128.Idx) :
    sc0 (F := Ideal) v11 v14 v16 y = scw (mx (k0_pay4 (F := Ideal) v11 v14 v16) (y 0).val (y 1).val * c6) := by
  unfold sc0
  refine (pay230_at _ y).trans ((pay62_at _ _ _ _ _ _ _ _ _ _ _ _ _ _ _ _ _ _).trans ?_)
  simp only [k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57]
  generalize k0_pay4 (F := Ideal) v11 v14 v16 = V
  have ht := tree_sup fun k => ab (rd V (8 * k + (y 0).val) (y 1).val)
  simp only [Nat.reduceMul, Nat.zero_add] at ht
  rw [mx, ← ht]
  pointwise
  simp only [← rd_ix2]
  rfl

theorem sc1_at (v11 : Vec Ideal S256x256 .bf16) (v14 : Vec Ideal S1x1x256 .bf16) (v16 : Vec Ideal S256x256 .bf16) (y : S8x128.Idx) :
    sc1 (F := Ideal) v11 v14 v16 y = scw (mx (k0_pay4 (F := Ideal) v11 v14 v16) (y 0).val (128 + (y 1).val) * c6) := by
  unfold sc1
  refine (pay445_at _ y).trans ((pay288_at _ _ _ _ _ _ _ _ _ _ _ _ _).trans ?_)
  generalize k0_pay4 (F := Ideal) v11 v14 v16 = V
  simp only [k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281]
  have ht := tree_sup fun k => ab (rd V (8 * k + (y 0).val) (128 + (y 1).val))
  simp only [Nat.reduceMul, Nat.zero_add] at ht
  rw [mx, ← ht]
  pointwise
  simp only [← rd_ix2]
  rfl

end Kernel
end Cert.Proof.XValue
-- ==== Proof.XQuantIdeal.Tok.Bits.lean ====
/- The words of the rotation map as they should be: signs of the Hadamard matrix of order 32 on one block of 32 columns of each row. -/
module

public import proofs.«01_k».proof.XQuantIdeal

@[expose] public section

set_option maxRecDepth 65536

namespace Cert.Proof.XValue

open Cert.XQuantIdeal

/-- Whether an odd number of the five low bits is set. -/
def par5 (x : Nat) : Nat := (x + x / 2 + x / 4 + x / 8 + x / 16) % 2

/-- The bits of entry `c` of row `r`: one, minus one or nothing. -/
def tokBits (r c : Nat) : Nat :=
  if c / 32 = r % 8 then (if par5 (Nat.land (c % 32) (r / 8)) = 0 then 0x3F80 else 0xBF80) else 0

/-- The table has these bits in 16 rows from `16 s` on. -/
noncomputable def rowsOk (s : Nat) : Bool :=
  (List.range 16).all fun r => (List.range 256).all fun c => Nat.beq (lit0t (256 * (16 * s + r) + c)).toNat (tokBits (16 * s + r) c)

end Cert.Proof.XValue
-- ==== Proof.XQuantIdeal.Tok.A.lean ====
/- The table of the rotation map, read entry by entry: rows 0 to 63. -/
module

public import proofs.«01_k».proof.Proof.XQuantIdeal.Tok.Bits

@[expose] public section

set_option maxRecDepth 65536

namespace Cert.Proof.XValue

open Cert.XQuantIdeal

theorem rows0 : rowsOk 0 = true := by decide +kernel
theorem rows1 : rowsOk 1 = true := by decide +kernel
theorem rows2 : rowsOk 2 = true := by decide +kernel
theorem rows3 : rowsOk 3 = true := by decide +kernel

end Cert.Proof.XValue
-- ==== Proof.XQuantIdeal.Tok.B.lean ====
/- The table of the rotation map, read entry by entry: rows 64 to 127. -/
module

public import proofs.«01_k».proof.Proof.XQuantIdeal.Tok.Bits

@[expose] public section

set_option maxRecDepth 65536

namespace Cert.Proof.XValue

open Cert.XQuantIdeal

theorem rows4 : rowsOk 4 = true := by decide +kernel
theorem rows5 : rowsOk 5 = true := by decide +kernel
theorem rows6 : rowsOk 6 = true := by decide +kernel
theorem rows7 : rowsOk 7 = true := by decide +kernel

end Cert.Proof.XValue
-- ==== Proof.XQuantIdeal.Tok.C.lean ====
/- The table of the rotation map, read entry by entry: rows 128 to 191. -/
module

public import proofs.«01_k».proof.Proof.XQuantIdeal.Tok.Bits

@[expose] public section

set_option maxRecDepth 65536

namespace Cert.Proof.XValue

open Cert.XQuantIdeal

theorem rows8 : rowsOk 8 = true := by decide +kernel
theorem rows9 : rowsOk 9 = true := by decide +kernel
theorem rows10 : rowsOk 10 = true := by decide +kernel
theorem rows11 : rowsOk 11 = true := by decide +kernel

end Cert.Proof.XValue
-- ==== Proof.XQuantIdeal.Tok.D.lean ====
/- The table of the rotation map, read entry by entry: rows 192 to 255. -/
module

public import proofs.«01_k».proof.Proof.XQuantIdeal.Tok.Bits

@[expose] public section

set_option maxRecDepth 65536

namespace Cert.Proof.XValue

open Cert.XQuantIdeal

theorem rows12 : rowsOk 12 = true := by decide +kernel
theorem rows13 : rowsOk 13 = true := by decide +kernel
theorem rows14 : rowsOk 14 = true := by decide +kernel
theorem rows15 : rowsOk 15 = true := by decide +kernel

end Cert.Proof.XValue
-- ==== Proof.XQuantIdeal.Value.lean ====
/- The scales of the whole quantiser call: blocks of 32 rotated rows, column by column. -/
module
public import proofs.«01_k».proof.Proof.XQuantIdeal.Scale
public import proofs.«01_k».proof.Proof.XQuantIdeal.Tok.A
public import proofs.«01_k».proof.Proof.XQuantIdeal.Tok.B
public import proofs.«01_k».proof.Proof.XQuantIdeal.Tok.C
public import proofs.«01_k».proof.Proof.XQuantIdeal.Tok.D
@[expose] public section
noncomputable section
namespace Cert.Proof.XValue
open Idealize.ShloMosaic Cert.Rows Finset Cert.Proof.Value

/-- The sign in row `i`, column `j` of the rotation: by the parity of the places where both have a one. -/
def hd (i j : ℕ) : EReal :=
  Scalar.select (IntOp.cmpi .eq (IntOp.andi (IntOp.ctpop (IntOp.andi (BitVec.ofNat 32 i) (BitVec.ofNat 32 j))) 1#32) 0#32) 1 (Ideal.ofBits .f32 3212836864#32)

/-- The parity of the words is the parity of the numbers. -/
theorem par_word : ∀ i < 32, ∀ k < 32, IntOp.cmpi .eq (IntOp.andi (IntOp.ctpop (IntOp.andi (BitVec.ofNat 32 i) (BitVec.ofNat 32 k))) 1#32) 0#32 =
    if par5 (Nat.land i k) = 0 then 1#1 else 0#1 := by decide +kernel

theorem bf_one : Ideal.ofBits .bf16 (BitVec.ofNat 16 0x3F80) = 1 := by
  simp [Ideal.ofBits, Ideal.ieee, -EReal.coe_mul]; norm_num
theorem bf_neg : Ideal.ofBits .bf16 (BitVec.ofNat 16 0xBF80) = Ideal.ofBits .f32 3212836864#32 := by
  simp [Ideal.ofBits, Ideal.ieee, -EReal.coe_mul]; norm_num
theorem bf_zero : Ideal.ofBits .bf16 (BitVec.ofNat 16 0) = 0 := by
  simp [Ideal.ofBits, Ideal.ieee]

/-- A sum over 256 rows that is nothing off one run of 32. -/
theorem sum_run (F : ℕ → EReal) (g : ℕ) (hg : g < 8) (h : ∀ x < 256, x / 32 ≠ g → F x = 0) : ∑ x ∈ range 256, F x = ∑ i ∈ range 32, F (32 * g + i) := by
  rw [← sum_image (s := range 32) (g := fun i => 32 * g + i) (f := F) (fun a _ b _ e => by simpa using e)]
  refine (sum_subset (fun x hx => ?_) fun x hx hn => h x (mem_range.1 hx) fun e => hn ?_).symm
  · obtain ⟨i, hi, rfl⟩ := mem_image.1 hx
    rw [mem_range] at hi ⊢
    omega
  · exact mem_image.2 ⟨x % 32, mem_range.2 (by omega), by show 32 * g + x % 32 = x; omega⟩

section Kernel
open Cert.XQuantIdeal Cert.XQuantIdeal.Gen Cert.Proof.XQuantIdeal
open Idealize.ShloMosaic.TcCoe Idealize.SL.Sem
variable (m : (ℓ : Loc nD τ sig) → Buf (Elt Ideal) ℓ)

/-- The rotation as the host gives it: a table, rows of one phase apart, columns by tiles of 32. -/
def tokMap : FVec Ideal S256x256 .bf16 := fun i => FloatOps.ofBits .bf16 (lit0 (S256x256.rowMajor i))

theorem rows_ok : ∀ s < 16, rowsOk s = true := by
  intro s hs
  interval_cases s
  exacts [rows0, rows1, rows2, rows3, rows4, rows5, rows6, rows7, rows8, rows9, rows10, rows11, rows12, rows13, rows14, rows15]

/-- The table, entry by entry. -/
theorem table_at (r c : ℕ) (hr : r < 256) (hc : c < 256) : lit0t (256 * r + c) = BitVec.ofNat 16 (tokBits r c) := by
  have h := rows_ok (r / 16) (by omega)
  unfold rowsOk at h
  have h := List.all_eq_true.1 (List.all_eq_true.1 h (r % 16) (List.mem_range.2 (by omega))) c (List.mem_range.2 hc)
  rw [show 16 * (r / 16) + r % 16 = r by omega] at h
  rw [← Nat.eq_of_beq_eq_true h, BitVec.ofNat_toNat, BitVec.setWidth_eq]

theorem tok_at (k g a i : ℕ) (hk : k < 32) (hg : g < 8) (ha : a < 8) (hi : i < 32) : rd tokMap (8 * k + g) (32 * a + i) = if a = g then hd i k else 0 := by
  rw [rd_ix _ _ _ (by show _ < 256; omega) (by show _ < 256; omega)]
  have hn : (S256x256.rowMajor (ix (8 * k + g) (32 * a + i) (by show _ < 256; omega) (by show _ < 256; omega))).val = 256 * (8 * k + g) + (32 * a + i) := by
    rw [Shape.rowMajor_val_two]
    show (8 * k + g) * 256 + (32 * a + i) = _
    ring
  show Ideal.ofBits .bf16 (lit0t (S256x256.rowMajor _).val) = _
  rw [hn, table_at _ _ (by omega) (by omega), tokBits, show (32 * a + i) / 32 = a by omega, show (32 * a + i) % 32 = i by omega, show (8 * k + g) / 8 = k by omega,
    show (8 * k + g) % 8 = g by omega]
  by_cases h : a = g
  · rw [if_pos h, if_pos h, hd, par_word i hi k hk]
    by_cases hp : par5 (Nat.land i k) = 0
    · rw [if_pos hp, if_pos hp, bf_one]; rfl
    · rw [if_neg hp, if_neg hp, bf_neg]; rfl
  · rw [if_neg h, if_neg h, bf_zero]

theorem V_tok (c : Dev nD) : V m c main_cst = tokMap := by
  dsimp only [V, hostOps0]
  after_results_simp
  rfl

theorem V_sign (c : Dev nD) (y : S8x1x256.Idx) : V m c main_v3 y = m (c, Proc.tc.devRef main_arg1) (ix2 0 ⟨(y 0).val * 256 + (y 2).val, by
    have h0 : (y 0).val < 8 := (y 0).isLt; have h2 : (y 2).val < 256 := (y 2).isLt; omega⟩) := by
  dsimp only [V, hostOps0]
  after_results_simp
  pointwise

theorem V_x (c : Dev nD) (y : S2048x2560.Idx) : V m c main_v0 y = m (c, Proc.tc.devRef main_arg0) (ix3 0 (y 0) (y 1)) := by
  dsimp only [V, hostOps0]
  after_results_simp
  pointwise

/-- x and the signs by row and column. -/
def xat (c : Dev nD) (r l : ℕ) : EReal := if h : r < 2048 ∧ l < 2560 then m ((c : Thread nD τ).loc main_arg0) (ix3 0 ⟨r, h.1⟩ ⟨l, h.2⟩) else 0
def sat (c : Dev nD) (r : ℕ) : EReal := if h : r < 2048 then m ((c : Thread nD τ).loc main_arg1) (ix2 0 ⟨r, h⟩) else 0

/-- Coefficient `k` of the rotation of block `b` of 32 rows, column `l`. -/
def coef (X : ℕ → ℕ → EReal) (S : ℕ → EReal) (b l k : ℕ) : EReal := ∑ i ∈ range 32, hd i k * (X (32 * b + i) l * S (32 * b + i))

theorem pay4_at (v11 : Vec Ideal S256x256 .bf16) (v14 : Vec Ideal S1x1x256 .bf16) (X : ℕ → ℕ → EReal) (S : ℕ → EReal) (k g l t kk : ℕ) (hk : k < 32) (hg : g < 8) (hl : l < 256)
    (hX : ∀ x < 256, rd v11 x l = X (256 * kk + x) (256 * t + l)) (hS : ∀ x : Fin 256, v14 (ix3 0 0 x) = S (256 * kk + x.val)) :
    rd (k0_pay4 (F := Ideal) v11 v14 tokMap) (8 * k + g) l = coef X S (8 * kk + g) (256 * t + l) k := by
  rw [rd_ix _ _ _ (by show _ < 256; omega) (by show _ < 256; omega)]
  have e : k0_pay4 (F := Ideal) v11 v14 tokMap (ix (8 * k + g) l (by show _ < 256; omega) (by show _ < 256; omega)) =
      ∑ x ∈ range 256, rd tokMap (8 * k + g) x * (S (256 * kk + x) * X (256 * kk + x) (256 * t + l)) := by
    rw [← Fin.sum_univ_eq_sum_range fun x => rd tokMap (8 * k + g) x * (S (256 * kk + x) * X (256 * kk + x) (256 * t + l))]
    pointwise [k0_pay4]
    refine sum_congr rfl fun x _ => ?_
    rw [← hX x.val x.isLt, ← hS x, ← mul_assoc]
    exact congrArg₂ (fun a b => a * v14 (ix3 0 0 x) * b) (rd_of tokMap _ _ _ rfl rfl) (rd_of v11 _ _ _ rfl rfl)
  rw [e, sum_run _ g hg]
  · refine sum_congr rfl fun i hi => ?_
    rw [tok_at k g g i hk hg hg (mem_range.1 hi), if_pos rfl, mul_comm (S _), show 256 * kk + (32 * g + i) = 32 * (8 * kk + g) + i by ring]
  · intro x hx hne
    have := tok_at k g (x / 32) (x % 32) hk hg (by omega) (by omega)
    rw [show 32 * (x / 32) + x % 32 = x by omega, if_neg hne] at this
    rw [this, zero_mul]

/-- The largest magnitude of a rotated block, over six. -/
def top6 (X : ℕ → ℕ → EReal) (S : ℕ → EReal) (b l : ℕ) : EReal := ((range 32).sup fun k => ab (coef X S b l k)) * c6

theorem mx_at (v11 : Vec Ideal S256x256 .bf16) (v14 : Vec Ideal S1x1x256 .bf16) (X : ℕ → ℕ → EReal) (S : ℕ → EReal) (g l t kk : ℕ) (hg : g < 8) (hl : l < 256)
    (hX : ∀ x < 256, rd v11 x l = X (256 * kk + x) (256 * t + l)) (hS : ∀ x : Fin 256, v14 (ix3 0 0 x) = S (256 * kk + x.val)) :
    mx (k0_pay4 (F := Ideal) v11 v14 tokMap) g l * c6 = top6 X S (8 * kk + g) (256 * t + l) :=
  congrArg (· * c6) (sup_congr rfl fun k hk => congrArg ab (pay4_at v11 v14 X S k g l t kk (mem_range.1 hk) hg hl hX hS))

theorem scX_at (X1 : S2048x256.Idx → EReal) (X2 : S8x1x256.Idx → EReal) (X : ℕ → ℕ → EReal) (S : ℕ → EReal) (t : ℕ)
    (hX : ∀ r < 2048, ∀ l < 256, rd X1 r l = X r (256 * t + l)) (hS : ∀ (k : Fin 8) (x : Fin 256), X2 (ix3 k 0 x) = S (256 * k.val + x.val)) (y : S64x256.Idx) :
    scX (F := Ideal) X1 X2 tokMap y = scw (top6 X S (y 0).val (256 * t + (y 1).val)) := by
  have h0 : (y 0).val < 64 := (y 0).isLt
  have h1 : (y 1).val < 256 := (y 1).isLt
  have key : ∀ l < 256, mx (k0_pay4 (F := Ideal) (rowsOf 256 X1 ((y 0).val / 8) (by omega)) (tokOf (F := Ideal) X2 ((y 0).val / 8) (by omega)) tokMap) ((y 0).val % 8) l * c6 =
      top6 X S (y 0).val (256 * t + l) := by
    intro l hl
    rw [mx_at _ _ X S _ l t ((y 0).val / 8) (Nat.mod_lt _ (by norm_num)) hl, Nat.div_add_mod]
    · intro x hx
      rw [rd_ix _ _ _ hx hl, ← hX _ (by omega) l hl, rd_ix _ _ _ (by omega) hl]
      rfl
    · intro x
      rw [← hS ⟨(y 0).val / 8, by omega⟩ x]
      refine congrArg X2 (funext fun a => ?_)
      fin_cases a <;> rfl
  unfold scX
  split
  · rw [sc0_at]
    exact congrArg scw (key _ h1)
  · rw [sc1_at]
    have e : 128 + ((y 1).val - 128) = (y 1).val := by omega
    refine congrArg scw (Eq.trans ?_ (key _ h1))
    exact congrArg (fun l => mx _ _ l * c6) e

theorem idx_all : ∀ t : Fin cfg0.N, (win0_0.index t 0 = 0 ∧ win0_0.index t 1 = t.val) ∧ (win0_1.index t 0 = 0 ∧ win0_1.index t 1 = 0 ∧ win0_1.index t 2 = 0) ∧
    (win0_4.index t 0 = 0 ∧ win0_4.index t 1 = 0) ∧ (win0_8.index t 0 = 0 ∧ win0_8.index t 1 = t.val) := by decide +kernel

/-- The scales, block by block of 32 rows and column by column. -/
def scF (X : ℕ → ℕ → EReal) (S : ℕ → EReal) (y : S64x2560.Idx) : BitVec 8 := (scw (top6 X S (y 0).val (y 1).val)).setWidth 8

variable (c : Dev nD)

theorem blk0 (t : Fin cfg0.N) (r l : ℕ) (hr : r < 2048) (hl : l < 256) : rd (iblk m c 0 t : S2048x256.Idx → EReal) r l = xat m c r (256 * t.val + l) := by
  obtain ⟨i0, i1⟩ := (idx_all t).1
  have ht : t.val < 10 := t.isLt
  rw [rd_ix _ _ _ hr hl]
  refine (V_x m c _).trans ?_
  unfold xat
  rw [dif_pos ⟨hr, by omega⟩]
  refine congrArg₂ (fun a b => m ((c : Thread nD τ).loc main_arg0) (ix3 0 a b)) (Fin.ext ?_) (Fin.ext ?_)
  · blk_simp [i0]; rfl
  · blk_simp [i1]; show t.val * 256 + l = 256 * t.val + l; omega

theorem blk1 (t : Fin cfg0.N) (k : Fin 8) (x : Fin 256) : (iblk m c 1 t : S8x1x256.Idx → EReal) (ix3 k 0 x) = sat m c (256 * k.val + x.val) := by
  obtain ⟨i0, i1, i2⟩ := (idx_all t).2.1
  refine (V_sign m c _).trans ?_
  unfold sat
  rw [dif_pos (by omega)]
  refine congrArg (m ((c : Thread nD τ).loc main_arg1)) (congrArg (ix2 0) (Fin.ext ?_))
  blk_simp [i0, i2]
  show k.val * 256 + x.val = 256 * k.val + x.val
  omega

theorem blk4 (t : Fin cfg0.N) : (iblk m c 4 t : S256x256.Idx → EReal) = tokMap := by
  obtain ⟨i0, i1⟩ := (idx_all t).2.2.1
  rw [← V_tok m c]
  funext y
  refine congrArg (V m c main_cst) (funext fun a => Fin.ext ?_)
  fin_cases a
  · blk_simp [i0]
  · blk_simp [i1]

/-- The kernel's scales. -/
theorem scG_val : scG m c = scF (xat m c) (sat m c) := by
  unfold scG
  refine (dats m 0 c).arrAt_eq_of_covers 8 (scF (xat m c) (sat m c)) (by decide +kernel) fun t hf y => ?_
  obtain ⟨i0, i1⟩ := (idx_all t).2.2.2
  blk_simp
  have e0 : ((win0_8.blk t).view.emb y 0).val = (y 0).val := by blk_simp [i0]
  have e1 : ((win0_8.blk t).view.emb y 1).val = 256 * t.val + (y 1).val := by blk_simp [i1]; omega
  unfold scF
  rw [e0, e1]
  show (scX (iblk m c 0 t) (iblk m c 1 t) (iblk m c 4 t) y).setWidth 8 = _
  rw [blk4]
  exact congrArg (BitVec.setWidth 8) (scX_at _ _ _ _ t.val (fun r hr l hl => blk0 m c t r l hr hl) (blk1 m c t) y)

end Kernel
end Cert.Proof.XValue
-- ==== Proof.XQuantIdeal.Reference.lean ====
/- The reference of the whole quantiser call: its scales, and that they are the kernel's. -/
module
public import proofs.«01_k».proof.Proof.XQuantIdeal.Value
public import proofs.«01_k».proof.Proof.Gen.XReferenceIdeal
public import proofs.«01_k».proof.Defs
public import Idealize.ShloMosaic.Lib.Claim
public import Idealize.ShloMosaic.Lib.Quiescent
public import Idealize.ShloMosaic.Adequacy
public import Idealize.ShloMosaic.Init
@[expose] public section
noncomputable section
namespace Cert.Proof.XValue
open Idealize.ShloMosaic Cert.Rows Finset Cert.Proof.Value

section Reference
open Cert.XReferenceIdeal Cert.XReferenceIdeal.Gen

/-- The rotation of the reference. -/
def hadR : FVec Ideal S32x32 .f32 :=
  select (cmpi .eq (andi (ctpop (andi
      (broadcastInDim S32x32 ![0, 1] bcast_S32x1_S32x32_0_1 (broadcastInDim S32x1 ![0] bcast_S32_S32x1_0 (iotaInDim S32 32 0)))
      (broadcastInDim S32x32 ![0, 1] bcast_S1x32_S32x32_0_1 (broadcastInDim S1x32 ![1] bcast_S32_S1x32_1 (iotaInDim S32 32 0)))))
      (broadcastInDim S32x32 ![] bcast_S_S32x32 (constantI S_ 32 1#32))) (broadcastInDim S32x32 ![] bcast_S_S32x32 (constantI S_ 32 0#32)))
    (broadcastInDim S32x32 ![] bcast_S_S32x32 (constant (F := Ideal) S_ .f32 1065353216#32))
    (broadcastInDim S32x32 ![] bcast_S_S32x32 (constant (F := Ideal) S_ .f32 3212836864#32))

/-- The signed x in blocks of 32 rows. -/
def sgnR (X : FVec Ideal S1x2048x2560 .bf16) (S : FVec Ideal S1x2048 .f32) : FVec Ideal S64x32x2560 .f32 :=
  shapeCast S64x32x2560 (mulf (F := Ideal) (φ := .f32) (extf .f32 X bitsLt_bf16_f32)
    (broadcastInDim S1x2048x2560 ![0, 1, 2] bcast_S1x2048x1_S1x2048x2560_0_1_2 (broadcastInDim S1x2048x1 ![0, 1] bcast_S1x2048_S1x2048x1_0_1 S))) shapeCasts_S1x2048x2560_S64x32x2560

/-- The largest magnitude of each rotated block. -/
def amaxR (X : FVec Ideal S1x2048x2560 .bf16) (S : FVec Ideal S1x2048 .f32) : FVec Ideal S64x2560 .f32 :=
  Host.reduce FloatOps.maximumf (Host.absf (transpose S64x32x2560 [1, 0, 2]
    (Host.dotGeneral (F := Ideal) (φ₁ := .f32) (φ₂ := .f32) dot_S32x32_S64x32x2560_S32x64x2560_0_1_1_02_n_n (some .fp32) hadR (sgnR X S))
    transposes_S32x64x2560_S64x32x2560_1_0_2)) (constant (F := Ideal) S_ .f32 4286578688#32) reducesTo_S64x32x2560_S64x2560_d1 h_S_

/-- The powers of two reached, counted. -/
def cntR (p : FVec Ideal S64x2560 .f32) : IVec S64x2560 32 :=
  Host.reduce IntOp.addi (extui 32 (cmpf .ole
    (broadcastInDim S64x2560x255 ![0, 1, 2] bcast_S1x1x255_S64x2560x255_0_1_2 (broadcastInDim S1x1x255 ![2] bcast_S255_S1x1x255_2 (fun i => FloatOps.ofBits (F := Ideal) .f32 (lit0 (S255.rowMajor i)))))
    (broadcastInDim S64x2560x255 ![0, 1, 2] bcast_S64x2560x1_S64x2560x255_0_1_2 (broadcastInDim S64x2560x1 ![0, 1] bcast_S64x2560_S64x2560x1_0_1 p))) natLt_1_32)
    (constantI S_ 32 0#32) reducesTo_S64x2560x255_S64x2560_d2 h_S_

/-- The scales from the largest magnitudes. -/
def sclR (a : FVec Ideal S64x2560 .f32) : IVec S64x2560 8 :=
  trunci 8 (addi (select (cmpf .oeq a (broadcastInDim S64x2560 ![] bcast_S_S64x2560 (constant (F := Ideal) S_ .f32 0#32)))
      (broadcastInDim S64x2560 ![] bcast_S_S64x2560 (constantI S_ 32 0#32))
      (subi (cntR (mulf (F := Ideal) (φ := .f32) a (broadcastInDim S64x2560 ![] bcast_S_S64x2560 (constant (F := Ideal) S_ .f32 1042983595#32))))
        (broadcastInDim S64x2560 ![] bcast_S_S64x2560 (constantI S_ 32 126#32))))
    (broadcastInDim S64x2560 ![] bcast_S_S64x2560 (constantI S_ 32 127#32))) natLt_8_32

/-- A fold by the larger from the least value is the supremum. -/
theorem fold_max_bot {ι : Type} (s : Finset ι) (f : ι → EReal) (b : EReal) (hb : b = ⊥) : s.fold max b f = s.sup f := by
  subst hb; rfl

theorem fold_count {ι : Type} (s : Finset ι) (P : ι → Prop) [DecidablePred P] (f : ι → BitVec 32) (hf : ∀ i, f i = if P i then 1#32 else 0#32) :
    s.fold IntOp.addi 0#32 f = BitVec.ofNat 32 (s.filter P).card := by
  classical
  induction s using Finset.induction with
  | empty => rfl
  | insert a s ha ih =>
    rw [fold_insert ha, ih, hf, filter_insert]
    split
    · rw [card_insert_of_notMem (fun h => ha (mem_filter.1 h).1), Nat.add_comm, BitVec.ofNat_add]; rfl
    · exact BitVec.zero_add _

theorem lit_thr : ∀ k : Fin 255, lit0 k = BitVec.ofNat 32 (k.val + 1) <<< 23 := by decide +kernel

theorem hadR_at (i k : Fin 32) : hadR (ix2 i k) = hd i.val k.val := by
  pointwise [hadR]
  rfl

/-- The supremum over 32 numbers, as one over a range. -/
theorem sup_fin (n : ℕ) (f : ℕ → EReal) : (univ : Finset (Fin n)).sup (fun k => f k.val) = (range n).sup f :=
  le_antisymm (Finset.sup_le fun k _ => Finset.le_sup (f := f) (mem_range.2 k.isLt))
    (Finset.sup_le fun k hk => Finset.le_sup (f := fun k : Fin n => f k.val) (mem_univ (⟨k, mem_range.1 hk⟩ : Fin n)))

variable (X : FVec Ideal S1x2048x2560 .bf16) (S : FVec Ideal S1x2048 .f32) (Xf : ℕ → ℕ → EReal) (Sf : ℕ → EReal)
  (hX : ∀ (r : Fin 2048) (l : Fin 2560), X (ix3 0 r l) = Xf r.val l.val) (hS : ∀ r : Fin 2048, S (ix2 0 r) = Sf r.val)
include hX hS

theorem rot_at (b : Fin 64) (k : Fin 32) (l : Fin 2560) : transpose S64x32x2560 [1, 0, 2]
    (Host.dotGeneral (F := Ideal) (φ₁ := .f32) (φ₂ := .f32) dot_S32x32_S64x32x2560_S32x64x2560_0_1_1_02_n_n (some .fp32) hadR (sgnR X S))
    transposes_S32x64x2560_S64x32x2560_1_0_2 (ix3 b k l) = coef Xf Sf b.val l.val k.val := by
  unfold coef
  rw [← Fin.sum_univ_eq_sum_range fun i => hd i k.val * (Xf (32 * b.val + i) l.val * Sf (32 * b.val + i))]
  pointwise [sgnR]
  refine sum_congr rfl fun x _ => ?_
  rw [hadR_at, hX, hS]
  show hd x.val k.val * (Xf (b.val * 32 + x.val) l.val * Sf (b.val * 32 + x.val)) = _
  rw [Nat.mul_comm b.val 32]

theorem amaxR_at (y : S64x2560.Idx) : amaxR X S y = (range 32).sup fun k => ab (coef Xf Sf (y 0).val (y 1).val k) := by
  unfold amaxR
  refine (Host.reduce_eq_fold_single (α := EReal) max _ _ _ (by decide) _ y).trans ?_
  refine (fold_max_bot _ _ _ (by show Ideal.ofBits .f32 4286578688#32 = ⊥; simp [Ideal.ofBits, Ideal.ieee])).trans ?_
  refine Eq.trans (Finset.sup_congr rfl fun (k : Fin 32) _ => ?_) (sup_fin 32 fun k => ab (coef Xf Sf (y 0).val (y 1).val k))
  have e := rot_at X S Xf Sf hX hS (y 0) k (y 1)
  rw [← e]
  refine congrArg (fun i => ab (transpose S64x32x2560 [1, 0, 2] _ _ i)) (funext fun a => Fin.ext ?_)
  fin_cases a <;> rfl

omit hX hS

open Classical in
theorem cntR_at (p : FVec Ideal S64x2560 .f32) (y : S64x2560.Idx) : cntR p y = BitVec.ofNat 32 (cnt (p y)) := by
  have key : ∀ k : Fin 255, extui 32 (cmpf .ole
      (broadcastInDim S64x2560x255 ![0, 1, 2] bcast_S1x1x255_S64x2560x255_0_1_2 (broadcastInDim S1x1x255 ![2] bcast_S255_S1x1x255_2 (fun i => FloatOps.ofBits (F := Ideal) .f32 (lit0 (S255.rowMajor i)))))
      (broadcastInDim S64x2560x255 ![0, 1, 2] bcast_S64x2560x1_S64x2560x255_0_1_2 (broadcastInDim S64x2560x1 ![0, 1] bcast_S64x2560_S64x2560x1_0_1 p))) natLt_1_32 (ix3 (y 0) (y 1) k)
      = if thr (k.val + 1) ≤ p y then 1#32 else 0#32 := by
    intro k
    have hr : S255.rowMajor (ix1 k) = k := Fin.ext (Shape.rowMajor_val_one _)
    pointwise
    rw [hr, lit_thr]
    show BitVec.setWidth 32 (BitVec.ofBool (decide (thr (k.val + 1) ≤ p y))) = _
    by_cases h : thr (k.val + 1) ≤ p y
    · rw [if_pos h, decide_eq_true h]; rfl
    · rw [if_neg h, decide_eq_false h]; rfl
  unfold cntR
  refine (Host.reduce_eq_fold_single _ _ _ _ (by decide) _ y).trans ?_
  refine (fold_count (univ : Finset (Fin 255)) (fun k : Fin 255 => thr (k.val + 1) ≤ p y) _ fun k => ?_).trans ?_
  · refine (congrArg _ (funext fun a => Fin.ext ?_)).trans (key k)
    fin_cases a <;> rfl
  · unfold cnt
    rw [card_filter, card_filter]
    exact congrArg _ (Fin.sum_univ_eq_sum_range (fun k => if thr (k + 1) ≤ p y then 1 else 0) 255)

theorem word_add (w : BitVec 32) : IntOp.addi (IntOp.subi w 126#32) 127#32 = IntOp.addi w 1#32 := by
  show w - 126#32 + 127#32 = w + 1#32
  bv_omega

theorem c6_ne : c6 ≠ 0 := by
  unfold c6
  simp [Ideal.ofBits, Ideal.ieee]

/-- 1/6 in every place. -/
def sixth : FVec Ideal S64x2560 .f32 := broadcastInDim S64x2560 ![] bcast_S_S64x2560 (constant (F := Ideal) S_ .f32 1042983595#32)

theorem sixth_at (a : FVec Ideal S64x2560 .f32) (y : S64x2560.Idx) : mulf a sixth y = a y * c6 := by
  pointwise [sixth]
  rfl

theorem sclR_pt (a : FVec Ideal S64x2560 .f32) (y : S64x2560.Idx) :
    sclR a y = BitVec.setWidth 8 (IntOp.addi (if a y = 0 then 0#32 else IntOp.subi (cntR (mulf a sixth) y) 126#32) 127#32) := by
  unfold sclR
  change trunci 8 (addi (select (cmpf .oeq a _) _ (subi (cntR (mulf a sixth)) _)) _) _ y = _
  generalize cntR (mulf a sixth) = w
  pointwise

include hX hS in
theorem sclR_at (y : S64x2560.Idx) : sclR (amaxR X S) y = scF Xf Sf y := by
  have ha := amaxR_at X S Xf Sf hX hS y
  generalize amaxR X S = a at ha
  unfold scF top6
  rw [← ha]
  rw [sclR_pt, cntR_at, sixth_at, ← fieldw_eq]
  unfold scw
  refine congrArg (BitVec.setWidth 8) ?_
  by_cases h : a y = 0
  · rw [if_pos h, if_pos (by rw [h, zero_mul])]; rfl
  · rw [if_neg h, if_neg (mul_ne_zero h c6_ne)]
    exact word_add _
end Reference

section Claim
open Idealize.ShloMosaic.TcCoe Idealize.SL.Sem

set_option maxRecDepth 65536 in
theorem algX : Cert.algebraic_XQuantIdeal_XReferenceIdeal (hXQuantIdeal := Cert.XQuantIdeal.Gen.facts) (hXReferenceIdeal := Cert.XReferenceIdeal.Gen.facts) := by
  intro m g m' g' _ hagree
  refine ⟨fun c => XQuantIdeal.scG m c, (θ_run _ _ _).mono (fun _ h c => h.1 c) (XQuantIdeal.run_post m g), ?_⟩
  hlo_run
  simp -implicitDefEqProofs only [StableHlo.TRef.toBuf, StableHlo.TRef.ofBuf, cast_cast, cast_eq]
  refine Eq.trans (b := sclR (amaxR (m (c.tc.loc Cert.XQuantIdeal.main_arg0)) (m (c.tc.loc Cert.XQuantIdeal.main_arg1)))) ?_ ?_
  · unfold sclR cntR amaxR sgnR hadR
    rfl
  · funext y
    refine (sclR_at _ _ (xat m c) (sat m c) (fun r l => ?_) (fun r => ?_) y).trans (congrFun (scG_val m c) y).symm
    · unfold xat
      rw [dif_pos ⟨r.isLt, l.isLt⟩]
    · unfold sat
      rw [dif_pos r.isLt]
end Claim

end Cert.Proof.XValue
-- ==== Proof.lean ====
/- The claims: the two runs of the kernel, the run of the reference, and the equality of their results. -/
module

public import proofs.«01_k».proof.Proof.Gen.XQuant
public import proofs.«01_k».proof.Proof.Gen.XQuantIdeal
public import proofs.«01_k».proof.Proof.Gen.XReferenceIdeal
public import proofs.«01_k».proof.Proof.Gen.XQuant.Skeleton
public import proofs.«01_k».proof.Proof.Gen.XQuant.Frame
public import proofs.«01_k».proof.Proof.Gen.XQuantIdeal.Frame
public import proofs.«01_k».proof.Proof.Gen.XQuant.Loops
public import proofs.«01_k».proof.Proof.Gen.XQuantIdeal.Loops
public import proofs.«01_k».proof.Proof.Gen.XQuantIdeal.Skeleton
public import proofs.«01_k».proof.Defs
public import proofs.«01_k».proof.Proof.Kernel.Run
public import proofs.«01_k».proof.Proof.KernelIdeal.Run
public import proofs.«01_k».proof.Proof.Reference
public import proofs.«01_k».proof.Proof.Gen.ReferenceIdeal
public import proofs.«01_k».proof.Proof.XQuant.Run
public import proofs.«01_k».proof.Proof.XQuantIdeal.Run
public import proofs.«01_k».proof.Proof.XQuantIdeal.Reference
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

theorem quiescent_Kernel : Cert.quiescent_Kernel (hKernel := Cert.Kernel.Gen.facts) := fun m g _ =>
  (θ_run _ _ _).mono (fun _ h => ⟨fun c => (h.1 c).2.2, h.2⟩) (Kernel.run_post m g)

theorem quiescent_KernelIdeal : Cert.quiescent_KernelIdeal (hKernelIdeal := Cert.KernelIdeal.Gen.facts) := fun m g _ =>
  (θ_run _ _ _).mono (fun _ h => ⟨fun c => (h.1 c).2.2, h.2⟩) (KernelIdeal.run_post m g)

theorem quiescent_ReferenceIdeal : Cert.quiescent_ReferenceIdeal (hReferenceIdeal := Cert.ReferenceIdeal.Gen.facts) := fun m g _ => by
  refine (θ_run _ _ _).mono (fun r h => ⟨h, sem_eq_zero_of_no_sems (by decide) r.2⟩) ?_
  hlo_run

theorem algebraic : Cert.algebraic_KernelIdeal_ReferenceIdeal (hKernelIdeal := Cert.KernelIdeal.Gen.facts) (hReferenceIdeal := Cert.ReferenceIdeal.Gen.facts) := by
  intro m g m' g' _ hagree
  refine ⟨fun c => KernelIdeal.dxG m c, fun c => KernelIdeal.dwG m c, (θ_run _ _ _).mono (fun _ h c => h.1 c) (KernelIdeal.run_post m g), ?_⟩
  hlo_run
  · exact funext fun y => (Value.ref_dx _ _ _ _ y).trans (Value.dxG_val m c y).symm
  · exact funext fun y => (Value.ref_dw _ _ _ y).trans (congrFun (Value.dwG_val m c) y).symm

theorem quiescent_XQuant : Cert.quiescent_XQuant (hXQuant := Cert.XQuant.Gen.facts) := fun m g _ =>
  (θ_run _ _ _).mono (fun _ h => ⟨fun c => (h.1 c).2, h.2⟩) (XQuant.run_post m g)

theorem quiescent_XQuantIdeal : Cert.quiescent_XQuantIdeal (hXQuantIdeal := Cert.XQuantIdeal.Gen.facts) := fun m g _ =>
  (θ_run _ _ _).mono (fun _ h => ⟨fun c => (h.1 c).2, h.2⟩) (XQuantIdeal.run_post m g)

theorem quiescent_XReferenceIdeal : Cert.quiescent_XReferenceIdeal (hXReferenceIdeal := Cert.XReferenceIdeal.Gen.facts) := fun m g _ => by
  refine (θ_run _ _ _).mono (fun r h => ⟨h, sem_eq_zero_of_no_sems (by decide) r.2⟩) ?_
  hlo_run

theorem claim : Cert.Claim := ⟨Cert.Kernel.Gen.facts, Cert.KernelIdeal.Gen.facts, Cert.ReferenceIdeal.Gen.facts,
  Cert.XQuant.Gen.facts, Cert.XQuantIdeal.Gen.facts, Cert.XReferenceIdeal.Gen.facts,
  quiescent_Kernel, quiescent_KernelIdeal, quiescent_ReferenceIdeal, quiescent_XQuant, quiescent_XQuantIdeal, quiescent_XReferenceIdeal,
  trivial, algebraic, trivial, XValue.algX⟩

end Cert.Proof

end
